-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_tokens [hPre_finite_tokens : Cert.Pre_finite_tokens.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_tokens.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_tokens [hPre_finite_tokens : Cert.Pre_finite_tokens.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_tokens.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_queries [hPre_finite_queries : Cert.Pre_finite_queries.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_queries.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_queries [hPre_finite_queries : Cert.Pre_finite_queries.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_queries.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_angles [hPre_finite_angles : Cert.Pre_finite_angles.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_angles.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_angles [hPre_finite_angles : Cert.Pre_finite_angles.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_angles.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_tokens [hKernel4Ideal : Cert.Kernel4Ideal.Facts] [hPre_finite_tokens : Cert.Pre_finite_tokens.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_tokens m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_tokens [hReference4Ideal : Cert.Reference4Ideal.Facts] [hPre_finite_tokens : Cert.Pre_finite_tokens.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_tokens m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_queries [hKernel7Ideal : Cert.Kernel7Ideal.Facts] [hPre_finite_queries : Cert.Pre_finite_queries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_queries m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_queries [hReference7Ideal : Cert.Reference7Ideal.Facts] [hPre_finite_queries : Cert.Pre_finite_queries.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_queries m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_finite_angles [hKernel14Ideal : Cert.Kernel14Ideal.Facts] [hPre_finite_angles : Cert.Pre_finite_angles.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_angles m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_finite_angles [hReference14Ideal : Cert.Reference14Ideal.Facts] [hPre_finite_angles : Cert.Pre_finite_angles.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_angles m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  IdealRules.named_const.Statement Cert.KernelIdeal.κ "q_scale" .f32 0x3E38AA3B#32 (((Real.sqrt 64)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_tokens [hKernel4Ideal : Cert.Kernel4Ideal.Facts] [hReference4Ideal : Cert.Reference4Ideal.Facts] [hPre_finite_tokens : Cert.Pre_finite_tokens.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_tokens m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v34_0)) (v1 : (c : Dev Cert.Kernel4Ideal.nD) → Buf (Elt Ideal) ((c.tc : Thread Cert.Kernel4Ideal.nD Cert.Kernel4Ideal.τ).loc Cert.Kernel4Ideal.main_v34_1)) (v2 : (c : Dev Cert.Kernel4Ideal.nD) → Buf (Elt Ideal) ((c.tc : Thread Cert.Kernel4Ideal.nD Cert.Kernel4Ideal.τ).loc Cert.Kernel4Ideal.main_v34_2)) (v3 : (c : Dev Cert.Kernel4Ideal.nD) → Buf (Elt Ideal) ((c.tc : Thread Cert.Kernel4Ideal.nD Cert.Kernel4Ideal.τ).loc Cert.Kernel4Ideal.main_v34_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_0) = v0 c
          ∧ r.2.mem ((c.tc : Thread Cert.Kernel4Ideal.nD Cert.Kernel4Ideal.τ).loc Cert.Kernel4Ideal.main_v34_1) = v1 c
          ∧ r.2.mem ((c.tc : Thread Cert.Kernel4Ideal.nD Cert.Kernel4Ideal.τ).loc Cert.Kernel4Ideal.main_v34_2) = v2 c
          ∧ r.2.mem ((c.tc : Thread Cert.Kernel4Ideal.nD Cert.Kernel4Ideal.τ).loc Cert.Kernel4Ideal.main_v34_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v180) = v0 c
          ∧ r.2.mem ((c.tc : Thread Cert.Reference4Ideal.nD Cert.Reference4Ideal.τ).loc Cert.Reference4Ideal.main_v183) = v1 c
          ∧ r.2.mem ((c.tc : Thread Cert.Reference4Ideal.nD Cert.Reference4Ideal.τ).loc Cert.Reference4Ideal.main_v186) = v2 c
          ∧ r.2.mem ((c.tc : Thread Cert.Reference4Ideal.nD Cert.Reference4Ideal.τ).loc Cert.Reference4Ideal.main_v189) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "q_scale" .f32 0x3E38AA3B#32 (((Real.sqrt 64)⁻¹ * (Real.log 2)⁻¹ : ℝ) : EReal)

def algebraic_Kernel7Ideal_Reference7Ideal_pre_finite_queries [hKernel7Ideal : Cert.Kernel7Ideal.Facts] [hReference7Ideal : Cert.Reference7Ideal.Facts] [hPre_finite_queries : Cert.Pre_finite_queries.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_queries m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v59) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v32)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v32) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v30)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v30) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v497) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite_angles [hKernel14Ideal : Cert.Kernel14Ideal.Facts] [hReference14Ideal : Cert.Reference14Ideal.Facts] [hPre_finite_angles : Cert.Pre_finite_angles.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_angles m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_v9) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_scores : Cert.Pre_finite_scores.Facts) (hPre_finite_tokens : Cert.Pre_finite_tokens.Facts) (hPre_finite_queries : Cert.Pre_finite_queries.Facts) (hPre_finite_angles : Cert.Pre_finite_angles.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_tokens (hKernel4Ideal := hKernel4Ideal) (hPre_finite_tokens := hPre_finite_tokens)
    ∧ quiescent_Reference4Ideal (hReference4Ideal := hReference4Ideal)
    ∧ quiescent_Reference4Ideal_pre_finite_tokens (hReference4Ideal := hReference4Ideal) (hPre_finite_tokens := hPre_finite_tokens)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_queries (hKernel7Ideal := hKernel7Ideal) (hPre_finite_queries := hPre_finite_queries)
    ∧ quiescent_Reference7Ideal (hReference7Ideal := hReference7Ideal)
    ∧ quiescent_Reference7Ideal_pre_finite_queries (hReference7Ideal := hReference7Ideal) (hPre_finite_queries := hPre_finite_queries)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_angles (hKernel14Ideal := hKernel14Ideal) (hPre_finite_angles := hPre_finite_angles)
    ∧ quiescent_Reference14Ideal (hReference14Ideal := hReference14Ideal)
    ∧ quiescent_Reference14Ideal_pre_finite_angles (hReference14Ideal := hReference14Ideal) (hPre_finite_angles := hPre_finite_angles)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_tokens (hKernel4Ideal := hKernel4Ideal) (hReference4Ideal := hReference4Ideal) (hPre_finite_tokens := hPre_finite_tokens)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_queries (hKernel7Ideal := hKernel7Ideal) (hReference7Ideal := hReference7Ideal) (hPre_finite_queries := hPre_finite_queries)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_angles (hKernel14Ideal := hKernel14Ideal) (hReference14Ideal := hReference14Ideal) (hPre_finite_angles := hPre_finite_angles)
-- ==== Pre_finite_angles.lean ====
abbrev S64x4096 : Shape := ⟨2, ![64, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel

variable [Facts]

def fn {F : FTy → Type} [FloatOps F] (main_arg0 : FVec F S64x4096 .f32) (main_arg1 : FVec F S64x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Pre_finite_queries.lean ====
abbrev S16384x512 : Shape := ⟨2, ![16384, 512]⟩
abbrev S16384x128 : Shape := ⟨2, ![16384, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x512 .f32) (main_arg1 : FVec F S16384x128 .f32) (main_arg2 : FVec F S16384x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Pre_finite_scores.lean ====
abbrev S16384x512 : Shape := ⟨2, ![16384, 512]⟩
abbrev S16384x128 : Shape := ⟨2, ![16384, 128]⟩
abbrev S2x2x512x2x64 : Shape := ⟨5, ![2, 2, 512, 2, 64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S2x2x512x2x64 : S_.BroadcastsInDim S2x2x512x2x64 (![] : Fin 0 → Fin S2x2x512x2x64.rank)
  reducesTo_S2x2x512x2x64_S_d0_1_2_3_4 : S2x2x512x2x64.ReducesTo [0, 1, 2, 3, 4] S_

variable [Facts]

def fn {F : FTy → Type} [FloatOps F] (main_arg0 : FVec F S16384x512 .f32) (main_arg1 : FVec F S16384x128 .f32) (main_arg2 : FVec F S16384x128 .f32) (main_arg3 : FVec F S2x2x512x2x64 .f32) (main_arg4 : FVec F S2x2x512x2x64 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S2x2x512x2x64 .f32 := Host.absf main_arg3
  let main_cst_2 : FVec F S_ .f32 := constant S_ .f32 0x7F800000#32
  let main_v10 : FVec F S2x2x512x2x64 .f32 := broadcastInDim S2x2x512x2x64 ![] bcast_S_S2x2x512x2x64 main_cst_2
  let main_v11 : IVec S2x2x512x2x64 1 := cmpf .olt main_v9 main_v10
  let main_c_3 : IVec S_ 1 := constantI S_ 1 1#1
  let main_v12 : IVec S_ 1 := (fun x v => Host.reduce IntOp.andi x v reducesTo_S2x2x512x2x64_S_d0_1_2_3_4 h_S_) main_v11 main_c_3
  let main_v13 : IVec S_ 1 := andi main_v8 main_v12
  main_v13
-- ==== Pre_finite_tokens.lean ====
abbrev S16384x1024 : Shape := ⟨2, ![16384, 1024]⟩
abbrev S3x6x1024 : Shape := ⟨3, ![3, 6, 1024]⟩
abbrev S1024 : Shape := ⟨1, ![1024]⟩
abbrev S1024x1792 : Shape := ⟨2, ![1024, 1792]⟩
abbrev S64 : Shape := ⟨1, ![64]⟩
abbrev S4096x32 : Shape := ⟨2, ![4096, 32]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3x6x1024 : S_.BroadcastsInDim S3x6x1024 (![] : Fin 0 → Fin S3x6x1024.rank)
  reducesTo_S3x6x1024_S_d0_1_2 : S3x6x1024.ReducesTo [0, 1, 2] S_
  bcast_S_S1024 : S_.BroadcastsInDim S1024 (![] : Fin 0 → Fin S1024.rank)
  reducesTo_S1024_S_d0 : S1024.ReducesTo [0] S_
  bcast_S_S1024x1792 : S_.BroadcastsInDim S1024x1792 (![] : Fin 0 → Fin S1024x1792.rank)
  reducesTo_S1024x1792_S_d0_1 : S1024x1792.ReducesTo [0, 1] S_

variable [Facts]

def fn_part1 {F : FTy → Type} [FloatOps F] (main_v13 : IVec S_ 1) (main_v16 : IVec S1024x1792 1) : IVec S_ 1 :=
  let main_c_5 : IVec S_ 1 := constantI S_ 1 1#1
  let main_v17 : IVec S_ 1 := (fun x v => Host.reduce IntOp.andi x v reducesTo_S1024x1792_S_d0_1 h_S_) main_v16 main_c_5
  let main_v18 : IVec S_ 1 := andi main_v13 main_v17
  main_v18

def fn {F : FTy → Type} [FloatOps F] (main_arg0 : FVec F S16384x1024 .f32) (main_arg1 : FVec F S3x6x1024 .f32) (main_arg2 : FVec F S1024 .f32) (main_arg3 : FVec F S1024x1792 .f32) (main_arg4 : FVec F S64 .f32) (main_arg5 : FVec F S64 .f32) (main_arg6 : FVec F S4096x32 .f32) (main_arg7 : FVec F S4096x32 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S3x6x1024 .f32 := Host.absf main_arg1
  let main_cst_0 : FVec F S_ .f32 := constant S_ .f32 0x7F800000#32
  let main_v5 : FVec F S3x6x1024 .f32 := broadcastInDim S3x6x1024 ![] bcast_S_S3x6x1024 main_cst_0
  let main_v6 : IVec S3x6x1024 1 := cmpf .olt main_v4 main_v5
  let main_c_1 : IVec S_ 1 := constantI S_ 1 1#1
  let main_v7 : IVec S_ 1 := (fun x v => Host.reduce IntOp.andi x v reducesTo_S3x6x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1792 .f32 := Host.absf main_arg3
  let main_cst_4 : FVec F S_ .f32 := constant S_ .f32 0x7F800000#32
  let main_v15 : FVec F S1024x1792 .f32 := broadcastInDim S1024x1792 ![] bcast_S_S1024x1792 main_cst_4
  let main_v16 : IVec S1024x1792 1 := cmpf .olt main_v14 main_v15
  fn_part1 (F := F) main_v13 main_v16
-- ==== Kernel.lean ====
abbrev S16384x512 : Shape := ⟨2, ![16384, 512]⟩
abbrev S16384x128 : Shape := ⟨2, ![16384, 128]⟩
abbrev S2x2x512x2x64 : Shape := ⟨5, ![2, 2, 512, 2, 64]⟩
abbrev S2x2x512x128 : Shape := ⟨4, ![2, 2, 512, 128]⟩
abbrev S8192x512 : Shape := ⟨2, ![8192, 512]⟩
abbrev S256x512 : Shape := ⟨2, ![256, 512]⟩
abbrev S1x1x512x128 : Shape := ⟨4, ![1, 1, 512, 128]⟩
abbrev S4096x128 : Shape := ⟨2, ![4096, 128]⟩
abbrev S512x128 : Shape := ⟨2, ![512, 128]⟩
abbrev S256x64 : Shape := ⟨2, ![256, 64]⟩
abbrev S512x64 : Shape := ⟨2, ![512, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S2x2x512x2x64, .f32⟩
  | .hbm, ⟨4, _⟩ => ⟨S2x2x512x2x64, .f32⟩
  | .hbm, ⟨5, _⟩ => ⟨S2x2x512x128, .f32⟩
  | .hbm, ⟨6, _⟩ => ⟨S2x2x512x128, .f32⟩
  | .hbm, ⟨7, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S1x1x512x128, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x512x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S256x512, .bf16⟩
  | .local _ .vmem, ⟨11, _⟩ => ⟨S256x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "q_scale" => some (((Real.sqrt 64)⁻¹ * (Real.log 2)⁻¹ : ℝ) : EReal)
  | _ => none
-- ==== ReferenceIdeal.lean ====
abbrev S16384x512 : Shape := ⟨2, ![16384, 512]⟩
abbrev S16384x128 : Shape := ⟨2, ![16384, 128]⟩
abbrev S2x2x512x2x64 : Shape := ⟨5, ![2, 2, 512, 2, 64]⟩
abbrev S8192x512 : Shape := ⟨2, ![8192, 512]⟩
abbrev S2x4096x2x4x64 : Shape := ⟨5, ![2, 4096, 2, 4, 64]⟩
abbrev S2x1x512x2x64 : Shape := ⟨5, ![2, 1, 512, 2, 64]⟩
abbrev S2x512x2x64 : Shape := ⟨4, ![2, 512, 2, 64]⟩
abbrev S8192x128 : Shape := ⟨2, ![8192, 128]⟩
abbrev S2x4096x2x64 : Shape := ⟨4, ![2, 4096, 2, 64]⟩
abbrev S2x4608x2x64 : Shape := ⟨4, ![2, 4608, 2, 64]⟩
abbrev S2x2x4608x4096x4 : Shape := ⟨5, ![2, 2, 4608, 4096, 4]⟩
abbrev S2x2x4x4096x4608 : Shape := ⟨5, ![2, 2, 4, 4096, 4608]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x64x4x4096 : Shape := ⟨5, ![2, 2, 64, 4, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S2x2x512x2x64, .f32⟩
  | .hbm, ⟨4, _⟩ => ⟨S2x2x512x2x64, .f32⟩
  | .hbm, ⟨5, _⟩ => ⟨S8192x512, .f32⟩
  | .hbm, ⟨6, _⟩ => ⟨S2x4096x2x4x64, .f32⟩
  | .hbm, ⟨7, _⟩ => ⟨S2x1x512x2x64, .f32⟩
  | .hbm, ⟨8, _⟩ => ⟨S2x512x2x64, .f32⟩
  | .hbm, ⟨9, _⟩ => ⟨S8192x128, .f32⟩
  | .hbm, ⟨10, _⟩ => ⟨S2x4096x2x64, .f32⟩
  | .hbm, ⟨11, _⟩ => ⟨S2x4608x2x64, .f32⟩
  | .hbm, ⟨12, _⟩ => ⟨S2x1x512x2x64, .f32⟩
  | .hbm, ⟨13, _⟩ => ⟨S2x512x2x64, .f32⟩
  | .hbm, ⟨14, _⟩ => ⟨S8192x128, .f32⟩
  | .hbm, ⟨15, _⟩ => ⟨S2x4096x2x64, .f32⟩
  | .hbm, ⟨16, _⟩ => ⟨S2x4608x2x64, .f32⟩
  | .hbm, ⟨17, _⟩ => ⟨S2x2x4608x4096x4, .f32⟩
  | .hbm, ⟨18, _⟩ => ⟨S2x2x4x4096x4608, .f32⟩
  | .hbm, ⟨19, _⟩ => ⟨S_, .f32⟩
  | .hbm, ⟨20, _⟩ => ⟨S2x2x4x4096x4608, .f32⟩
  | .hbm, ⟨21, _⟩ => ⟨S2x2x4x4096x4608, .f32⟩
  | .hbm, ⟨22, _⟩ => ⟨S_, .f32⟩
  | .hbm, ⟨23, _⟩ => ⟨S2x2x4x4096, .f32⟩
  | .hbm, ⟨24, _⟩ => ⟨S_, .f32⟩
  | .hbm, ⟨25, _⟩ => ⟨S2x2x4x4096, .f32⟩
  | .hbm, ⟨26, _⟩ => ⟨S2x2x4x4096, .f32⟩
  | .hbm, ⟨27, _⟩ => ⟨S2x2x4x4096x1, .f32⟩
  | .hbm, ⟨28, _⟩ => ⟨S2x2x4x4096x4608, .f32⟩
  | .hbm, ⟨29, _⟩ => ⟨S2x2x4x4096x4608, .f32⟩
  | .hbm, ⟨30, _⟩ => ⟨S2x2x4x4096x4608, .f32⟩
  | .hbm, ⟨31, _⟩ => ⟨S_, .f32⟩
  | .hbm, ⟨32, _⟩ => ⟨S2x2x4x4096, .f32⟩
  | .hbm, ⟨33, _⟩ => ⟨S2x2x4x4096x1, .f32⟩
  | .hbm, ⟨34, _⟩ => ⟨S2x2x4x4096x4608, .f32⟩
  | .hbm, ⟨35, _⟩ => ⟨S2x2x4x4096x4608, .f32⟩
  | .hbm, ⟨36, _⟩ => ⟨S2x2x64x4x4096, .f32⟩
  | .hbm, ⟨37, _⟩ => ⟨S2x4096x2x4x64, .f32⟩
  | .hbm, ⟨38, _⟩ => ⟨S8192x512, .f32⟩
  | .hbm, ⟨39, _⟩ => ⟨S8192x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel2.lean ====
abbrev S16384x1024 : Shape := ⟨2, ![16384, 1024]⟩
abbrev S3x6x1024 : Shape := ⟨3, ![3, 6, 1024]⟩
abbrev S16384x512 : Shape := ⟨2, ![16384, 512]⟩
abbrev S8192x512 : Shape := ⟨2, ![8192, 512]⟩
abbrev S1024x1024 : Shape := ⟨2, ![1024, 1024]⟩
abbrev S512x1024 : Shape := ⟨2, ![512, 1024]⟩
abbrev S1x6x1024 : Shape := ⟨3, ![1, 6, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S16384x512, .bf16⟩
  | .hbm, ⟨3, _⟩ => ⟨S8192x512, .bf16⟩
  | .hbm, ⟨4, _⟩ => ⟨S8192x512, .bf16⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S3x6x1024 : Shape := ⟨3, ![3, 6, 1024]⟩
abbrev S16384x512 : Shape := ⟨2, ![16384, 512]⟩
abbrev S8192x512 : Shape := ⟨2, ![8192, 512]⟩
abbrev S1024x1024 : Shape := ⟨2, ![1024, 1024]⟩
abbrev S1x6x1024 : Shape := ⟨3, ![1, 6, 1024]⟩
abbrev S1x1x6x1024 : Shape := ⟨4, ![1, 1, 6, 1024]⟩
abbrev S2x6x1024 : Shape := ⟨3, ![2, 6, 1024]⟩
abbrev S2x1x6x1024 : Shape := ⟨4, ![2, 1, 6, 1024]⟩
abbrev S32x256x512 : Shape := ⟨3, ![32, 256, 512]⟩
abbrev S32x256x1024 : Shape := ⟨3, ![32, 256, 1024]⟩
abbrev S2x4096x512 : Shape := ⟨3, ![2, 4096, 512]⟩
abbrev S2x4096x1024 : Shape := ⟨3, ![2, 4096, 1024]⟩
abbrev S8192x1024 : Shape := ⟨2, ![8192, 1024]⟩
abbrev S1x1x1x1024 : Shape := ⟨4, ![1, 1, 1, 1024]⟩
abbrev S1x1x1024 : Shape := ⟨3, ![1, 1, 1024]⟩
abbrev S2x1x1x1024 : Shape := ⟨4, ![2, 1, 1, 1024]⟩
abbrev S2x1x1024 : Shape := ⟨3, ![2, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S16384x512, .bf16⟩
  | .hbm, ⟨3, _⟩ => ⟨S8192x512, .bf16⟩
  | .hbm, ⟨4, _⟩ => ⟨S8192x512, .bf16⟩
  | .hbm, ⟨5, _⟩ => ⟨S1024x1024, .f32⟩
  | .hbm, ⟨6, _⟩ => ⟨S1x6x1024, .f32⟩
  | .hbm, ⟨7, _⟩ => ⟨S1x1x6x1024, .f32⟩
  | .hbm, ⟨8, _⟩ => ⟨S2x6x1024, .f32⟩
  | .hbm, ⟨9, _⟩ => ⟨S2x1x6x1024, .f32⟩
  | .hbm, ⟨10, _⟩ => ⟨S16384x512, .f32⟩
  | .hbm, ⟨11, _⟩ => ⟨S8192x512, .f32⟩
  | .hbm, ⟨12, _⟩ => ⟨S32x256x512, .f32⟩
  | .hbm, ⟨13, _⟩ => ⟨S8192x512, .f32⟩
  | .hbm, ⟨14, _⟩ => ⟨S32x256x512, .f32⟩
  | .hbm, ⟨15, _⟩ => ⟨S32x256x1024, .f32⟩
  | .hbm, ⟨16, _⟩ => ⟨S32x256x1024, .f32⟩
  | .hbm, ⟨17, _⟩ => ⟨S8192x512, .f32⟩
  | .hbm, ⟨18, _⟩ => ⟨S2x4096x512, .f32⟩
  | .hbm, ⟨19, _⟩ => ⟨S8192x512, .f32⟩
  | .hbm, ⟨20, _⟩ => ⟨S2x4096x512, .f32⟩
  | .hbm, ⟨21, _⟩ => ⟨S2x4096x1024, .f32⟩
  | .hbm, ⟨22, _⟩ => ⟨S2x4096x1024, .f32⟩
  | .hbm, ⟨23, _⟩ => ⟨S8192x1024, .f32⟩
  | .hbm, ⟨24, _⟩ => ⟨S32x256x1024, .f32⟩
  | .hbm, ⟨25, _⟩ => ⟨S1x1x1x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S32x256x1024, .f32⟩
  | .hbm, ⟨30, _⟩ => ⟨S8192x1024, .f32⟩
  | .hbm, ⟨31, _⟩ => ⟨S2x4096x1024, .f32⟩
  | .hbm, ⟨32, _⟩ => ⟨S2x1x1x1024, .f32⟩
  | .hbm, ⟨33, _⟩ => ⟨S2x1x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S8192x1024, .f32⟩
  | .hbm, ⟨38, _⟩ => ⟨S8192x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel3.lean ====
abbrev S16384x1024 : Shape := ⟨2, ![16384, 1024]⟩
abbrev S3x6x1024 : Shape := ⟨3, ![3, 6, 1024]⟩
abbrev S1024 : Shape := ⟨1, ![1024]⟩
abbrev S1024x2048 : Shape := ⟨2, ![1024, 2048]⟩
abbrev S1x1024 : Shape := ⟨2, ![1, 1024]⟩
abbrev S16384x512 : Shape := ⟨2, ![16384, 512]⟩
abbrev S512x1024 : Shape := ⟨2, ![512, 1024]⟩
abbrev S1x6x1024 : Shape := ⟨3, ![1, 6, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S1024, .f32⟩
  | .hbm, ⟨3, _⟩ => ⟨S1024x2048, .f32⟩
  | .hbm, ⟨4, _⟩ => ⟨S1x1024, .f32⟩
  | .hbm, ⟨5, _⟩ => ⟨S1024x2048, .bf16⟩
  | .hbm, ⟨6, _⟩ => ⟨S16384x512, .bf16⟩
  | .hbm, ⟨7, _⟩ => ⟨S16384x512, .f32⟩
  | .hbm, ⟨8, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S3x6x1024 : Shape := ⟨3, ![3, 6, 1024]⟩
abbrev S1024 : Shape := ⟨1, ![1024]⟩
abbrev S1024x2048 : Shape := ⟨2, ![1024, 2048]⟩
abbrev S1x6x1024 : Shape := ⟨3, ![1, 6, 1024]⟩
abbrev S1x1x6x1024 : Shape := ⟨4, ![1, 1, 6, 1024]⟩
abbrev S2x6x1024 : Shape := ⟨3, ![2, 6, 1024]⟩
abbrev S2x1x6x1024 : Shape := ⟨4, ![2, 1, 6, 1024]⟩
abbrev S8192x1024 : Shape := ⟨2, ![8192, 1024]⟩
abbrev S32x256x1024 : Shape := ⟨3, ![32, 256, 1024]⟩
abbrev S1x1x1x1024 : Shape := ⟨4, ![1, 1, 1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S2x4096x1024 : Shape := ⟨3, ![2, 4096, 1024]⟩
abbrev S2x1x1x1024 : Shape := ⟨4, ![2, 1, 1, 1024]⟩
abbrev S2x1x1024 : Shape := ⟨3, ![2, 1, 1024]⟩
abbrev S2x4096 : Shape := ⟨2, ![2, 4096]⟩
abbrev S2x4096x1 : Shape := ⟨3, ![2, 4096, 1]⟩
abbrev S32x256x2048 : Shape := ⟨3, ![32, 256, 2048]⟩
abbrev S2x4096x2048 : Shape := ⟨3, ![2, 4096, 2048]⟩
abbrev S8192x2048 : Shape := ⟨2, ![8192, 2048]⟩
abbrev S16384x2048 : Shape := ⟨2, ![16384, 2048]⟩
abbrev S16384x512 : Shape := ⟨2, ![16384, 512]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S1024, .f32⟩
  | .hbm, ⟨3, _⟩ => ⟨S1024x2048, .f32⟩
  | .hbm, ⟨4, _⟩ => ⟨S1x6x1024, .f32⟩
  | .hbm, ⟨5, _⟩ => ⟨S1x1x6x1024, .f32⟩
  | .hbm, ⟨6, _⟩ => ⟨S2x6x1024, .f32⟩
  | .hbm, ⟨7, _⟩ => ⟨S2x1x6x1024, .f32⟩
  | .hbm, ⟨8, _⟩ => ⟨S8192x1024, .f32⟩
  | .hbm, ⟨9, _⟩ => ⟨S32x256x1024, .f32⟩
  | .hbm, ⟨10, _⟩ => ⟨S1x1x1x1024, .f32⟩
  | .hbm, ⟨11, _⟩ => ⟨S1x1x1024, .f32⟩
  | .hbm, ⟨12, _⟩ => ⟨S1x1x1x1024, .f32⟩
  | .hbm, ⟨13, _⟩ => ⟨S1x1x1024, .f32⟩
  | .hbm, ⟨14, _⟩ => ⟨S32x256x1024, .f32⟩
  | .hbm, ⟨15, _⟩ => ⟨S_, .f32⟩
  | .hbm, ⟨16, _⟩ => ⟨S32x256, .f32⟩
  | .hbm, ⟨17, _⟩ => ⟨S32x256x1, .f32⟩
  | .hbm, ⟨18, _⟩ => ⟨S_, .f32⟩
  | .hbm, ⟨19, _⟩ => ⟨S32x256x1, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S32x256x1, .f32⟩
  | .hbm, ⟨25, _⟩ => ⟨S32x256x1024, .f32⟩
  | .hbm, ⟨26, _⟩ => ⟨S32x256x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S8192x1024, .f32⟩
  | .hbm, ⟨38, _⟩ => ⟨S2x4096x1024, .f32⟩
  | .hbm, ⟨39, _⟩ => ⟨S2x1x1x1024, .f32⟩
  | .hbm, ⟨40, _⟩ => ⟨S2x1x1024, .f32⟩
  | .hbm, ⟨41, _⟩ => ⟨S2x1x1x1024, .f32⟩
  | .hbm, ⟨42, _⟩ => ⟨S2x1x1024, .f32⟩
  | .hbm, ⟨43, _⟩ => ⟨S2x4096x1024, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x1024, .f32⟩
  | .hbm, ⟨55, _⟩ => ⟨S2x4096x1024, .f32⟩
  | .hbm, ⟨56, _⟩ => ⟨S1x1x1024, .f32⟩
  | .hbm, ⟨57, _⟩ => ⟨S2x4096x1024, .f32⟩
  | .hbm, ⟨58, _⟩ => ⟨S2x4096x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S32x256x2048, .f32⟩
  | .hbm, ⟨67, _⟩ => ⟨S2x4096x2048, .f32⟩
  | .hbm, ⟨68, _⟩ => ⟨S8192x2048, .f32⟩
  | .hbm, ⟨69, _⟩ => ⟨S8192x2048, .f32⟩
  | .hbm, ⟨70, _⟩ => ⟨S16384x2048, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .bf16⟩
  | .hbm, ⟨76, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Kernel4.lean ====
abbrev S16384x1024 : Shape := ⟨2, ![16384, 1024]⟩
abbrev S3x6x1024 : Shape := ⟨3, ![3, 6, 1024]⟩
abbrev S1024 : Shape := ⟨1, ![1024]⟩
abbrev S1024x1792 : Shape := ⟨2, ![1024, 1792]⟩
abbrev S64 : Shape := ⟨1, ![64]⟩
abbrev S4096x32 : Shape := ⟨2, ![4096, 32]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S8x8 : Shape := ⟨2, ![8, 8]⟩
abbrev S_ : Shape := ⟨0, ![]⟩
abbrev S8x64x8 : Shape := ⟨3, ![8, 64, 8]⟩
abbrev S512x8 : Shape := ⟨2, ![512, 8]⟩
abbrev S512x8x64 : Shape := ⟨3, ![512, 8, 64]⟩
abbrev S512x512 : Shape := ⟨2, ![512, 512]⟩
abbrev S4096x32x2 : Shape := ⟨3, ![4096, 32, 2]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S4096x32x1 : Shape := ⟨3, ![4096, 32, 1]⟩
abbrev S16384x512 : Shape := ⟨2, ![16384, 512]⟩
abbrev S16384x128 : Shape := ⟨2, ![16384, 128]⟩
abbrev S512x1024 : Shape := ⟨2, ![512, 1024]⟩
abbrev S1x6x1024 : Shape := ⟨3, ![1, 6, 1024]⟩
abbrev S512x128 : Shape := ⟨2, ![512, 128]⟩
abbrev S1x1x1024 : Shape := ⟨3, ![1, 1, 1024]⟩
abbrev S512x1 : Shape := ⟨2, ![512, 1]⟩
abbrev S512x1792 : Shape := ⟨2, ![512, 1792]⟩
abbrev S128x128 : Shape := ⟨2, ![128, 128]⟩

abbrev nBuf : Space → Nat
  | .hbm => 47
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S1024, .f32⟩
  | .hbm, ⟨3, _⟩ => ⟨S1024x1792, .f32⟩
  | .hbm, ⟨4, _⟩ => ⟨S64, .f32⟩
  | .hbm, ⟨5, _⟩ => ⟨S64, .f32⟩
  | .hbm, ⟨6, _⟩ => ⟨S4096x32, .f32⟩
  | .hbm, ⟨7, _⟩ => ⟨S4096x32, .f32⟩
  | .hbm, ⟨8, _⟩ => ⟨S1x1024, .f32⟩
  | .hbm, ⟨9, _⟩ => ⟨S1024x1792, .bf16⟩
  | .hbm, ⟨10, _⟩ => ⟨S1x64, .f32⟩
  | .hbm, ⟨11, _⟩ => ⟨S8x64, .f32⟩
  | .hbm, ⟨12, _⟩ => ⟨S512, .f32⟩
  | .hbm, ⟨13, _⟩ => ⟨S1x512, .f32⟩
  | .hbm, ⟨14, _⟩ => ⟨S1x64, .f32⟩
  | .hbm, ⟨15, _⟩ => ⟨S2x64, .f32⟩
  | .hbm, ⟨16, _⟩ => ⟨S128, .f32⟩
  | .hbm, ⟨17, _⟩ => ⟨S1x128, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S8x64x8, .f32⟩
  | .hbm, ⟨26, _⟩ => ⟨S512x8, .f32⟩
  | .hbm, ⟨27, _⟩ => ⟨S512x8x64, .f32⟩
  | .hbm, ⟨28, _⟩ => ⟨S512x512, .f32⟩
  | .hbm, ⟨29, _⟩ => ⟨S512x512, .bf16⟩
  | .hbm, ⟨30, _⟩ => ⟨S4096x32x2, .f32⟩
  | .hbm, ⟨31, _⟩ => ⟨S4096x64, .f32⟩
  | .hbm, ⟨32, _⟩ => ⟨S1x4096x1x64, .f32⟩
  | .hbm, ⟨33, _⟩ => ⟨S1x4096x8x64, .f32⟩
  | .hbm, ⟨34, _⟩ => ⟨S4096x512, .f32⟩
  | .hbm, ⟨35, _⟩ => ⟨S4096x32, .f32⟩
  | .hbm, ⟨36, _⟩ => ⟨S4096x32x1, .f32⟩
  | .hbm, ⟨37, _⟩ => ⟨S4096x32x1, .f32⟩
  | .hbm, ⟨38, _⟩ => ⟨S4096x32x2, .f32⟩
  | .hbm, ⟨39, _⟩ => ⟨S4096x64, .f32⟩
  | .hbm, ⟨40, _⟩ => ⟨S1x4096x1x64, .f32⟩
  | .hbm, ⟨41, _⟩ => ⟨S1x4096x8x64, .f32⟩
  | .hbm, ⟨42, _⟩ => ⟨S4096x512, .f32⟩
  | .hbm, ⟨43, _⟩ => ⟨S16384x512, .f32⟩
  | .hbm, ⟨44, _⟩ => ⟨S16384x512, .f32⟩
  | .hbm, ⟨45, _⟩ => ⟨S16384x128, .f32⟩
  | .hbm, ⟨46, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1792, .bf16⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_v34_2 : Ref sig .tc := ⟨.hbm, 45, rfl⟩
abbrev main_v34_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v83 : BitVec 1 := Scalar.cmpi .slt arg0 c16_i32
  let v84 : BitVec 32 := Scalar.extui v83
  let c0_i32 : BitVec 32 := 0#32
  let v85 : BitVec 1 := Scalar.cmpi .ne v84 c0_i32
  v85

def k0_cond2 (i : grid0.Coords) : BitVec 1 :=
  let arg0 : BitVec 32 := BitVec.ofNat 32 (i 0).val
  let c16_i32_35 : BitVec 32 := 16#32
  let v86 : BitVec 1 := Scalar.cmpi .sge arg0 c16_i32_35
  let v87 : BitVec 32 := Scalar.extui v86
  let c0_i32_36 : BitVec 32 := 0#32
  let v88 : BitVec 1 := Scalar.cmpi .ne v87 c0_i32_36
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S3x6x1024 : Shape := ⟨3, ![3, 6, 1024]⟩
abbrev S1024 : Shape := ⟨1, ![1024]⟩
abbrev S1024x1792 : Shape := ⟨2, ![1024, 1792]⟩
abbrev S64 : Shape := ⟨1, ![64]⟩
abbrev S4096x32 : Shape := ⟨2, ![4096, 32]⟩
abbrev S1x6x1024 : Shape := ⟨3, ![1, 6, 1024]⟩
abbrev S1x1x6x1024 : Shape := ⟨4, ![1, 1, 6, 1024]⟩
abbrev S2x6x1024 : Shape := ⟨3, ![2, 6, 1024]⟩
abbrev S2x1x6x1024 : Shape := ⟨4, ![2, 1, 6, 1024]⟩
abbrev S8192x1024 : Shape := ⟨2, ![8192, 1024]⟩
abbrev S32x256x1024 : Shape := ⟨3, ![32, 256, 1024]⟩
abbrev S1x1x1x1024 : Shape := ⟨4, ![1, 1, 1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x1792 : Shape := ⟨3, ![32, 256, 1792]⟩
abbrev S32x256x512 : Shape := ⟨3, ![32, 256, 512]⟩
abbrev S32x256x128 : Shape := ⟨3, ![32, 256, 128]⟩
abbrev S32x256x8x64 : Shape := ⟨4, ![32, 256, 8, 64]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S2x4096x1024 : Shape := ⟨3, ![2, 4096, 1024]⟩
abbrev S2x1x1x1024 : Shape := ⟨4, ![2, 1, 1, 1024]⟩
abbrev S2x1x1024 : Shape := ⟨3, ![2, 1, 1024]⟩
abbrev S2x4096 : Shape := ⟨2, ![2, 4096]⟩
abbrev S2x4096x1 : Shape := ⟨3, ![2, 4096, 1]⟩
abbrev S2x4096x1792 : Shape := ⟨3, ![2, 4096, 1792]⟩
abbrev S2x4096x512 : Shape := ⟨3, ![2, 4096, 512]⟩
abbrev S2x4096x128 : Shape := ⟨3, ![2, 4096, 128]⟩
abbrev S2x4096x8x64 : Shape := ⟨4, ![2, 4096, 8, 64]⟩
abbrev S2x4096x8 : Shape := ⟨3, ![2, 4096, 8]⟩
abbrev S2x4096x8x1 : Shape := ⟨4, ![2, 4096, 8, 1]⟩
abbrev S2x4096x2x64 : Shape := ⟨4, ![2, 4096, 2, 64]⟩
abbrev S2x4096x2 : Shape := ⟨3, ![2, 4096, 2]⟩
abbrev S2x4096x2x1 : Shape := ⟨4, ![2, 4096, 2, 1]⟩
abbrev S2x4096x8x32x2 : Shape := ⟨5, ![2, 4096, 8, 32, 2]⟩
abbrev S2x4096x8x32x1 : Shape := ⟨5, ![2, 4096, 8, 32, 1]⟩
abbrev S2x4096x8x32 : Shape := ⟨4, ![2, 4096, 8, 32]⟩
abbrev S1x4096x1x32 : Shape := ⟨4, ![1, 4096, 1, 32]⟩
abbrev S2x4096x2x32x2 : Shape := ⟨5, ![2, 4096, 2, 32, 2]⟩
abbrev S2x4096x2x32x1 : Shape := ⟨5, ![2, 4096, 2, 32, 1]⟩
abbrev S2x4096x2x32 : Shape := ⟨4, ![2, 4096, 2, 32]⟩
abbrev S8192x512 : Shape := ⟨2, ![8192, 512]⟩
abbrev S16384x512 : Shape := ⟨2, ![16384, 512]⟩
abbrev S8192x128 : Shape := ⟨2, ![8192, 128]⟩
abbrev S16384x128 : Shape := ⟨2, ![16384, 128]⟩

abbrev nBuf : Space → Nat
  | .hbm => 222
  | .vmem => 0
  | .smem => 0
  | _ => 0

abbrev hbmTy0_0 (i : Nat) : BufTy := match i % 128 with
  | 0 => ⟨S16384x1024, .f32⟩
  | 1 => ⟨S3x6x1024, .f32⟩
  | 2 => ⟨S1024, .f32⟩
  | 3 => ⟨S1024x1792, .f32⟩
  | 4 => ⟨S64, .f32⟩
  | 5 => ⟨S64, .f32⟩
  | 6 => ⟨S4096x32, .f32⟩
  | 7 => ⟨S4096x32, .f32⟩
  | 8 => ⟨S1x6x1024, .f32⟩
  | 9 => ⟨S1x1x6x1024, .f32⟩
  | 10 => ⟨S2x6x1024, .f32⟩
  | 11 => ⟨S2x1x6x1024, .f32⟩
  | 12 => ⟨S8192x1024, .f32⟩
  | 13 => ⟨S32x256x1024, .f32⟩
  | 14 => ⟨S1x1x1x1024, .f32⟩
  | 15 => ⟨S1x1x1024, .f32⟩
  | 16 => ⟨S1x1x1x1024, .f32⟩
  | 17 => ⟨S1x1x1024, .f32⟩
  | 18 => ⟨S32x256x1024, .f32⟩
  | 19 => ⟨S_, .f32⟩
  | 20 => ⟨S32x256, .f32⟩
  | 21 => ⟨S32x256x1, .f32⟩
  | 22 => ⟨S_, .f32⟩
  | 23 => ⟨S32x256x1, .f32⟩
  | 24 => ⟨S32x256x1, .f32⟩
  | 25 => ⟨S_, .f32⟩
  | 26 => ⟨S32x256x1, .f32⟩
  | 27 => ⟨S32x256x1, .f32⟩
  | 28 => ⟨S32x256x1, .f32⟩
  | 29 => ⟨S32x256x1024, .f32⟩
  | 30 => ⟨S32x256x1024, .f32⟩
  | 31 => ⟨S1x1x1024, .f32⟩
  | 32 => ⟨S32x256x1024, .f32⟩
  | 33 => ⟨S32x256x1024, .f32⟩
  | 34 => ⟨S_, .f32⟩
  | 35 => ⟨S1x1x1024, .f32⟩
  | 36 => ⟨S1x1x1024, .f32⟩
  | 37 => ⟨S32x256x1024, .f32⟩
  | 38 => ⟨S32x256x1024, .f32⟩
  | 39 => ⟨S32x256x1024, .f32⟩
  | 40 => ⟨S32x256x1024, .f32⟩
  | 41 => ⟨S32x256x1792, .f32⟩
  | 42 => ⟨S32x256x512, .f32⟩
  | 43 => ⟨S32x256x512, .f32⟩
  | 44 => ⟨S32x256x512, .f32⟩
  | 45 => ⟨S32x256x128, .f32⟩
  | 46 => ⟨S32x256x128, .f32⟩
  | 47 => ⟨S32x256x8x64, .f32⟩
  | 48 => ⟨S32x256x8x64, .f32⟩
  | 49 => ⟨S_, .f32⟩
  | 50 => ⟨S32x256x8, .f32⟩
  | 51 => ⟨S32x256x8x1, .f32⟩
  | 52 => ⟨S_, .f32⟩
  | 53 => ⟨S32x256x8x1, .f32⟩
  | 54 => ⟨S32x256x8x1, .f32⟩
  | 55 => ⟨S_, .f32⟩
  | 56 => ⟨S32x256x8x1, .f32⟩
  | 57 => ⟨S32x256x8x1, .f32⟩
  | 58 => ⟨S32x256x8x1, .f32⟩
  | 59 => ⟨S32x256x8x64, .f32⟩
  | 60 => ⟨S32x256x8x64, .f32⟩
  | 61 => ⟨S1x1x1x64, .f32⟩
  | 62 => ⟨S32x256x8x64, .f32⟩
  | 63 => ⟨S32x256x8x64, .f32⟩
  | 64 => ⟨S32x256x2x64, .f32⟩
  | 65 => ⟨S32x256x2x64, .f32⟩
  | 66 => ⟨S_, .f32⟩
  | 67 => ⟨S32x256x2, .f32⟩
  | 68 => ⟨S32x256x2x1, .f32⟩
  | 69 => ⟨S_, .f32⟩
  | 70 => ⟨S32x256x2x1, .f32⟩
  | 71 => ⟨S32x256x2x1, .f32⟩
  | 72 => ⟨S_, .f32⟩
  | 73 => ⟨S32x256x2x1, .f32⟩
  | 74 => ⟨S32x256x2x1, .f32⟩
  | 75 => ⟨S32x256x2x1, .f32⟩
  | 76 => ⟨S32x256x2x64, .f32⟩
  | 77 => ⟨S32x256x2x64, .f32⟩
  | 78 => ⟨S1x1x1x64, .f32⟩
  | 79 => ⟨S32x256x2x64, .f32⟩
  | 80 => ⟨S32x256x2x64, .f32⟩
  | 81 => ⟨S32x256x512, .f32⟩
  | 82 => ⟨S32x256x512, .f32⟩
  | 83 => ⟨S_, .f32⟩
  | 84 => ⟨S32x256x512, .f32⟩
  | 85 => ⟨S32x256x512, .f32⟩
  | 86 => ⟨S_, .f32⟩
  | 87 => ⟨S32x256x512, .f32⟩
  | 88 => ⟨S32x256x512, .f32⟩
  | 89 => ⟨S32x256x512, .f32⟩
  | 90 => ⟨S8192x1024, .f32⟩
  | 91 => ⟨S2x4096x1024, .f32⟩
  | 92 => ⟨S2x1x1x1024, .f32⟩
  | 93 => ⟨S2x1x1024, .f32⟩
  | 94 => ⟨S2x1x1x1024, .f32⟩
  | 95 => ⟨S2x1x1024, .f32⟩
  | 96 => ⟨S2x4096x1024, .f32⟩
  | 97 => ⟨S_, .f32⟩
  | 98 => ⟨S2x4096, .f32⟩
  | 99 => ⟨S2x4096x1, .f32⟩
  | 100 => ⟨S_, .f32⟩
  | 101 => ⟨S2x4096x1, .f32⟩
  | 102 => ⟨S2x4096x1, .f32⟩
  | 103 => ⟨S_, .f32⟩
  | 104 => ⟨S2x4096x1, .f32⟩
  | 105 => ⟨S2x4096x1, .f32⟩
  | 106 => ⟨S2x4096x1, .f32⟩
  | 107 => ⟨S2x4096x1024, .f32⟩
  | 108 => ⟨S2x4096x1024, .f32⟩
  | 109 => ⟨S1x1x1024, .f32⟩
  | 110 => ⟨S2x4096x1024, .f32⟩
  | 111 => ⟨S2x4096x1024, .f32⟩
  | 112 => ⟨S_, .f32⟩
  | 113 => ⟨S2x1x1024, .f32⟩
  | 114 => ⟨S2x1x1024, .f32⟩
  | 115 => ⟨S2x4096x1024, .f32⟩
  | 116 => ⟨S2x4096x1024, .f32⟩
  | 117 => ⟨S2x4096x1024, .f32⟩
  | 118 => ⟨S2x4096x1024, .f32⟩
  | 119 => ⟨S2x4096x1792, .f32⟩
  | 120 => ⟨S2x4096x512, .f32⟩
  | 121 => ⟨S2x4096x512, .f32⟩
  | 122 => ⟨S2x4096x512, .f32⟩
  | 123 => ⟨S2x4096x128, .f32⟩
  | 124 => ⟨S2x4096x128, .f32⟩
  | 125 => ⟨S2x4096x8x64, .f32⟩
  | 126 => ⟨S2x4096x8x64, .f32⟩
  | 127 => ⟨S_, .f32⟩
  | _ => ⟨S16384x1024, .f32⟩

abbrev hbmTy0_1 (i : Nat) : BufTy := match i % 128 with
  | 0 => ⟨S2x4096x8, .f32⟩
  | 1 => ⟨S2x4096x8x1, .f32⟩
  | 2 => ⟨S_, .f32⟩
  | 3 => ⟨S2x4096x8x1, .f32⟩
  | 4 => ⟨S2x4096x8x1, .f32⟩
  | 5 => ⟨S_, .f32⟩
  | 6 => ⟨S2x4096x8x1, .f32⟩
  | 7 => ⟨S2x4096x8x1, .f32⟩
  | 8 => ⟨S2x4096x8x1, .f32⟩
  | 9 => ⟨S2x4096x8x64, .f32⟩
  | 10 => ⟨S2x4096x8x64, .f32⟩
  | 11 => ⟨S1x1x1x64, .f32⟩
  | 12 => ⟨S2x4096x8x64, .f32⟩
  | 13 => ⟨S2x4096x8x64, .f32⟩
  | 14 => ⟨S2x4096x2x64, .f32⟩
  | 15 => ⟨S2x4096x2x64, .f32⟩
  | 16 => ⟨S_, .f32⟩
  | 17 => ⟨S2x4096x2, .f32⟩
  | 18 => ⟨S2x4096x2x1, .f32⟩
  | 19 => ⟨S_, .f32⟩
  | 20 => ⟨S2x4096x2x1, .f32⟩
  | 21 => ⟨S2x4096x2x1, .f32⟩
  | 22 => ⟨S_, .f32⟩
  | 23 => ⟨S2x4096x2x1, .f32⟩
  | 24 => ⟨S2x4096x2x1, .f32⟩
  | 25 => ⟨S2x4096x2x1, .f32⟩
  | 26 => ⟨S2x4096x2x64, .f32⟩
  | 27 => ⟨S2x4096x2x64, .f32⟩
  | 28 => ⟨S1x1x1x64, .f32⟩
  | 29 => ⟨S2x4096x2x64, .f32⟩
  | 30 => ⟨S2x4096x2x64, .f32⟩
  | 31 => ⟨S2x4096x8x32x2, .f32⟩
  | 32 => ⟨S2x4096x8x32x1, .f32⟩
  | 33 => ⟨S2x4096x8x32, .f32⟩
  | 34 => ⟨S2x4096x8x32x1, .f32⟩
  | 35 => ⟨S2x4096x8x32, .f32⟩
  | 36 => ⟨S1x4096x1x32, .f32⟩
  | 37 => ⟨S1x4096x1x32, .f32⟩
  | 38 => ⟨S2x4096x8x32, .f32⟩
  | 39 => ⟨S2x4096x8x32, .f32⟩
  | 40 => ⟨S2x4096x8x32, .f32⟩
  | 41 => ⟨S2x4096x8x32, .f32⟩
  | 42 => ⟨S2x4096x8x32, .f32⟩
  | 43 => ⟨S2x4096x8x32, .f32⟩
  | 44 => ⟨S2x4096x8x32, .f32⟩
  | 45 => ⟨S2x4096x8x32, .f32⟩
  | 46 => ⟨S2x4096x8x32, .f32⟩
  | 47 => ⟨S2x4096x8x32, .f32⟩
  | 48 => ⟨S2x4096x8x32x1, .f32⟩
  | 49 => ⟨S2x4096x8x32x1, .f32⟩
  | 50 => ⟨S2x4096x8x32x2, .f32⟩
  | 51 => ⟨S2x4096x8x64, .f32⟩
  | 52 => ⟨S2x4096x2x32x2, .f32⟩
  | 53 => ⟨S2x4096x2x32x1, .f32⟩
  | 54 => ⟨S2x4096x2x32, .f32⟩
  | 55 => ⟨S2x4096x2x32x1, .f32⟩
  | 56 => ⟨S2x4096x2x32, .f32⟩
  | 57 => ⟨S1x4096x1x32, .f32⟩
  | 58 => ⟨S1x4096x1x32, .f32⟩
  | 59 => ⟨S2x4096x2x32, .f32⟩
  | 60 => ⟨S2x4096x2x32, .f32⟩
  | 61 => ⟨S2x4096x2x32, .f32⟩
  | 62 => ⟨S2x4096x2x32, .f32⟩
  | 63 => ⟨S2x4096x2x32, .f32⟩
  | 64 => ⟨S2x4096x2x32, .f32⟩
  | 65 => ⟨S2x4096x2x32, .f32⟩
  | 66 => ⟨S2x4096x2x32, .f32⟩
  | 67 => ⟨S2x4096x2x32, .f32⟩
  | 68 => ⟨S2x4096x2x32, .f32⟩
  | 69 => ⟨S2x4096x2x32x1, .f32⟩
  | 70 => ⟨S2x4096x2x32x1, .f32⟩
  | 71 => ⟨S2x4096x2x32x2, .f32⟩
  | 72 => ⟨S2x4096x2x64, .f32⟩
  | 73 => ⟨S2x4096x512, .f32⟩
  | 74 => ⟨S2x4096x512, .f32⟩
  | 75 => ⟨S_, .f32⟩
  | 76 => ⟨S2x4096x512, .f32⟩
  | 77 => ⟨S2x4096x512, .f32⟩
  | 78 => ⟨S_, .f32⟩
  | 79 => ⟨S2x4096x512, .f32⟩
  | 80 => ⟨S2x4096x512, .f32⟩
  | 81 => ⟨S2x4096x512, .f32⟩
  | 82 => ⟨S8192x512, .f32⟩
  | 83 => ⟨S8192x512, .f32⟩
  | 84 => ⟨S16384x512, .f32⟩
  | 85 => ⟨S8192x512, .f32⟩
  | 86 => ⟨S8192x512, .f32⟩
  | 87 => ⟨S16384x512, .f32⟩
  | 88 => ⟨S8192x128, .f32⟩
  | 89 => ⟨S8192x128, .f32⟩
  | 90 => ⟨S16384x128, .f32⟩
  | 91 => ⟨S8192x128, .f32⟩
  | 92 => ⟨S8192x128, .f32⟩
  | 93 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_14 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_15 : Ref sig .tc := ⟨.hbm, 127, rfl⟩
abbrev main_v103 : Ref sig .tc := ⟨.hbm, 128, rfl⟩
abbrev main_v104 : Ref sig .tc := ⟨.hbm, 129, rfl⟩
abbrev main_cst_16 : Ref sig .tc := ⟨.hbm, 130, rfl⟩
abbrev main_v105 : Ref sig .tc := ⟨.hbm, 131, rfl⟩
abbrev main_v106 : Ref sig .tc := ⟨.hbm, 132, rfl⟩
abbrev main_cst_17 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_18 : Ref sig .tc := ⟨.hbm, 144, rfl⟩
abbrev main_v117 : Ref sig .tc := ⟨.hbm, 145, rfl⟩
abbrev main_v118 : Ref sig .tc := ⟨.hbm, 146, rfl⟩
abbrev main_cst_19 : Ref sig .tc := ⟨.hbm, 147, rfl⟩
abbrev main_v119 : Ref sig .tc := ⟨.hbm, 148, rfl⟩
abbrev main_v120 : Ref sig .tc := ⟨.hbm, 149, rfl⟩
abbrev main_cst_20 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_cst_21 : Ref sig .tc := ⟨.hbm, 203, rfl⟩
abbrev main_v173 : Ref sig .tc := ⟨.hbm, 204, rfl⟩
abbrev main_v174 : Ref sig .tc := ⟨.hbm, 205, rfl⟩
abbrev main_cst_22 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x1024 : Shape := ⟨2, ![16384, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S16384x1024 : Shape := ⟨2, ![16384, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S16384x512 : Shape := ⟨2, ![16384, 512]⟩
abbrev S16384x128 : Shape := ⟨2, ![16384, 128]⟩
abbrev S8192x512 : Shape := ⟨2, ![8192, 512]⟩
abbrev S256x512 : Shape := ⟨2, ![256, 512]⟩
abbrev S256x128 : Shape := ⟨2, ![256, 128]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel7Ideal.lean ====
variable {F : FTy → Type} [FloatOps F] [Named F]
def κ : String → Option EReal := fun
  | "q_scale" => some (((Real.sqrt 64)⁻¹ * (Real.log 2)⁻¹ : ℝ) : EReal)
  | _ => none
-- ==== Reference7Ideal.lean ====
abbrev S16384x512 : Shape := ⟨2, ![16384, 512]⟩
abbrev S16384x128 : Shape := ⟨2, ![16384, 128]⟩
abbrev S8192x512 : Shape := ⟨2, ![8192, 512]⟩
abbrev S32x256x2x4x64 : Shape := ⟨5, ![32, 256, 2, 4, 64]⟩
abbrev S8192x128 : Shape := ⟨2, ![8192, 128]⟩
abbrev S32x256x2x64 : Shape := ⟨4, ![32, 256, 2, 64]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩

abbrev nBuf : Space → Nat
  | .hbm => 32
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8192x512, .f32⟩
  | .hbm, ⟨4, _⟩ => ⟨S32x256x2x4x64, .f32⟩
  | .hbm, ⟨5, _⟩ => ⟨S8192x128, .f32⟩
  | .hbm, ⟨6, _⟩ => ⟨S32x256x2x64, .f32⟩
  | .hbm, ⟨7, _⟩ => ⟨S8192x128, .f32⟩
  | .hbm, ⟨8, _⟩ => ⟨S32x256x2x64, .f32⟩
  | .hbm, ⟨9, _⟩ => ⟨S32x2x256x256x4, .f32⟩
  | .hbm, ⟨10, _⟩ => ⟨S32x2x4x256x256, .f32⟩
  | .hbm, ⟨11, _⟩ => ⟨S_, .f32⟩
  | .hbm, ⟨12, _⟩ => ⟨S32x2x4x256x256, .f32⟩
  | .hbm, ⟨13, _⟩ => ⟨S32x2x4x256x256, .f32⟩
  | .hbm, ⟨14, _⟩ => ⟨S_, .f32⟩
  | .hbm, ⟨15, _⟩ => ⟨S32x2x4x256, .f32⟩
  | .hbm, ⟨16, _⟩ => ⟨S_, .f32⟩
  | .hbm, ⟨17, _⟩ => ⟨S32x2x4x256, .f32⟩
  | .hbm, ⟨18, _⟩ => ⟨S32x2x4x256, .f32⟩
  | .hbm, ⟨19, _⟩ => ⟨S32x2x4x256x1, .f32⟩
  | .hbm, ⟨20, _⟩ => ⟨S32x2x4x256x256, .f32⟩
  | .hbm, ⟨21, _⟩ => ⟨S32x2x4x256x256, .f32⟩
  | .hbm, ⟨22, _⟩ => ⟨S32x2x4x256x256, .f32⟩
  | .hbm, ⟨23, _⟩ => ⟨S_, .f32⟩
  | .hbm, ⟨24, _⟩ => ⟨S32x2x4x256, .f32⟩
  | .hbm, ⟨25, _⟩ => ⟨S32x2x4x256x1, .f32⟩
  | .hbm, ⟨26, _⟩ => ⟨S32x2x4x256x256, .f32⟩
  | .hbm, ⟨27, _⟩ => ⟨S32x2x4x256x256, .f32⟩
  | .hbm, ⟨28, _⟩ => ⟨S32x2x64x4x256, .f32⟩
  | .hbm, ⟨29, _⟩ => ⟨S32x256x2x4x64, .f32⟩
  | .hbm, ⟨30, _⟩ => ⟨S8192x512, .f32⟩
  | .hbm, ⟨31, _⟩ => ⟨S8192x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel8.lean ====
abbrev S16384x1024 : Shape := ⟨2, ![16384, 1024]⟩
abbrev S3x6x1024 : Shape := ⟨3, ![3, 6, 1024]⟩
abbrev S16384x512 : Shape := ⟨2, ![16384, 512]⟩
abbrev S8192x512 : Shape := ⟨2, ![8192, 512]⟩
abbrev S1024x1024 : Shape := ⟨2, ![1024, 1024]⟩
abbrev S512x1024 : Shape := ⟨2, ![512, 1024]⟩
abbrev S1x6x1024 : Shape := ⟨3, ![1, 6, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S16384x512, .bf16⟩
  | .hbm, ⟨3, _⟩ => ⟨S8192x512, .bf16⟩
  | .hbm, ⟨4, _⟩ => ⟨S8192x512, .bf16⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S16384x1024 : Shape := ⟨2, ![16384, 1024]⟩
abbrev S3x6x1024 : Shape := ⟨3, ![3, 6, 1024]⟩
abbrev S16384x512 : Shape := ⟨2, ![16384, 512]⟩
abbrev S8192x512 : Shape := ⟨2, ![8192, 512]⟩
abbrev S1024x1024 : Shape := ⟨2, ![1024, 1024]⟩
abbrev S1x6x1024 : Shape := ⟨3, ![1, 6, 1024]⟩
abbrev S1x1x6x1024 : Shape := ⟨4, ![1, 1, 6, 1024]⟩
abbrev S2x6x1024 : Shape := ⟨3, ![2, 6, 1024]⟩
abbrev S2x1x6x1024 : Shape := ⟨4, ![2, 1, 6, 1024]⟩
abbrev S32x256x512 : Shape := ⟨3, ![32, 256, 512]⟩
abbrev S32x256x1024 : Shape := ⟨3, ![32, 256, 1024]⟩
abbrev S2x4096x512 : Shape := ⟨3, ![2, 4096, 512]⟩
abbrev S2x4096x1024 : Shape := ⟨3, ![2, 4096, 1024]⟩
abbrev S8192x1024 : Shape := ⟨2, ![8192, 1024]⟩
abbrev S1x1x1x1024 : Shape := ⟨4, ![1, 1, 1, 1024]⟩
abbrev S1x1x1024 : Shape := ⟨3, ![1, 1, 1024]⟩
abbrev S2x1x1x1024 : Shape := ⟨4, ![2, 1, 1, 1024]⟩
abbrev S2x1x1024 : Shape := ⟨3, ![2, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S16384x512, .bf16⟩
  | .hbm, ⟨3, _⟩ => ⟨S8192x512, .bf16⟩
  | .hbm, ⟨4, _⟩ => ⟨S8192x512, .bf16⟩
  | .hbm, ⟨5, _⟩ => ⟨S1024x1024, .f32⟩
  | .hbm, ⟨6, _⟩ => ⟨S1x6x1024, .f32⟩
  | .hbm, ⟨7, _⟩ => ⟨S1x1x6x1024, .f32⟩
  | .hbm, ⟨8, _⟩ => ⟨S2x6x1024, .f32⟩
  | .hbm, ⟨9, _⟩ => ⟨S2x1x6x1024, .f32⟩
  | .hbm, ⟨10, _⟩ => ⟨S16384x512, .f32⟩
  | .hbm, ⟨11, _⟩ => ⟨S8192x512, .f32⟩
  | .hbm, ⟨12, _⟩ => ⟨S32x256x512, .f32⟩
  | .hbm, ⟨13, _⟩ => ⟨S8192x512, .f32⟩
  | .hbm, ⟨14, _⟩ => ⟨S32x256x512, .f32⟩
  | .hbm, ⟨15, _⟩ => ⟨S32x256x1024, .f32⟩
  | .hbm, ⟨16, _⟩ => ⟨S32x256x1024, .f32⟩
  | .hbm, ⟨17, _⟩ => ⟨S8192x512, .f32⟩
  | .hbm, ⟨18, _⟩ => ⟨S2x4096x512, .f32⟩
  | .hbm, ⟨19, _⟩ => ⟨S8192x512, .f32⟩
  | .hbm, ⟨20, _⟩ => ⟨S2x4096x512, .f32⟩
  | .hbm, ⟨21, _⟩ => ⟨S2x4096x1024, .f32⟩
  | .hbm, ⟨22, _⟩ => ⟨S2x4096x1024, .f32⟩
  | .hbm, ⟨23, _⟩ => ⟨S8192x1024, .f32⟩
  | .hbm, ⟨24, _⟩ => ⟨S32x256x1024, .f32⟩
  | .hbm, ⟨25, _⟩ => ⟨S1x1x1x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S32x256x1024, .f32⟩
  | .hbm, ⟨30, _⟩ => ⟨S8192x1024, .f32⟩
  | .hbm, ⟨31, _⟩ => ⟨S2x4096x1024, .f32⟩
  | .hbm, ⟨32, _⟩ => ⟨S2x1x1x1024, .f32⟩
  | .hbm, ⟨33, _⟩ => ⟨S2x1x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S8192x1024, .f32⟩
  | .hbm, ⟨38, _⟩ => ⟨S8192x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel9.lean ====
abbrev S16384x512 : Shape := ⟨2, ![16384, 512]⟩
abbrev S3x512 : Shape := ⟨2, ![3, 512]⟩
abbrev S16x512 : Shape := ⟨2, ![16, 512]⟩
abbrev S256x512 : Shape := ⟨2, ![256, 512]⟩
abbrev S288x512 : Shape := ⟨2, ![288, 512]⟩
abbrev S1x512 : Shape := ⟨2, ![1, 512]⟩

abbrev nBuf : Space → Nat
  | .hbm => 4
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S3x512, .f32⟩
  | .hbm, ⟨3, _⟩ => ⟨S16384x512, .bf16⟩
  | .local _ .vmem, ⟨0, _⟩ => ⟨S16x512, .f32⟩
  | .local _ .vmem, ⟨1, _⟩ => ⟨S16x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S256x512, .f32⟩
  | .local _ .vmem, ⟨7, _⟩ => ⟨S256x512, .f32⟩
  | .local _ .vmem, ⟨8, _⟩ => ⟨S3x512, .f32⟩
  | .local _ .vmem, ⟨9, _⟩ => ⟨S256x512, .bf16⟩
  | .local _ .vmem, ⟨10, _⟩ => ⟨S256x512, .bf16⟩
  | .local _ .vmem, ⟨11, _⟩ => ⟨S288x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S16384x512 : Shape := ⟨2, ![16384, 512]⟩
abbrev S3x512 : Shape := ⟨2, ![3, 512]⟩
abbrev S8192x512 : Shape := ⟨2, ![8192, 512]⟩
abbrev S32x256x512 : Shape := ⟨3, ![32, 256, 512]⟩
abbrev S_ : Shape := ⟨0, ![]⟩
abbrev S32x258x512 : Shape := ⟨3, ![32, 258, 512]⟩
abbrev S1x512 : Shape := ⟨2, ![1, 512]⟩
abbrev S512 : Shape := ⟨1, ![512]⟩
abbrev S1x1x512 : Shape := ⟨3, ![1, 1, 512]⟩
abbrev S2x4096x512 : Shape := ⟨3, ![2, 4096, 512]⟩
abbrev S2x4098x512 : Shape := ⟨3, ![2, 4098, 512]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S3x512, .f32⟩
  | .hbm, ⟨3, _⟩ => ⟨S8192x512, .f32⟩
  | .hbm, ⟨4, _⟩ => ⟨S32x256x512, .f32⟩
  | .hbm, ⟨5, _⟩ => ⟨S8192x512, .f32⟩
  | .hbm, ⟨6, _⟩ => ⟨S32x256x512, .f32⟩
  | .hbm, ⟨7, _⟩ => ⟨S_, .i32⟩
  | .hbm, ⟨8, _⟩ => ⟨S_, .f32⟩
  | .hbm, ⟨9, _⟩ => ⟨S32x258x512, .f32⟩
  | .hbm, ⟨10, _⟩ => ⟨S1x512, .f32⟩
  | .hbm, ⟨11, _⟩ => ⟨S512, .f32⟩
  | .hbm, ⟨12, _⟩ => ⟨S32x256x512, .f32⟩
  | .hbm, ⟨13, _⟩ => ⟨S1x1x512, .f32⟩
  | .hbm, ⟨14, _⟩ => ⟨S32x256x512, .f32⟩
  | .hbm, ⟨15, _⟩ => ⟨S32x256x512, .f32⟩
  | .hbm, ⟨16, _⟩ => ⟨S_, .f32⟩
  | .hbm, ⟨17, _⟩ => ⟨S32x256x512, .f32⟩
  | .hbm, ⟨18, _⟩ => ⟨S32x256x512, .f32⟩
  | .hbm, ⟨19, _⟩ => ⟨S1x512, .f32⟩
  | .hbm, ⟨20, _⟩ => ⟨S512, .f32⟩
  | .hbm, ⟨21, _⟩ => ⟨S32x256x512, .f32⟩
  | .hbm, ⟨22, _⟩ => ⟨S1x1x512, .f32⟩
  | .hbm, ⟨23, _⟩ => ⟨S32x256x512, .f32⟩
  | .hbm, ⟨24, _⟩ => ⟨S32x256x512, .f32⟩
  | .hbm, ⟨25, _⟩ => ⟨S32x256x512, .f32⟩
  | .hbm, ⟨26, _⟩ => ⟨S1x512, .f32⟩
  | .hbm, ⟨27, _⟩ => ⟨S512, .f32⟩
  | .hbm, ⟨28, _⟩ => ⟨S32x256x512, .f32⟩
  | .hbm, ⟨29, _⟩ => ⟨S1x1x512, .f32⟩
  | .hbm, ⟨30, _⟩ => ⟨S32x256x512, .f32⟩
  | .hbm, ⟨31, _⟩ => ⟨S32x256x512, .f32⟩
  | .hbm, ⟨32, _⟩ => ⟨S32x256x512, .f32⟩
  | .hbm, ⟨33, _⟩ => ⟨S32x256x512, .f32⟩
  | .hbm, ⟨34, _⟩ => ⟨S8192x512, .f32⟩
  | .hbm, ⟨35, _⟩ => ⟨S2x4096x512, .f32⟩
  | .hbm, ⟨36, _⟩ => ⟨S8192x512, .f32⟩
  | .hbm, ⟨37, _⟩ => ⟨S2x4096x512, .f32⟩
  | .hbm, ⟨38, _⟩ => ⟨S_, .i32⟩
  | .hbm, ⟨39, _⟩ => ⟨S_, .f32⟩
  | .hbm, ⟨40, _⟩ => ⟨S2x4098x512, .f32⟩
  | .hbm, ⟨41, _⟩ => ⟨S1x512, .f32⟩
  | .hbm, ⟨42, _⟩ => ⟨S512, .f32⟩
  | .hbm, ⟨43, _⟩ => ⟨S2x4096x512, .f32⟩
  | .hbm, ⟨44, _⟩ => ⟨S1x1x512, .f32⟩
  | .hbm, ⟨45, _⟩ => ⟨S2x4096x512, .f32⟩
  | .hbm, ⟨46, _⟩ => ⟨S2x4096x512, .f32⟩
  | .hbm, ⟨47, _⟩ => ⟨S_, .f32⟩
  | .hbm, ⟨48, _⟩ => ⟨S2x4096x512, .f32⟩
  | .hbm, ⟨49, _⟩ => ⟨S2x4096x512, .f32⟩
  | .hbm, ⟨50, _⟩ => ⟨S1x512, .f32⟩
  | .hbm, ⟨51, _⟩ => ⟨S512, .f32⟩
  | .hbm, ⟨52, _⟩ => ⟨S2x4096x512, .f32⟩
  | .hbm, ⟨53, _⟩ => ⟨S1x1x512, .f32⟩
  | .hbm, ⟨54, _⟩ => ⟨S2x4096x512, .f32⟩
  | .hbm, ⟨55, _⟩ => ⟨S2x4096x512, .f32⟩
  | .hbm, ⟨56, _⟩ => ⟨S2x4096x512, .f32⟩
  | .hbm, ⟨57, _⟩ => ⟨S1x512, .f32⟩
  | .hbm, ⟨58, _⟩ => ⟨S512, .f32⟩
  | .hbm, ⟨59, _⟩ => ⟨S2x4096x512, .f32⟩
  | .hbm, ⟨60, _⟩ => ⟨S1x1x512, .f32⟩
  | .hbm, ⟨61, _⟩ => ⟨S2x4096x512, .f32⟩
  | .hbm, ⟨62, _⟩ => ⟨S2x4096x512, .f32⟩
  | .hbm, ⟨63, _⟩ => ⟨S2x4096x512, .f32⟩
  | .hbm, ⟨64, _⟩ => ⟨S2x4096x512, .f32⟩
  | .hbm, ⟨65, _⟩ => ⟨S8192x512, .f32⟩
  | .hbm, ⟨66, _⟩ => ⟨S8192x512, .f32⟩
  | .hbm, ⟨67, _⟩ => ⟨S16384x512, .f32⟩
  | .hbm, ⟨68, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_0 : Ref sig .tc := ⟨.hbm, 38, rfl⟩
abbrev main_call1_v0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩

abbrev nD : Nat := 1
abbrev τ : Topo := Topo.v7x

variable {F : FTy → Type} [FloatOps F]
-- ==== Kernel10.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 76
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S8x1024, .f32⟩
  | .hbm, ⟨38, _⟩ => ⟨S8x1024, .f32⟩
  | .hbm, ⟨39, _⟩ => ⟨S_, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S1x1024x6144, .f32⟩
  | .hbm, ⟨47, _⟩ => ⟨S1024x6144, .f32⟩
  | .hbm, ⟨48, _⟩ => ⟨S8x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S8x6144, .f32⟩
  | .hbm, ⟨53, _⟩ => ⟨S8x6144, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8x1024, .f32⟩
  | .hbm, ⟨58, _⟩ => ⟨S8x1024, .f32⟩
  | .hbm, ⟨59, _⟩ => ⟨S_, .f32⟩
  | .hbm, ⟨60, _⟩ => ⟨S8x1024, .f32⟩
  | .hbm, ⟨61, _⟩ => ⟨S8x1024, .f32⟩
  | .hbm, ⟨62, _⟩ => ⟨S8x1024, .f32⟩
  | .hbm, ⟨63, _⟩ => ⟨S1x1024x6144, .f32⟩
  | .hbm, ⟨64, _⟩ => ⟨S1024x6144, .f32⟩
  | .hbm, ⟨65, _⟩ => ⟨S8x6144, .f32⟩
  | .hbm, ⟨66, _⟩ => ⟨S1x6144, .f32⟩
  | .hbm, ⟨67, _⟩ => ⟨S6144, .f32⟩
  | .hbm, ⟨68, _⟩ => ⟨S1x6144, .f32⟩
  | .hbm, ⟨69, _⟩ => ⟨S8x6144, .f32⟩
  | .hbm, ⟨70, _⟩ => ⟨S8x6144, .f32⟩
  | .hbm, ⟨71, _⟩ => ⟨S1x8x6144, .f32⟩
  | .hbm, ⟨72, _⟩ => ⟨S1x8x6144, .f32⟩
  | .hbm, ⟨73, _⟩ => ⟨S1x8x6144, .f32⟩
  | .hbm, ⟨74, _⟩ => ⟨S1x8x6144, .f32⟩
  | .hbm, ⟨75, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Kernel11.lean ====
abbrev S16384x512 : Shape := ⟨2, ![16384, 512]⟩
abbrev S128x128 : Shape := ⟨2, ![128, 128]⟩
abbrev S256x256 : Shape := ⟨2, ![256, 256]⟩
abbrev S4x4 : Shape := ⟨2, ![4, 4]⟩
abbrev S_ : Shape := ⟨0, ![]⟩
abbrev S4x128x4 : Shape := ⟨3, ![4, 128, 4]⟩
abbrev S512x4 : Shape := ⟨2, ![512, 4]⟩
abbrev S512x4x128 : Shape := ⟨3, ![512, 4, 128]⟩
abbrev S512x512 : Shape := ⟨2, ![512, 512]⟩
abbrev S1x128x1x128 : Shape := ⟨4, ![1, 128, 1, 128]⟩
abbrev S4x128x4x128 : Shape := ⟨4, ![4, 128, 4, 128]⟩
abbrev S8192x512 : Shape := ⟨2, ![8192, 512]⟩
abbrev S256x512 : Shape := ⟨2, ![256, 512]⟩

abbrev nBuf : Space → Nat
  | .hbm => 40
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S128x128, .f32⟩
  | .hbm, ⟨2, _⟩ => ⟨S128x128, .f32⟩
  | .hbm, ⟨3, _⟩ => ⟨S256x256, .f32⟩
  | .hbm, ⟨4, _⟩ => ⟨S256x256, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S4x128x4, .f32⟩
  | .hbm, ⟨13, _⟩ => ⟨S512x4, .f32⟩
  | .hbm, ⟨14, _⟩ => ⟨S512x4x128, .f32⟩
  | .hbm, ⟨15, _⟩ => ⟨S512x512, .f32⟩
  | .hbm, ⟨16, _⟩ => ⟨S1x128x1x128, .f32⟩
  | .hbm, ⟨17, _⟩ => ⟨S4x128x4x128, .f32⟩
  | .hbm, ⟨18, _⟩ => ⟨S512x512, .f32⟩
  | .hbm, ⟨19, _⟩ => ⟨S512x512, .f32⟩
  | .hbm, ⟨20, _⟩ => ⟨S512x512, .bf16⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .f32⟩
  | .hbm, ⟨28, _⟩ => ⟨S4x128x4, .f32⟩
  | .hbm, ⟨29, _⟩ => ⟨S512x4, .f32⟩
  | .hbm, ⟨30, _⟩ => ⟨S512x4x128, .f32⟩
  | .hbm, ⟨31, _⟩ => ⟨S512x512, .f32⟩
  | .hbm, ⟨32, _⟩ => ⟨S1x128x1x128, .f32⟩
  | .hbm, ⟨33, _⟩ => ⟨S4x128x4x128, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S256x256, .bf16⟩
  | .hbm, ⟨38, _⟩ => ⟨S256x256, .bf16⟩
  | .hbm, ⟨39, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S512x512, .bf16⟩
  | .local _ .vmem, ⟨3, _⟩ => ⟨S512x512, .bf16⟩
  | .local _ .vmem, ⟨4, _⟩ => ⟨S256x256, .bf16⟩
  | .local _ .vmem, ⟨5, _⟩ => ⟨S256x256, .bf16⟩
  | .local _ .vmem, ⟨6, _⟩ => ⟨S256x512, .bf16⟩
  | .local _ .vmem, ⟨7, _⟩ => ⟨S256x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S16384x512 : Shape := ⟨2, ![16384, 512]⟩
abbrev S128x128 : Shape := ⟨2, ![128, 128]⟩
abbrev S256x256 : Shape := ⟨2, ![256, 256]⟩
abbrev S8192x512 : Shape := ⟨2, ![8192, 512]⟩
abbrev S32x256x512 : Shape := ⟨3, ![32, 256, 512]⟩
abbrev S32x256x4x128 : Shape := ⟨4, ![32, 256, 4, 128]⟩
abbrev S32x4x128x256 : Shape := ⟨4, ![32, 4, 128, 256]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S128x128, .f32⟩
  | .hbm, ⟨2, _⟩ => ⟨S128x128, .f32⟩
  | .hbm, ⟨3, _⟩ => ⟨S256x256, .f32⟩
  | .hbm, ⟨4, _⟩ => ⟨S256x256, .f32⟩
  | .hbm, ⟨5, _⟩ => ⟨S8192x512, .bf16⟩
  | .hbm, ⟨6, _⟩ => ⟨S32x256x512, .bf16⟩
  | .hbm, ⟨7, _⟩ => ⟨S32x256x4x128, .bf16⟩
  | .hbm, ⟨8, _⟩ => ⟨S32x256x4x128, .f32⟩
  | .hbm, ⟨9, _⟩ => ⟨S32x256x4x128, .f32⟩
  | .hbm, ⟨10, _⟩ => ⟨S32x4x128x256, .f32⟩
  | .hbm, ⟨11, _⟩ => ⟨S32x256x4x128, .f32⟩
  | .hbm, ⟨12, _⟩ => ⟨S32x256x4x128, .f32⟩
  | .hbm, ⟨13, _⟩ => ⟨S32x4x128x256, .f32⟩
  | .hbm, ⟨14, _⟩ => ⟨S32x256x4x128, .f32⟩
  | .hbm, ⟨15, _⟩ => ⟨S32x256x4x128, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S16384x512 : Shape := ⟨2, ![16384, 512]⟩
abbrev S128x128 : Shape := ⟨2, ![128, 128]⟩
abbrev S4096x4096 : Shape := ⟨2, ![4096, 4096]⟩
abbrev S4x4 : Shape := ⟨2, ![4, 4]⟩
abbrev S_ : Shape := ⟨0, ![]⟩
abbrev S4x128x4 : Shape := ⟨3, ![4, 128, 4]⟩
abbrev S512x4 : Shape := ⟨2, ![512, 4]⟩
abbrev S512x4x128 : Shape := ⟨3, ![512, 4, 128]⟩
abbrev S512x512 : Shape := ⟨2, ![512, 512]⟩
abbrev S1x128x1x128 : Shape := ⟨4, ![1, 128, 1, 128]⟩
abbrev S4x128x4x128 : Shape := ⟨4, ![4, 128, 4, 128]⟩
abbrev S8192x512 : Shape := ⟨2, ![8192, 512]⟩
abbrev S4096x512 : Shape := ⟨2, ![4096, 512]⟩
abbrev S256x4096 : Shape := ⟨2, ![256, 4096]⟩
abbrev S256x512 : Shape := ⟨2, ![256, 512]⟩

abbrev nBuf : Space → Nat
  | .hbm => 38
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S128x128, .f32⟩
  | .hbm, ⟨2, _⟩ => ⟨S128x128, .f32⟩
  | .hbm, ⟨3, _⟩ => ⟨S4096x4096, .bf16⟩
  | .hbm, ⟨4, _⟩ => ⟨S4096x4096, .bf16⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S4x128x4, .f32⟩
  | .hbm, ⟨13, _⟩ => ⟨S512x4, .f32⟩
  | .hbm, ⟨14, _⟩ => ⟨S512x4x128, .f32⟩
  | .hbm, ⟨15, _⟩ => ⟨S512x512, .f32⟩
  | .hbm, ⟨16, _⟩ => ⟨S1x128x1x128, .f32⟩
  | .hbm, ⟨17, _⟩ => ⟨S4x128x4x128, .f32⟩
  | .hbm, ⟨18, _⟩ => ⟨S512x512, .f32⟩
  | .hbm, ⟨19, _⟩ => ⟨S512x512, .f32⟩
  | .hbm, ⟨20, _⟩ => ⟨S512x512, .bf16⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .f32⟩
  | .hbm, ⟨28, _⟩ => ⟨S4x128x4, .f32⟩
  | .hbm, ⟨29, _⟩ => ⟨S512x4, .f32⟩
  | .hbm, ⟨30, _⟩ => ⟨S512x4x128, .f32⟩
  | .hbm, ⟨31, _⟩ => ⟨S512x512, .f32⟩
  | .hbm, ⟨32, _⟩ => ⟨S1x128x1x128, .f32⟩
  | .hbm, ⟨33, _⟩ => ⟨S4x128x4x128, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S8192x512, .bf16⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x512, .bf16⟩
  | .local _ .vmem, ⟨9, _⟩ => ⟨S256x512, .bf16⟩
  | .local _ .vmem, ⟨10, _⟩ => ⟨S4096x512, .bf16⟩
  | .local _ .vmem, ⟨11, _⟩ => ⟨S4096x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S16384x512 : Shape := ⟨2, ![16384, 512]⟩
abbrev S128x128 : Shape := ⟨2, ![128, 128]⟩
abbrev S4096x4096 : Shape := ⟨2, ![4096, 4096]⟩
abbrev S8192x512 : Shape := ⟨2, ![8192, 512]⟩
abbrev S2x4096x512 : Shape := ⟨3, ![2, 4096, 512]⟩
abbrev S2x4096x4x128 : Shape := ⟨4, ![2, 4096, 4, 128]⟩
abbrev S2x4x128x4096 : Shape := ⟨4, ![2, 4, 128, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S128x128, .f32⟩
  | .hbm, ⟨2, _⟩ => ⟨S128x128, .f32⟩
  | .hbm, ⟨3, _⟩ => ⟨S4096x4096, .bf16⟩
  | .hbm, ⟨4, _⟩ => ⟨S4096x4096, .bf16⟩
  | .hbm, ⟨5, _⟩ => ⟨S8192x512, .bf16⟩
  | .hbm, ⟨6, _⟩ => ⟨S2x4096x512, .bf16⟩
  | .hbm, ⟨7, _⟩ => ⟨S2x4096x4x128, .bf16⟩
  | .hbm, ⟨8, _⟩ => ⟨S2x4096x4x128, .f32⟩
  | .hbm, ⟨9, _⟩ => ⟨S2x4096x4x128, .f32⟩
  | .hbm, ⟨10, _⟩ => ⟨S2x4x128x4096, .f32⟩
  | .hbm, ⟨11, _⟩ => ⟨S2x4096x4x128, .f32⟩
  | .hbm, ⟨12, _⟩ => ⟨S2x4096x4x128, .f32⟩
  | .hbm, ⟨13, _⟩ => ⟨S2x4x128x4096, .f32⟩
  | .hbm, ⟨14, _⟩ => ⟨S2x4096x4x128, .f32⟩
  | .hbm, ⟨15, _⟩ => ⟨S2x4096x4x128, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S16384x512 : Shape := ⟨2, ![16384, 512]⟩
abbrev S31x512 : Shape := ⟨2, ![31, 512]⟩
abbrev S512 : Shape := ⟨1, ![512]⟩
abbrev S1x512 : Shape := ⟨2, ![1, 512]⟩
abbrev S16x512 : Shape := ⟨2, ![16, 512]⟩
abbrev S256x512 : Shape := ⟨2, ![256, 512]⟩
abbrev S288x512 : Shape := ⟨2, ![288, 512]⟩
abbrev S8x280x512 : Shape := ⟨3, ![8, 280, 512]⟩
abbrev S280x512 : Shape := ⟨2, ![280, 512]⟩
abbrev S1x280x512 : Shape := ⟨3, ![1, 280, 512]⟩
abbrev S64x128 : Shape := ⟨2, ![64, 128]⟩
abbrev S1x128 : Shape := ⟨2, ![1, 128]⟩
abbrev S1x64x128 : Shape := ⟨3, ![1, 64, 128]⟩
abbrev S64x512 : Shape := ⟨2, ![64, 512]⟩
abbrev S64 : Shape := ⟨1, ![64]⟩
abbrev S64x1 : Shape := ⟨2, ![64, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S16384x512, .bf16⟩
  | .local _ .vmem, ⟨0, _⟩ => ⟨S16x512, .f32⟩
  | .local _ .vmem, ⟨1, _⟩ => ⟨S16x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S288x512, .f32⟩
  | .local _ .vmem, ⟨13, _⟩ => ⟨S8x280x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S16384x512 : Shape := ⟨2, ![16384, 512]⟩
abbrev S31x512 : Shape := ⟨2, ![31, 512]⟩
abbrev S512 : Shape := ⟨1, ![512]⟩
abbrev S8192x512 : Shape := ⟨2, ![8192, 512]⟩
abbrev S32x256x512 : Shape := ⟨3, ![32, 256, 512]⟩
abbrev S_ : Shape := ⟨0, ![]⟩
abbrev S32x286x512 : Shape := ⟨3, ![32, 286, 512]⟩
abbrev S1x512 : Shape := ⟨2, ![1, 512]⟩
abbrev S1x1x512 : Shape := ⟨3, ![1, 1, 512]⟩
abbrev S32x256 : Shape := ⟨2, ![32, 256]⟩
abbrev S32x256x1 : Shape := ⟨3, ![32, 256, 1]⟩
abbrev S2x4096x512 : Shape := ⟨3, ![2, 4096, 512]⟩
abbrev S2x4126x512 : Shape := ⟨3, ![2, 4126, 512]⟩
abbrev S2x4096 : Shape := ⟨2, ![2, 4096]⟩
abbrev S2x4096x1 : Shape := ⟨3, ![2, 4096, 1]⟩

abbrev nBuf : Space → Nat
  | .hbm => 535
  | .vmem => 0
  | .smem => 0
  | _ => 0

abbrev hbmTy0_0 (i : Nat) : BufTy := match i % 128 with
  | 0 => ⟨S16384x512, .f32⟩
  | 1 => ⟨S31x512, .f32⟩
  | 2 => ⟨S512, .f32⟩
  | 3 => ⟨S512, .f32⟩
  | 4 => ⟨S512, .f32⟩
  | 5 => ⟨S8192x512, .f32⟩
  | 6 => ⟨S32x256x512, .f32⟩
  | 7 => ⟨S_, .i32⟩
  | 8 => ⟨S_, .f32⟩
  | 9 => ⟨S32x286x512, .f32⟩
  | 10 => ⟨S1x512, .f32⟩
  | 11 => ⟨S512, .f32⟩
  | 12 => ⟨S32x256x512, .f32⟩
  | 13 => ⟨S1x1x512, .f32⟩
  | 14 => ⟨S32x256x512, .f32⟩
  | 15 => ⟨S32x256x512, .f32⟩
  | 16 => ⟨S_, .f32⟩
  | 17 => ⟨S32x256x512, .f32⟩
  | 18 => ⟨S32x256x512, .f32⟩
  | 19 => ⟨S1x512, .f32⟩
  | 20 => ⟨S512, .f32⟩
  | 21 => ⟨S32x256x512, .f32⟩
  | 22 => ⟨S1x1x512, .f32⟩
  | 23 => ⟨S32x256x512, .f32⟩
  | 24 => ⟨S32x256x512, .f32⟩
  | 25 => ⟨S32x256x512, .f32⟩
  | 26 => ⟨S1x512, .f32⟩
  | 27 => ⟨S512, .f32⟩
  | 28 => ⟨S32x256x512, .f32⟩
  | 29 => ⟨S1x1x512, .f32⟩
  | 30 => ⟨S32x256x512, .f32⟩
  | 31 => ⟨S32x256x512, .f32⟩
  | 32 => ⟨S32x256x512, .f32⟩
  | 33 => ⟨S1x512, .f32⟩
  | 34 => ⟨S512, .f32⟩
  | 35 => ⟨S32x256x512, .f32⟩
  | 36 => ⟨S1x1x512, .f32⟩
  | 37 => ⟨S32x256x512, .f32⟩
  | 38 => ⟨S32x256x512, .f32⟩
  | 39 => ⟨S32x256x512, .f32⟩
  | 40 => ⟨S1x512, .f32⟩
  | 41 => ⟨S512, .f32⟩
  | 42 => ⟨S32x256x512, .f32⟩
  | 43 => ⟨S1x1x512, .f32⟩
  | 44 => ⟨S32x256x512, .f32⟩
  | 45 => ⟨S32x256x512, .f32⟩
  | 46 => ⟨S32x256x512, .f32⟩
  | 47 => ⟨S1x512, .f32⟩
  | 48 => ⟨S512, .f32⟩
  | 49 => ⟨S32x256x512, .f32⟩
  | 50 => ⟨S1x1x512, .f32⟩
  | 51 => ⟨S32x256x512, .f32⟩
  | 52 => ⟨S32x256x512, .f32⟩
  | 53 => ⟨S32x256x512, .f32⟩
  | 54 => ⟨S1x512, .f32⟩
  | 55 => ⟨S512, .f32⟩
  | 56 => ⟨S32x256x512, .f32⟩
  | 57 => ⟨S1x1x512, .f32⟩
  | 58 => ⟨S32x256x512, .f32⟩
  | 59 => ⟨S32x256x512, .f32⟩
  | 60 => ⟨S32x256x512, .f32⟩
  | 61 => ⟨S1x512, .f32⟩
  | 62 => ⟨S512, .f32⟩
  | 63 => ⟨S32x256x512, .f32⟩
  | 64 => ⟨S1x1x512, .f32⟩
  | 65 => ⟨S32x256x512, .f32⟩
  | 66 => ⟨S32x256x512, .f32⟩
  | 67 => ⟨S32x256x512, .f32⟩
  | 68 => ⟨S1x512, .f32⟩
  | 69 => ⟨S512, .f32⟩
  | 70 => ⟨S32x256x512, .f32⟩
  | 71 => ⟨S1x1x512, .f32⟩
  | 72 => ⟨S32x256x512, .f32⟩
  | 73 => ⟨S32x256x512, .f32⟩
  | 74 => ⟨S32x256x512, .f32⟩
  | 75 => ⟨S1x512, .f32⟩
  | 76 => ⟨S512, .f32⟩
  | 77 => ⟨S32x256x512, .f32⟩
  | 78 => ⟨S1x1x512, .f32⟩
  | 79 => ⟨S32x256x512, .f32⟩
  | 80 => ⟨S32x256x512, .f32⟩
  | 81 => ⟨S32x256x512, .f32⟩
  | 82 => ⟨S1x512, .f32⟩
  | 83 => ⟨S512, .f32⟩
  | 84 => ⟨S32x256x512, .f32⟩
  | 85 => ⟨S1x1x512, .f32⟩
  | 86 => ⟨S32x256x512, .f32⟩
  | 87 => ⟨S32x256x512, .f32⟩
  | 88 => ⟨S32x256x512, .f32⟩
  | 89 => ⟨S1x512, .f32⟩
  | 90 => ⟨S512, .f32⟩
  | 91 => ⟨S32x256x512, .f32⟩
  | 92 => ⟨S1x1x512, .f32⟩
  | 93 => ⟨S32x256x512, .f32⟩
  | 94 => ⟨S32x256x512, .f32⟩
  | 95 => ⟨S32x256x512, .f32⟩
  | 96 => ⟨S1x512, .f32⟩
  | 97 => ⟨S512, .f32⟩
  | 98 => ⟨S32x256x512, .f32⟩
  | 99 => ⟨S1x1x512, .f32⟩
  | 100 => ⟨S32x256x512, .f32⟩
  | 101 => ⟨S32x256x512, .f32⟩
  | 102 => ⟨S32x256x512, .f32⟩
  | 103 => ⟨S1x512, .f32⟩
  | 104 => ⟨S512, .f32⟩
  | 105 => ⟨S32x256x512, .f32⟩
  | 106 => ⟨S1x1x512, .f32⟩
  | 107 => ⟨S32x256x512, .f32⟩
  | 108 => ⟨S32x256x512, .f32⟩
  | 109 => ⟨S32x256x512, .f32⟩
  | 110 => ⟨S1x512, .f32⟩
  | 111 => ⟨S512, .f32⟩
  | 112 => ⟨S32x256x512, .f32⟩
  | 113 => ⟨S1x1x512, .f32⟩
  | 114 => ⟨S32x256x512, .f32⟩
  | 115 => ⟨S32x256x512, .f32⟩
  | 116 => ⟨S32x256x512, .f32⟩
  | 117 => ⟨S1x512, .f32⟩
  | 118 => ⟨S512, .f32⟩
  | 119 => ⟨S32x256x512, .f32⟩
  | 120 => ⟨S1x1x512, .f32⟩
  | 121 => ⟨S32x256x512, .f32⟩
  | 122 => ⟨S32x256x512, .f32⟩
  | 123 => ⟨S32x256x512, .f32⟩
  | 124 => ⟨S1x512, .f32⟩
  | 125 => ⟨S512, .f32⟩
  | 126 => ⟨S32x256x512, .f32⟩
  | 127 => ⟨S1x1x512, .f32⟩
  | _ => ⟨S16384x512, .f32⟩

abbrev hbmTy0_1 (i : Nat) : BufTy := match i % 128 with
  | 0 => ⟨S32x256x512, .f32⟩
  | 1 => ⟨S32x256x512, .f32⟩
  | 2 => ⟨S32x256x512, .f32⟩
  | 3 => ⟨S1x512, .f32⟩
  | 4 => ⟨S512, .f32⟩
  | 5 => ⟨S32x256x512, .f32⟩
  | 6 => ⟨S1x1x512, .f32⟩
  | 7 => ⟨S32x256x512, .f32⟩
  | 8 => ⟨S32x256x512, .f32⟩
  | 9 => ⟨S32x256x512, .f32⟩
  | 10 => ⟨S1x512, .f32⟩
  | 11 => ⟨S512, .f32⟩
  | 12 => ⟨S32x256x512, .f32⟩
  | 13 => ⟨S1x1x512, .f32⟩
  | 14 => ⟨S32x256x512, .f32⟩
  | 15 => ⟨S32x256x512, .f32⟩
  | 16 => ⟨S32x256x512, .f32⟩
  | 17 => ⟨S1x512, .f32⟩
  | 18 => ⟨S512, .f32⟩
  | 19 => ⟨S32x256x512, .f32⟩
  | 20 => ⟨S1x1x512, .f32⟩
  | 21 => ⟨S32x256x512, .f32⟩
  | 22 => ⟨S32x256x512, .f32⟩
  | 23 => ⟨S32x256x512, .f32⟩
  | 24 => ⟨S1x512, .f32⟩
  | 25 => ⟨S512, .f32⟩
  | 26 => ⟨S32x256x512, .f32⟩
  | 27 => ⟨S1x1x512, .f32⟩
  | 28 => ⟨S32x256x512, .f32⟩
  | 29 => ⟨S32x256x512, .f32⟩
  | 30 => ⟨S32x256x512, .f32⟩
  | 31 => ⟨S1x512, .f32⟩
  | 32 => ⟨S512, .f32⟩
  | 33 => ⟨S32x256x512, .f32⟩
  | 34 => ⟨S1x1x512, .f32⟩
  | 35 => ⟨S32x256x512, .f32⟩
  | 36 => ⟨S32x256x512, .f32⟩
  | 37 => ⟨S32x256x512, .f32⟩
  | 38 => ⟨S1x512, .f32⟩
  | 39 => ⟨S512, .f32⟩
  | 40 => ⟨S32x256x512, .f32⟩
  | 41 => ⟨S1x1x512, .f32⟩
  | 42 => ⟨S32x256x512, .f32⟩
  | 43 => ⟨S32x256x512, .f32⟩
  | 44 => ⟨S32x256x512, .f32⟩
  | 45 => ⟨S1x512, .f32⟩
  | 46 => ⟨S512, .f32⟩
  | 47 => ⟨S32x256x512, .f32⟩
  | 48 => ⟨S1x1x512, .f32⟩
  | 49 => ⟨S32x256x512, .f32⟩
  | 50 => ⟨S32x256x512, .f32⟩
  | 51 => ⟨S32x256x512, .f32⟩
  | 52 => ⟨S1x512, .f32⟩
  | 53 => ⟨S512, .f32⟩
  | 54 => ⟨S32x256x512, .f32⟩
  | 55 => ⟨S1x1x512, .f32⟩
  | 56 => ⟨S32x256x512, .f32⟩
  | 57 => ⟨S32x256x512, .f32⟩
  | 58 => ⟨S32x256x512, .f32⟩
  | 59 => ⟨S1x512, .f32⟩
  | 60 => ⟨S512, .f32⟩
  | 61 => ⟨S32x256x512, .f32⟩
  | 62 => ⟨S1x1x512, .f32⟩
  | 63 => ⟨S32x256x512, .f32⟩
  | 64 => ⟨S32x256x512, .f32⟩
  | 65 => ⟨S32x256x512, .f32⟩
  | 66 => ⟨S1x512, .f32⟩
  | 67 => ⟨S512, .f32⟩
  | 68 => ⟨S32x256x512, .f32⟩
  | 69 => ⟨S1x1x512, .f32⟩
  | 70 => ⟨S32x256x512, .f32⟩
  | 71 => ⟨S32x256x512, .f32⟩
  | 72 => ⟨S32x256x512, .f32⟩
  | 73 => ⟨S1x512, .f32⟩
  | 74 => ⟨S512, .f32⟩
  | 75 => ⟨S32x256x512, .f32⟩
  | 76 => ⟨S1x1x512, .f32⟩
  | 77 => ⟨S32x256x512, .f32⟩
  | 78 => ⟨S32x256x512, .f32⟩
  | 79 => ⟨S32x256x512, .f32⟩
  | 80 => ⟨S1x512, .f32⟩
  | 81 => ⟨S512, .f32⟩
  | 82 => ⟨S32x256x512, .f32⟩
  | 83 => ⟨S1x1x512, .f32⟩
  | 84 => ⟨S32x256x512, .f32⟩
  | 85 => ⟨S32x256x512, .f32⟩
  | 86 => ⟨S32x256x512, .f32⟩
  | 87 => ⟨S1x512, .f32⟩
  | 88 => ⟨S512, .f32⟩
  | 89 => ⟨S32x256x512, .f32⟩
  | 90 => ⟨S1x1x512, .f32⟩
  | 91 => ⟨S32x256x512, .f32⟩
  | 92 => ⟨S32x256x512, .f32⟩
  | 93 => ⟨S32x256x512, .f32⟩
  | 94 => ⟨S1x512, .f32⟩
  | 95 => ⟨S512, .f32⟩
  | 96 => ⟨S32x256x512, .f32⟩
  | 97 => ⟨S1x1x512, .f32⟩
  | 98 => ⟨S32x256x512, .f32⟩
  | 99 => ⟨S32x256x512, .f32⟩
  | 100 => ⟨S32x256x512, .f32⟩
  | 101 => ⟨S1x1x512, .f32⟩
  | 102 => ⟨S32x256x512, .f32⟩
  | 103 => ⟨S32x256x512, .f32⟩
  | 104 => ⟨S_, .f32⟩
  | 105 => ⟨S32x256, .f32⟩
  | 106 => ⟨S32x256x1, .f32⟩
  | 107 => ⟨S_, .f32⟩
  | 108 => ⟨S32x256x1, .f32⟩
  | 109 => ⟨S32x256x1, .f32⟩
  | 110 => ⟨S32x256x512, .f32⟩
  | 111 => ⟨S32x256x512, .f32⟩
  | 112 => ⟨S32x256x512, .f32⟩
  | 113 => ⟨S_, .f32⟩
  | 114 => ⟨S32x256, .f32⟩
  | 115 => ⟨S32x256x1, .f32⟩
  | 116 => ⟨S_, .f32⟩
  | 117 => ⟨S32x256x1, .f32⟩
  | 118 => ⟨S32x256x1, .f32⟩
  | 119 => ⟨S_, .f32⟩
  | 120 => ⟨S32x256x1, .f32⟩
  | 121 => ⟨S32x256x1, .f32⟩
  | 122 => ⟨S32x256x1, .f32⟩
  | 123 => ⟨S32x256x512, .f32⟩
  | 124 => ⟨S32x256x512, .f32⟩
  | 125 => ⟨S1x1x512, .f32⟩
  | 126 => ⟨S32x256x512, .f32⟩
  | 127 => ⟨S32x256x512, .f32⟩
  | _ => ⟨S16384x512, .f32⟩

abbrev hbmTy0_2 (i : Nat) : BufTy := match i % 128 with
  | 0 => ⟨S1x1x512, .f32⟩
  | 1 => ⟨S32x256x512, .f32⟩
  | 2 => ⟨S32x256x512, .f32⟩
  | 3 => ⟨S32x256x512, .f32⟩
  | 4 => ⟨S32x256x512, .f32⟩
  | 5 => ⟨S_, .f32⟩
  | 6 => ⟨S32x256x512, .f32⟩
  | 7 => ⟨S32x256x512, .f32⟩
  | 8 => ⟨S_, .f32⟩
  | 9 => ⟨S32x256x512, .f32⟩
  | 10 => ⟨S32x256x512, .f32⟩
  | 11 => ⟨S32x256x512, .f32⟩
  | 12 => ⟨S8192x512, .f32⟩
  | 13 => ⟨S2x4096x512, .f32⟩
  | 14 => ⟨S_, .i32⟩
  | 15 => ⟨S_, .f32⟩
  | 16 => ⟨S2x4126x512, .f32⟩
  | 17 => ⟨S1x512, .f32⟩
  | 18 => ⟨S512, .f32⟩
  | 19 => ⟨S2x4096x512, .f32⟩
  | 20 => ⟨S1x1x512, .f32⟩
  | 21 => ⟨S2x4096x512, .f32⟩
  | 22 => ⟨S2x4096x512, .f32⟩
  | 23 => ⟨S_, .f32⟩
  | 24 => ⟨S2x4096x512, .f32⟩
  | 25 => ⟨S2x4096x512, .f32⟩
  | 26 => ⟨S1x512, .f32⟩
  | 27 => ⟨S512, .f32⟩
  | 28 => ⟨S2x4096x512, .f32⟩
  | 29 => ⟨S1x1x512, .f32⟩
  | 30 => ⟨S2x4096x512, .f32⟩
  | 31 => ⟨S2x4096x512, .f32⟩
  | 32 => ⟨S2x4096x512, .f32⟩
  | 33 => ⟨S1x512, .f32⟩
  | 34 => ⟨S512, .f32⟩
  | 35 => ⟨S2x4096x512, .f32⟩
  | 36 => ⟨S1x1x512, .f32⟩
  | 37 => ⟨S2x4096x512, .f32⟩
  | 38 => ⟨S2x4096x512, .f32⟩
  | 39 => ⟨S2x4096x512, .f32⟩
  | 40 => ⟨S1x512, .f32⟩
  | 41 => ⟨S512, .f32⟩
  | 42 => ⟨S2x4096x512, .f32⟩
  | 43 => ⟨S1x1x512, .f32⟩
  | 44 => ⟨S2x4096x512, .f32⟩
  | 45 => ⟨S2x4096x512, .f32⟩
  | 46 => ⟨S2x4096x512, .f32⟩
  | 47 => ⟨S1x512, .f32⟩
  | 48 => ⟨S512, .f32⟩
  | 49 => ⟨S2x4096x512, .f32⟩
  | 50 => ⟨S1x1x512, .f32⟩
  | 51 => ⟨S2x4096x512, .f32⟩
  | 52 => ⟨S2x4096x512, .f32⟩
  | 53 => ⟨S2x4096x512, .f32⟩
  | 54 => ⟨S1x512, .f32⟩
  | 55 => ⟨S512, .f32⟩
  | 56 => ⟨S2x4096x512, .f32⟩
  | 57 => ⟨S1x1x512, .f32⟩
  | 58 => ⟨S2x4096x512, .f32⟩
  | 59 => ⟨S2x4096x512, .f32⟩
  | 60 => ⟨S2x4096x512, .f32⟩
  | 61 => ⟨S1x512, .f32⟩
  | 62 => ⟨S512, .f32⟩
  | 63 => ⟨S2x4096x512, .f32⟩
  | 64 => ⟨S1x1x512, .f32⟩
  | 65 => ⟨S2x4096x512, .f32⟩
  | 66 => ⟨S2x4096x512, .f32⟩
  | 67 => ⟨S2x4096x512, .f32⟩
  | 68 => ⟨S1x512, .f32⟩
  | 69 => ⟨S512, .f32⟩
  | 70 => ⟨S2x4096x512, .f32⟩
  | 71 => ⟨S1x1x512, .f32⟩
  | 72 => ⟨S2x4096x512, .f32⟩
  | 73 => ⟨S2x4096x512, .f32⟩
  | 74 => ⟨S2x4096x512, .f32⟩
  | 75 => ⟨S1x512, .f32⟩
  | 76 => ⟨S512, .f32⟩
  | 77 => ⟨S2x4096x512, .f32⟩
  | 78 => ⟨S1x1x512, .f32⟩
  | 79 => ⟨S2x4096x512, .f32⟩
  | 80 => ⟨S2x4096x512, .f32⟩
  | 81 => ⟨S2x4096x512, .f32⟩
  | 82 => ⟨S1x512, .f32⟩
  | 83 => ⟨S512, .f32⟩
  | 84 => ⟨S2x4096x512, .f32⟩
  | 85 => ⟨S1x1x512, .f32⟩
  | 86 => ⟨S2x4096x512, .f32⟩
  | 87 => ⟨S2x4096x512, .f32⟩
  | 88 => ⟨S2x4096x512, .f32⟩
  | 89 => ⟨S1x512, .f32⟩
  | 90 => ⟨S512, .f32⟩
  | 91 => ⟨S2x4096x512, .f32⟩
  | 92 => ⟨S1x1x512, .f32⟩
  | 93 => ⟨S2x4096x512, .f32⟩
  | 94 => ⟨S2x4096x512, .f32⟩
  | 95 => ⟨S2x4096x512, .f32⟩
  | 96 => ⟨S1x512, .f32⟩
  | 97 => ⟨S512, .f32⟩
  | 98 => ⟨S2x4096x512, .f32⟩
  | 99 => ⟨S1x1x512, .f32⟩
  | 100 => ⟨S2x4096x512, .f32⟩
  | 101 => ⟨S2x4096x512, .f32⟩
  | 102 => ⟨S2x4096x512, .f32⟩
  | 103 => ⟨S1x512, .f32⟩
  | 104 => ⟨S512, .f32⟩
  | 105 => ⟨S2x4096x512, .f32⟩
  | 106 => ⟨S1x1x512, .f32⟩
  | 107 => ⟨S2x4096x512, .f32⟩
  | 108 => ⟨S2x4096x512, .f32⟩
  | 109 => ⟨S2x4096x512, .f32⟩
  | 110 => ⟨S1x512, .f32⟩
  | 111 => ⟨S512, .f32⟩
  | 112 => ⟨S2x4096x512, .f32⟩
  | 113 => ⟨S1x1x512, .f32⟩
  | 114 => ⟨S2x4096x512, .f32⟩
  | 115 => ⟨S2x4096x512, .f32⟩
  | 116 => ⟨S2x4096x512, .f32⟩
  | 117 => ⟨S1x512, .f32⟩
  | 118 => ⟨S512, .f32⟩
  | 119 => ⟨S2x4096x512, .f32⟩
  | 120 => ⟨S1x1x512, .f32⟩
  | 121 => ⟨S2x4096x512, .f32⟩
  | 122 => ⟨S2x4096x512, .f32⟩
  | 123 => ⟨S2x4096x512, .f32⟩
  | 124 => ⟨S1x512, .f32⟩
  | 125 => ⟨S512, .f32⟩
  | 126 => ⟨S2x4096x512, .f32⟩
  | 127 => ⟨S1x1x512, .f32⟩
  | _ => ⟨S16384x512, .f32⟩

abbrev hbmTy0_3 (i : Nat) : BufTy := match i % 128 with
  | 0 => ⟨S2x4096x512, .f32⟩
  | 1 => ⟨S2x4096x512, .f32⟩
  | 2 => ⟨S2x4096x512, .f32⟩
  | 3 => ⟨S1x512, .f32⟩
  | 4 => ⟨S512, .f32⟩
  | 5 => ⟨S2x4096x512, .f32⟩
  | 6 => ⟨S1x1x512, .f32⟩
  | 7 => ⟨S2x4096x512, .f32⟩
  | 8 => ⟨S2x4096x512, .f32⟩
  | 9 => ⟨S2x4096x512, .f32⟩
  | 10 => ⟨S1x512, .f32⟩
  | 11 => ⟨S512, .f32⟩
  | 12 => ⟨S2x4096x512, .f32⟩
  | 13 => ⟨S1x1x512, .f32⟩
  | 14 => ⟨S2x4096x512, .f32⟩
  | 15 => ⟨S2x4096x512, .f32⟩
  | 16 => ⟨S2x4096x512, .f32⟩
  | 17 => ⟨S1x512, .f32⟩
  | 18 => ⟨S512, .f32⟩
  | 19 => ⟨S2x4096x512, .f32⟩
  | 20 => ⟨S1x1x512, .f32⟩
  | 21 => ⟨S2x4096x512, .f32⟩
  | 22 => ⟨S2x4096x512, .f32⟩
  | 23 => ⟨S2x4096x512, .f32⟩
  | 24 => ⟨S1x512, .f32⟩
  | 25 => ⟨S512, .f32⟩
  | 26 => ⟨S2x4096x512, .f32⟩
  | 27 => ⟨S1x1x512, .f32⟩
  | 28 => ⟨S2x4096x512, .f32⟩
  | 29 => ⟨S2x4096x512, .f32⟩
  | 30 => ⟨S2x4096x512, .f32⟩
  | 31 => ⟨S1x512, .f32⟩
  | 32 => ⟨S512, .f32⟩
  | 33 => ⟨S2x4096x512, .f32⟩
  | 34 => ⟨S1x1x512, .f32⟩
  | 35 => ⟨S2x4096x512, .f32⟩
  | 36 => ⟨S2x4096x512, .f32⟩
  | 37 => ⟨S2x4096x512, .f32⟩
  | 38 => ⟨S1x512, .f32⟩
  | 39 => ⟨S512, .f32⟩
  | 40 => ⟨S2x4096x512, .f32⟩
  | 41 => ⟨S1x1x512, .f32⟩
  | 42 => ⟨S2x4096x512, .f32⟩
  | 43 => ⟨S2x4096x512, .f32⟩
  | 44 => ⟨S2x4096x512, .f32⟩
  | 45 => ⟨S1x512, .f32⟩
  | 46 => ⟨S512, .f32⟩
  | 47 => ⟨S2x4096x512, .f32⟩
  | 48 => ⟨S1x1x512, .f32⟩
  | 49 => ⟨S2x4096x512, .f32⟩
  | 50 => ⟨S2x4096x512, .f32⟩
  | 51 => ⟨S2x4096x512, .f32⟩
  | 52 => ⟨S1x512, .f32⟩
  | 53 => ⟨S512, .f32⟩
  | 54 => ⟨S2x4096x512, .f32⟩
  | 55 => ⟨S1x1x512, .f32⟩
  | 56 => ⟨S2x4096x512, .f32⟩
  | 57 => ⟨S2x4096x512, .f32⟩
  | 58 => ⟨S2x4096x512, .f32⟩
  | 59 => ⟨S1x512, .f32⟩
  | 60 => ⟨S512, .f32⟩
  | 61 => ⟨S2x4096x512, .f32⟩
  | 62 => ⟨S1x1x512, .f32⟩
  | 63 => ⟨S2x4096x512, .f32⟩
  | 64 => ⟨S2x4096x512, .f32⟩
  | 65 => ⟨S2x4096x512, .f32⟩
  | 66 => ⟨S1x512, .f32⟩
  | 67 => ⟨S512, .f32⟩
  | 68 => ⟨S2x4096x512, .f32⟩
  | 69 => ⟨S1x1x512, .f32⟩
  | 70 => ⟨S2x4096x512, .f32⟩
  | 71 => ⟨S2x4096x512, .f32⟩
  | 72 => ⟨S2x4096x512, .f32⟩
  | 73 => ⟨S1x512, .f32⟩
  | 74 => ⟨S512, .f32⟩
  | 75 => ⟨S2x4096x512, .f32⟩
  | 76 => ⟨S1x1x512, .f32⟩
  | 77 => ⟨S2x4096x512, .f32⟩
  | 78 => ⟨S2x4096x512, .f32⟩
  | 79 => ⟨S2x4096x512, .f32⟩
  | 80 => ⟨S1x512, .f32⟩
  | 81 => ⟨S512, .f32⟩
  | 82 => ⟨S2x4096x512, .f32⟩
  | 83 => ⟨S1x1x512, .f32⟩
  | 84 => ⟨S2x4096x512, .f32⟩
  | 85 => ⟨S2x4096x512, .f32⟩
  | 86 => ⟨S2x4096x512, .f32⟩
  | 87 => ⟨S1x512, .f32⟩
  | 88 => ⟨S512, .f32⟩
  | 89 => ⟨S2x4096x512, .f32⟩
  | 90 => ⟨S1x1x512, .f32⟩
  | 91 => ⟨S2x4096x512, .f32⟩
  | 92 => ⟨S2x4096x512, .f32⟩
  | 93 => ⟨S2x4096x512, .f32⟩
  | 94 => ⟨S1x512, .f32⟩
  | 95 => ⟨S512, .f32⟩
  | 96 => ⟨S2x4096x512, .f32⟩
  | 97 => ⟨S1x1x512, .f32⟩
  | 98 => ⟨S2x4096x512, .f32⟩
  | 99 => ⟨S2x4096x512, .f32⟩
  | 100 => ⟨S2x4096x512, .f32⟩
  | 101 => ⟨S1x512, .f32⟩
  | 102 => ⟨S512, .f32⟩
  | 103 => ⟨S2x4096x512, .f32⟩
  | 104 => ⟨S1x1x512, .f32⟩
  | 105 => ⟨S2x4096x512, .f32⟩
  | 106 => ⟨S2x4096x512, .f32⟩
  | 107 => ⟨S2x4096x512, .f32⟩
  | 108 => ⟨S1x1x512, .f32⟩
  | 109 => ⟨S2x4096x512, .f32⟩
  | 110 => ⟨S2x4096x512, .f32⟩
  | 111 => ⟨S_, .f32⟩
  | 112 => ⟨S2x4096, .f32⟩
  | 113 => ⟨S2x4096x1, .f32⟩
  | 114 => ⟨S_, .f32⟩
  | 115 => ⟨S2x4096x1, .f32⟩
  | 116 => ⟨S2x4096x1, .f32⟩
  | 117 => ⟨S2x4096x512, .f32⟩
  | 118 => ⟨S2x4096x512, .f32⟩
  | 119 => ⟨S2x4096x512, .f32⟩
  | 120 => ⟨S_, .f32⟩
  | 121 => ⟨S2x4096, .f32⟩
  | 122 => ⟨S2x4096x1, .f32⟩
  | 123 => ⟨S_, .f32⟩
  | 124 => ⟨S2x4096x1, .f32⟩
  | 125 => ⟨S2x4096x1, .f32⟩
  | 126 => ⟨S_, .f32⟩
  | 127 => ⟨S2x4096x1, .f32⟩
  | _ => ⟨S16384x512, .f32⟩

abbrev hbmTy0_4 (i : Nat) : BufTy := match i % 128 with
  | 0 => ⟨S2x4096x1, .f32⟩
  | 1 => ⟨S2x4096x1, .f32⟩
  | 2 => ⟨S2x4096x512, .f32⟩
  | 3 => ⟨S2x4096x512, .f32⟩
  | 4 => ⟨S1x1x512, .f32⟩
  | 5 => ⟨S2x4096x512, .f32⟩
  | 6 => ⟨S2x4096x512, .f32⟩
  | 7 => ⟨S1x1x512, .f32⟩
  | 8 => ⟨S2x4096x512, .f32⟩
  | 9 => ⟨S2x4096x512, .f32⟩
  | 10 => ⟨S2x4096x512, .f32⟩
  | 11 => ⟨S2x4096x512, .f32⟩
  | 12 => ⟨S_, .f32⟩
  | 13 => ⟨S2x4096x512, .f32⟩
  | 14 => ⟨S2x4096x512, .f32⟩
  | 15 => ⟨S_, .f32⟩
  | 16 => ⟨S2x4096x512, .f32⟩
  | 17 => ⟨S2x4096x512, .f32⟩
  | 18 => ⟨S2x4096x512, .f32⟩
  | 19 => ⟨S8192x512, .f32⟩
  | 20 => ⟨S8192x512, .f32⟩
  | 21 => ⟨S16384x512, .f32⟩
  | 22 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_cst_0 : Ref sig .tc := ⟨.hbm, 232, rfl⟩
abbrev main_v224 : Ref sig .tc := ⟨.hbm, 233, rfl⟩
abbrev main_v225 : Ref sig .tc := ⟨.hbm, 234, rfl⟩
abbrev main_cst_1 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_cst_2 : Ref sig .tc := ⟨.hbm, 241, rfl⟩
abbrev main_v231 : Ref sig .tc := ⟨.hbm, 242, rfl⟩
abbrev main_v232 : Ref sig .tc := ⟨.hbm, 243, rfl⟩
abbrev main_cst_3 : Ref sig .tc := ⟨.hbm, 244, rfl⟩
abbrev main_v233 : Ref sig .tc := ⟨.hbm, 245, rfl⟩
abbrev main_v234 : Ref sig .tc := ⟨.hbm, 246, rfl⟩
abbrev main_cst_4 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_call1_v0 : Ref sig .tc := ⟨.hbm, 259, rfl⟩
abbrev main_call1_v1 : Ref sig .tc := ⟨.hbm, 260, rfl⟩
abbrev main_call1_cst : Ref sig .tc := ⟨.hbm, 261, rfl⟩
abbrev main_call1_v2 : Ref sig .tc := ⟨.hbm, 262, rfl⟩
abbrev main_call1_v3 : Ref sig .tc := ⟨.hbm, 263, rfl⟩
abbrev main_call1_cst_0 : Ref sig .tc := ⟨.hbm, 264, rfl⟩
abbrev main_call1_v4 : Ref sig .tc := ⟨.hbm, 265, rfl⟩
abbrev main_call1_v5 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_c_5 : Ref sig .tc := ⟨.hbm, 270, rfl⟩
abbrev main_call2_v0 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_cst_6 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_v372 : Ref sig .tc := ⟨.hbm, 396, rfl⟩
abbrev main_v373 : Ref sig .tc := ⟨.hbm, 397, rfl⟩
abbrev main_v374 : Ref sig .tc := ⟨.hbm, 398, rfl⟩
abbrev main_v375 : Ref sig .tc := ⟨.hbm, 399, rfl⟩
abbrev main_v376 : Ref sig .tc := ⟨.hbm, 400, rfl⟩
abbrev main_v377 : Ref sig .tc := ⟨.hbm, 401, rfl⟩
abbrev main_v378 : Ref sig .tc := ⟨.hbm, 402, rfl⟩
abbrev main_v379 : Ref sig .tc := ⟨.hbm, 403, rfl⟩
abbrev main_v380 : Ref sig .tc := ⟨.hbm, 404, rfl⟩
abbrev main_v381 : Ref sig .tc := ⟨.hbm, 405, rfl⟩
abbrev main_v382 : Ref sig .tc := ⟨.hbm, 406, rfl⟩
abbrev main_v383 : Ref sig .tc := ⟨.hbm, 407, rfl⟩
abbrev main_v384 : Ref sig .tc := ⟨.hbm, 408, rfl⟩
abbrev main_v385 : Ref sig .tc := ⟨.hbm, 409, rfl⟩
abbrev main_v386 : Ref sig .tc := ⟨.hbm, 410, rfl⟩
abbrev main_v387 : Ref sig .tc := ⟨.hbm, 411, rfl⟩
abbrev main_v388 : Ref sig .tc := ⟨.hbm, 412, rfl⟩
abbrev main_v389 : Ref sig .tc := ⟨.hbm, 413, rfl⟩
abbrev main_v390 : Ref sig .tc := ⟨.hbm, 414, rfl⟩
abbrev main_v391 : Ref sig .tc := ⟨.hbm, 415, rfl⟩
abbrev main_v392 : Ref sig .tc := ⟨.hbm, 416, rfl⟩
abbrev main_v393 : Ref sig .tc := ⟨.hbm, 417, rfl⟩
abbrev main_v394 : Ref sig .tc := ⟨.hbm, 418, rfl⟩
abbrev main_v395 : Ref sig .tc := ⟨.hbm, 419, rfl⟩
abbrev main_v396 : Ref sig .tc := ⟨.hbm, 420, rfl⟩
abbrev main_v397 : Ref sig .tc := ⟨.hbm, 421, rfl⟩
abbrev main_v398 : Ref sig .tc := ⟨.hbm, 422, rfl⟩
abbrev main_v399 : Ref sig .tc := ⟨.hbm, 423, rfl⟩
abbrev main_v400 : Ref sig .tc := ⟨.hbm, 424, rfl⟩
abbrev main_v401 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_v405 : Ref sig .tc := ⟨.hbm, 429, rfl⟩
abbrev main_v406 : Ref sig .tc := ⟨.hbm, 430, rfl⟩
abbrev main_v407 : Ref sig .tc := ⟨.hbm, 431, rfl⟩
abbrev main_v408 : Ref sig .tc := ⟨.hbm, 432, rfl⟩
abbrev main_v409 : Ref sig .tc := ⟨.hbm, 433, rfl⟩
abbrev main_v410 : Ref sig .tc := ⟨.hbm, 434, rfl⟩
abbrev main_v411 : Ref sig .tc := ⟨.hbm, 435, rfl⟩
abbrev main_v412 : Ref sig .tc := ⟨.hbm, 436, rfl⟩
abbrev main_v413 : Ref sig .tc := ⟨.hbm, 437, rfl⟩
abbrev main_v414 : Ref sig .tc := ⟨.hbm, 438, rfl⟩
abbrev main_v415 : Ref sig .tc := ⟨.hbm, 439, rfl⟩
abbrev main_v416 : Ref sig .tc := ⟨.hbm, 440, rfl⟩
abbrev main_v417 : Ref sig .tc := ⟨.hbm, 441, rfl⟩
abbrev main_v418 : Ref sig .tc := ⟨.hbm, 442, rfl⟩
abbrev main_v419 : Ref sig .tc := ⟨.hbm, 443, rfl⟩
abbrev main_v420 : Ref sig .tc := ⟨.hbm, 444, rfl⟩
abbrev main_v421 : Ref sig .tc := ⟨.hbm, 445, rfl⟩
abbrev main_v422 : Ref sig .tc := ⟨.hbm, 446, rfl⟩
abbrev main_v423 : Ref sig .tc := ⟨.hbm, 447, rfl⟩
abbrev main_v424 : Ref sig .tc := ⟨.hbm, 448, rfl⟩
abbrev main_v425 : Ref sig .tc := ⟨.hbm, 449, rfl⟩
abbrev main_v426 : Ref sig .tc := ⟨.hbm, 450, rfl⟩
abbrev main_v427 : Ref sig .tc := ⟨.hbm, 451, rfl⟩
abbrev main_v428 : Ref sig .tc := ⟨.hbm, 452, rfl⟩
abbrev main_v429 : Ref sig .tc := ⟨.hbm, 453, rfl⟩
abbrev main_v430 : Ref sig .tc := ⟨.hbm, 454, rfl⟩
abbrev main_v431 : Ref sig .tc := ⟨.hbm, 455, rfl⟩
abbrev main_v432 : Ref sig .tc := ⟨.hbm, 456, rfl⟩
abbrev main_v433 : Ref sig .tc := ⟨.hbm, 457, rfl⟩
abbrev main_v434 : Ref sig .tc := ⟨.hbm, 458, rfl⟩
abbrev main_v435 : Ref sig .tc := ⟨.hbm, 459, rfl⟩
abbrev main_v436 : Ref sig .tc := ⟨.hbm, 460, rfl⟩
abbrev main_v437 : Ref sig .tc := ⟨.hbm, 461, rfl⟩
abbrev main_v438 : Ref sig .tc := ⟨.hbm, 462, rfl⟩
abbrev main_v439 : Ref sig .tc := ⟨.hbm, 463, rfl⟩
abbrev main_v440 : Ref sig .tc := ⟨.hbm, 464, rfl⟩
abbrev main_v441 : Ref sig .tc := ⟨.hbm, 465, rfl⟩
abbrev main_v442 : Ref sig .tc := ⟨.hbm, 466, rfl⟩
abbrev main_v443 : Ref sig .tc := ⟨.hbm, 467, rfl⟩
abbrev main_v444 : Ref sig .tc := ⟨.hbm, 468, rfl⟩
abbrev main_v445 : Ref sig .tc := ⟨.hbm, 469, rfl⟩
abbrev main_v446 : Ref sig .tc := ⟨.hbm, 470, rfl⟩
abbrev main_v447 : Ref sig .tc := ⟨.hbm, 471, rfl⟩
abbrev main_v448 : Ref sig .tc := ⟨.hbm, 472, rfl⟩
abbrev main_v449 : Ref sig .tc := ⟨.hbm, 473, rfl⟩
abbrev main_v450 : Ref sig .tc := ⟨.hbm, 474, rfl⟩
abbrev main_v451 : Ref sig .tc := ⟨.hbm, 475, rfl⟩
abbrev main_v452 : Ref sig .tc := ⟨.hbm, 476, rfl⟩
abbrev main_v453 : Ref sig .tc := ⟨.hbm, 477, rfl⟩
abbrev main_v454 : Ref sig .tc := ⟨.hbm, 478, rfl⟩
abbrev main_v455 : Ref sig .tc := ⟨.hbm, 479, rfl⟩
abbrev main_v456 : Ref sig .tc := ⟨.hbm, 480, rfl⟩
abbrev main_v457 : Ref sig .tc := ⟨.hbm, 481, rfl⟩
abbrev main_v458 : Ref sig .tc := ⟨.hbm, 482, rfl⟩
abbrev main_v459 : Ref sig .tc := ⟨.hbm, 483, rfl⟩
abbrev main_v460 : Ref sig .tc := ⟨.hbm, 484, rfl⟩
abbrev main_v461 : Ref sig .tc := ⟨.hbm, 485, rfl⟩
abbrev main_v462 : Ref sig .tc := ⟨.hbm, 486, rfl⟩
abbrev main_v463 : Ref sig .tc := ⟨.hbm, 487, rfl⟩
abbrev main_v464 : Ref sig .tc := ⟨.hbm, 488, rfl⟩
abbrev main_v465 : Ref sig .tc := ⟨.hbm, 489, rfl⟩
abbrev main_v466 : Ref sig .tc := ⟨.hbm, 490, rfl⟩
abbrev main_v467 : Ref sig .tc := ⟨.hbm, 491, rfl⟩
abbrev main_v468 : Ref sig .tc := ⟨.hbm, 492, rfl⟩
abbrev main_v469 : Ref sig .tc := ⟨.hbm, 493, rfl⟩
abbrev main_v470 : Ref sig .tc := ⟨.hbm, 494, rfl⟩
abbrev main_cst_7 : Ref sig .tc := ⟨.hbm, 495, rfl⟩
abbrev main_v471 : Ref sig .tc := ⟨.hbm, 496, rfl⟩
abbrev main_v472 : Ref sig .tc := ⟨.hbm, 497, rfl⟩
abbrev main_cst_8 : Ref sig .tc := ⟨.hbm, 498, rfl⟩
abbrev main_v473 : Ref sig .tc := ⟨.hbm, 499, rfl⟩
abbrev main_v474 : Ref sig .tc := ⟨.hbm, 500, rfl⟩
abbrev main_v475 : Ref sig .tc := ⟨.hbm, 501, rfl⟩
abbrev main_v476 : Ref sig .tc := ⟨.hbm, 502, rfl⟩
abbrev main_v477 : Ref sig .tc := ⟨.hbm, 503, rfl⟩
abbrev main_cst_9 : Ref sig .tc := ⟨.hbm, 504, rfl⟩
abbrev main_v478 : Ref sig .tc := ⟨.hbm, 505, rfl⟩
abbrev main_v479 : Ref sig .tc := ⟨.hbm, 506, rfl⟩
abbrev main_cst_10 : Ref sig .tc := ⟨.hbm, 507, rfl⟩
abbrev main_v480 : Ref sig .tc := ⟨.hbm, 508, rfl⟩
abbrev main_v481 : Ref sig .tc := ⟨.hbm, 509, rfl⟩
abbrev main_cst_11 : Ref sig .tc := ⟨.hbm, 510, rfl⟩
abbrev main_v482 : Ref sig .tc := ⟨.hbm, 511, rfl⟩
abbrev main_v483 : Ref sig .tc := ⟨.hbm, 512, rfl⟩
abbrev main_v484 : Ref sig .tc := ⟨.hbm, 513, rfl⟩
abbrev main_v485 : Ref sig .tc := ⟨.hbm, 514, rfl⟩
abbrev main_v486 : Ref sig .tc := ⟨.hbm, 515, rfl⟩
abbrev main_v487 : Ref sig .tc := ⟨.hbm, 516, rfl⟩
abbrev main_v488 : Ref sig .tc := ⟨.hbm, 517, rfl⟩
abbrev main_v489 : Ref sig .tc := ⟨.hbm, 518, rfl⟩
abbrev main_v490 : Ref sig .tc := ⟨.hbm, 519, rfl⟩
abbrev main_v491 : Ref sig .tc := ⟨.hbm, 520, rfl⟩
abbrev main_v492 : Ref sig .tc := ⟨.hbm, 521, rfl⟩
abbrev main_call3_v0 : Ref sig .tc := ⟨.hbm, 522, rfl⟩
abbrev main_call3_v1 : Ref sig .tc := ⟨.hbm, 523, rfl⟩
abbrev main_call3_cst : Ref sig .tc := ⟨.hbm, 524, rfl⟩
abbrev main_call3_v2 : Ref sig .tc := ⟨.hbm, 525, rfl⟩
abbrev main_call3_v3 : Ref sig .tc := ⟨.hbm, 526, rfl⟩
abbrev main_call3_cst_0 : Ref sig .tc := ⟨.hbm, 527, rfl⟩
abbrev main_call3_v4 : Ref sig .tc := ⟨.hbm, 528, rfl⟩
abbrev main_call3_v5 : Ref sig .tc := ⟨.hbm, 529, rfl⟩
abbrev main_v493 : Ref sig .tc := ⟨.hbm, 530, rfl⟩
abbrev main_v494 : Ref sig .tc := ⟨.hbm, 531, rfl⟩
abbrev main_v495 : Ref sig .tc := ⟨.hbm, 532, rfl⟩
abbrev main_v496 : Ref sig .tc := ⟨.hbm, 533, rfl⟩
abbrev main_v497 : Ref sig .tc := ⟨.hbm, 534, rfl⟩

abbrev nD : Nat := 1
abbrev τ : Topo := Topo.v7x

variable {F : FTy → Type} [FloatOps F]
-- ==== Kernel14.lean ====
abbrev S64x4096 : Shape := ⟨2, ![64, 4096]⟩
abbrev S64x1x4096 : Shape := ⟨3, ![64, 1, 4096]⟩
abbrev S4096x4096 : Shape := ⟨2, ![4096, 4096]⟩
abbrev S1x1x4096 : Shape := ⟨3, ![1, 1, 4096]⟩
abbrev S1x4096 : Shape := ⟨2, ![1, 4096]⟩

abbrev nBuf : Space → Nat
  | .hbm => 10
  | .vmem => 10
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S64x1x4096, .f32⟩
  | .hbm, ⟨4, _⟩ => ⟨S64x4096, .f32⟩
  | .hbm, ⟨5, _⟩ => ⟨S64x1x4096, .f32⟩
  | .hbm, ⟨6, _⟩ => ⟨S64x4096, .f32⟩
  | .hbm, ⟨7, _⟩ => ⟨S64x4096, .f32⟩
  | .hbm, ⟨8, _⟩ => ⟨S4096x4096, .bf16⟩
  | .hbm, ⟨9, _⟩ => ⟨S4096x4096, .bf16⟩
  | .local _ .vmem, ⟨0, _⟩ => ⟨S1x1x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .bf16⟩
  | .local _ .vmem, ⟨7, _⟩ => ⟨S64x4096, .bf16⟩
  | .local _ .vmem, ⟨8, _⟩ => ⟨S64x4096, .bf16⟩
  | .local _ .vmem, ⟨9, _⟩ => ⟨S64x4096, .bf16⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S64x4096 : Shape := ⟨2, ![64, 4096]⟩
abbrev S64x1x4096 : Shape := ⟨3, ![64, 1, 4096]⟩
abbrev S1x64x4096 : Shape := ⟨3, ![1, 64, 4096]⟩
abbrev S64x64x4096 : Shape := ⟨3, ![64, 64, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x1x4096, .f32⟩
  | .hbm, ⟨3, _⟩ => ⟨S1x64x4096, .f32⟩
  | .hbm, ⟨4, _⟩ => ⟨S64x64x4096, .f32⟩
  | .hbm, ⟨5, _⟩ => ⟨S64x64x4096, .f32⟩
  | .hbm, ⟨6, _⟩ => ⟨S64x64x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .f32⟩
  | .hbm, ⟨11, _⟩ => ⟨S4096x4096, .bf16⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Proof.Softmax.lean ====
/- The mathematics of the attention, over the extended reals and away from any program: a row of finite scores taken in base
   two and divided once at the end is the softmax in base e, divided weight by weight. -/
module

public import Idealize.ShloMosaic.PureOps.Ideal
public import Idealize.ShloMosaic.Lib.Pointwise

@[expose] public section

noncomputable section

namespace Cert.Softmax

open Idealize.ShloMosaic

/-- The scale the kernel multiplies its queries by: the root of the head width inverted, and one over `log 2` so that
    the exponential may be taken in base two. -/
abbrev scale : ℝ := (Real.sqrt 64)⁻¹ * (Real.log 2)⁻¹

/-- One row of attention as the kernel computes it, from its scaled query `q`: two sets of keys and values, one shift for both
    (the largest score), base two, one division at the end. -/
def row₂ {m n d : ℕ} (q : Fin d → EReal) (k₁ : Fin m → Fin d → EReal) (V₁ : Fin m → EReal) (k₂ : Fin n → Fin d → EReal)
    (V₂ : Fin n → EReal) : EReal :=
  let a := fun i => ∑ x, q x * k₁ i x
  let b := fun i => ∑ x, q x * k₂ i x
  let M := max (Finset.univ.fold max ⊥ a) (Finset.univ.fold max ⊥ b)
  Ideal.div ((∑ i, Ideal.exp2 (a i - M) * V₁ i) + ∑ i, Ideal.exp2 (b i - M) * V₂ i)
    ((∑ i, Ideal.exp2 (a i - M)) + ∑ i, Ideal.exp2 (b i - M))

/-- The root of the head width is eight. -/
theorem sqrt_64 : Real.sqrt 64 = 8 := by
  rw [show (64 : ℝ) = 8 ^ 2 by norm_num]
  exact Real.sqrt_sq (by norm_num)

/-- The maximum, from below everything, of a row of finite numbers that is not empty is finite. -/
theorem fold_max_real {n : ℕ} (f : Fin (n + 1) → ℝ) :
    ∃ M : ℝ, (Finset.univ : Finset (Fin (n + 1))).fold max (⊥ : EReal) (fun i => (f i : EReal)) = (M : EReal) := by
  have key : ∀ s : Finset (Fin (n + 1)), s.Nonempty → ∃ M : ℝ, s.fold max (⊥ : EReal) (fun i => (f i : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ Finset.univ_nonempty

/-- The sum of finitely many real numbers is the same among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any finite sum of extended reals. -/
theorem mul_sum_coe {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- The exponential in base two of a score divided by `log 2`, with a shift, is the exponential of the score times a positive
    factor of the shift alone. -/
theorem exp2_shift (σ M : ℝ) :
    Ideal.exp2 ((((Real.log 2)⁻¹ * σ : ℝ) : EReal) - (M : EReal)) = ((Real.exp (-(M * Real.log 2)) * Real.exp σ : ℝ) : EReal) := by
  rw [← EReal.coe_sub]
  show ((Real.rpow 2 _ : ℝ) : EReal) = _
  congr 1
  have hl : Real.log 2 ≠ 0 := (Real.log_pos (by norm_num)).ne'
  show (2 : ℝ) ^ ((Real.log 2)⁻¹ * σ - M) = _
  rw [Real.rpow_def_of_pos (by norm_num), ← Real.exp_add]
  congr 1
  field_simp
  ring

/-- The exponential of a shifted score is the exponential of the score times a positive factor of the shift alone. -/
theorem exp_shift (σ M : ℝ) :
    Ideal.exp ((σ : EReal) - (M : EReal)) = ((Real.exp (-M) * Real.exp σ : ℝ) : EReal) := by
  rw [← EReal.coe_sub]
  show ((Real.exp (σ - M) : ℝ) : EReal) = _
  rw [← Real.exp_add]
  congr 2
  ring

/-- Weights `c · w i` over their sum do not depend on the positive factor `c`: dividing the weighted sum once is weighing by
    the quotients. The values `V` may be any extended reals. -/
theorem weighted {ι : Type*} [Fintype ι] [Nonempty ι] (w : ι → ℝ) (hw : ∀ i, 0 < w i) (V : ι → EReal) (c d : ℝ) (hc : 0 < c)
    (hd : 0 < d) :
    Ideal.div (∑ i, ((c * w i : ℝ) : EReal) * V i) (∑ i, ((c * w i : ℝ) : EReal))
      = ∑ i, V i * Ideal.div ((d * w i : ℝ) : EReal) (∑ j, ((d * w j : ℝ) : EReal)) := by
  have hS : 0 < ∑ i, w i := Finset.sum_pos (fun i _ => hw i) Finset.univ_nonempty
  simp only [← coe_sum, ← Finset.mul_sum]
  rw [Ideal.div_coe (mul_pos hc hS).ne', mul_comm, mul_sum_coe _ _ (by positivity)]
  refine Finset.sum_congr rfl fun i _ => ?_
  rw [Ideal.div_coe (mul_pos hd hS).ne', mul_comm (V i), ← mul_assoc, ← EReal.coe_mul, ← EReal.coe_mul]
  congr 2
  field_simp

/-- One row of attention over a set of keys: base two with the shift `M`, divided once, is base e with the shift `M'`, divided
    weight by weight. -/
theorem attend {ι : Type*} [Fintype ι] [Nonempty ι] (σ : ι → ℝ) (V : ι → EReal) (M M' : ℝ) :
    Ideal.div (∑ i, Ideal.exp2 ((((Real.log 2)⁻¹ * σ i : ℝ) : EReal) - (M : EReal)) * V i)
        (∑ i, Ideal.exp2 ((((Real.log 2)⁻¹ * σ i : ℝ) : EReal) - (M : EReal)))
      = ∑ i, V i * Ideal.div (Ideal.exp ((σ i : EReal) - (M' : EReal))) (∑ j, Ideal.exp ((σ j : EReal) - (M' : EReal))) := by
  simp only [exp2_shift, exp_shift]
  exact weighted (fun i => Real.exp (σ i)) (fun i => Real.exp_pos _) V _ _ (Real.exp_pos _) (Real.exp_pos _)

/-- A score from finite factors, as the kernel forms it (queries scaled first): the real score divided by `log 2`. -/
theorem score_kernel {n : ℕ} (q k : Fin n → ℝ) :
    ∑ x, ((q x : EReal) * (scale : EReal)) * (k x : EReal) = (((Real.log 2)⁻¹ * ((∑ x, k x * q x) * (1 / 8)) : ℝ) : EReal) := by
  simp only [← EReal.coe_mul, ← coe_sum]
  congr 1
  rw [Finset.sum_mul, Finset.mul_sum]
  refine Finset.sum_congr rfl fun x _ => ?_
  simp only [scale, sqrt_64]
  ring

/-- The same score as the reference forms it: the product of query and key, times one over the root of the head width. -/
theorem score_reference {n : ℕ} (q k : Fin n → ℝ) :
    (∑ x, (k x : EReal) * (q x : EReal)) * ((1 / 8 : ℝ) : EReal) = (((∑ x, k x * q x) * (1 / 8) : ℝ) : EReal) := by
  simp only [← EReal.coe_mul, ← coe_sum]

/-- Two sets of keys, `m + 1` and `n + 1` of them, taken one after the other by the kernel and put end to end by the
    reference: the rows of attention agree. The keys and queries are finite, the values any extended reals. -/
theorem attend_two {m n d : ℕ} (q : Fin d → ℝ) (k₁ : Fin (m + 1) → Fin d → ℝ) (k₂ : Fin (n + 1) → Fin d → ℝ)
    (V₁ : Fin (m + 1) → EReal) (V₂ : Fin (n + 1) → EReal) (M' : ℝ) :
    let s₁ := fun i => (∑ x, (k₁ i x : EReal) * (q x : EReal)) * ((1 / 8 : ℝ) : EReal)
    let s₂ := fun i => (∑ x, (k₂ i x : EReal) * (q x : EReal)) * ((1 / 8 : ℝ) : EReal)
    let den := (∑ i, Ideal.exp (s₁ i - (M' : EReal))) + ∑ i, Ideal.exp (s₂ i - (M' : EReal))
    row₂ (fun x => (q x : EReal) * (scale : EReal)) (fun i x => (k₁ i x : EReal)) V₁ (fun i x => (k₂ i x : EReal)) V₂
      = (∑ i, V₁ i * Ideal.div (Ideal.exp (s₁ i - (M' : EReal))) den)
        + ∑ i, V₂ i * Ideal.div (Ideal.exp (s₂ i - (M' : EReal))) den := by
  simp only [row₂, score_kernel, score_reference]
  obtain ⟨A, hA⟩ := fold_max_real (fun i => (Real.log 2)⁻¹ * ((∑ x, k₁ i x * q x) * (1 / 8)))
  obtain ⟨B, hB⟩ := fold_max_real (fun i => (Real.log 2)⁻¹ * ((∑ x, k₂ i x * q x) * (1 / 8)))
  rw [hA, hB, ← EReal.coe_strictMono.monotone.map_max]
  have h := attend (ι := Fin (m + 1) ⊕ Fin (n + 1))
    (Sum.elim (fun i => (∑ x, k₁ i x * q x) * (1 / 8)) (fun i => (∑ x, k₂ i x * q x) * (1 / 8)))
    (Sum.elim V₁ V₂) (max A B) M'
  simpa only [Fintype.sum_sum_type, Sum.elim_inl, Sum.elim_inr] using h

/-- One set of keys. -/
theorem attend_one {n d : ℕ} (q : Fin d → ℝ) (k : Fin (n + 1) → Fin d → ℝ) (V : Fin (n + 1) → EReal) (M' : ℝ) :
    let a := fun i => ∑ x, ((q x : EReal) * (scale : EReal)) * (k i x : EReal)
    let M := Finset.univ.fold max ⊥ a
    let s := fun i => (∑ x, (k i x : EReal) * (q x : EReal)) * ((1 / 8 : ℝ) : EReal)
    Ideal.div (∑ i, Ideal.exp2 (a i - M) * V i) (∑ i, Ideal.exp2 (a i - M))
      = ∑ i, V i * Ideal.div (Ideal.exp (s i - (M' : EReal))) (∑ j, Ideal.exp (s j - (M' : EReal))) := by
  simp only [score_kernel, score_reference]
  obtain ⟨A, hA⟩ := fold_max_real (fun i => (Real.log 2)⁻¹ * ((∑ x, k i x * q x) * (1 / 8)))
  rw [hA]
  exact attend (fun i => (∑ x, k i x * q x) * (1 / 8)) V A M'

end Cert.Softmax

end
-- ==== Proof.Head.lean ====
/- One head of the kernel's body: every head is the same function of the head's columns of the blocks, read here once at an
   index. -/
module

public import proofs.«01_k».proof.Proof.Gen.KernelIdeal.Frame
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.KernelIdeal.Head

open Cert.KernelIdeal Cert.KernelIdeal.Gen

/-- The scores of a head against the cached keys. -/
def cached (q : FVec Ideal S256x64 .bf16) (ck : FVec Ideal S512x64 .bf16) : FVec Ideal S256x512 .f32 :=
  matmul dot_S256x64_S512x64_S256x512_1_1_0_0_n_n none q ck (constant S256x512 .f32 0x00000000#32)

/-- The scores of a head against the keys of the row's own sequence. -/
def own (q : FVec Ideal S256x64 .bf16) (k : FVec Ideal S4096x64 .bf16) : FVec Ideal S256x4096 .f32 :=
  matmul dot_S256x64_S4096x64_S256x4096_1_1_0_0_n_n none q k (constant S256x4096 .f32 0x00000000#32)

/-- Each row's largest score, over both sets of keys. -/
def top (a : FVec Ideal S256x512 .f32) (b : FVec Ideal S256x4096 .f32) : FVec Ideal S256x1 .f32 :=
  maximumf (shapeCast S256x1 (multiReduction .maximumf [1] S256 a 0xFF800000#32 reduces_S256x512_S256 (.inl rfl) rfl) shapeCasts_S256_S256x1)
    (shapeCast S256x1 (multiReduction .maximumf [1] S256 b 0xFF800000#32 reduces_S256x4096_S256 (.inl rfl) rfl) shapeCasts_S256_S256x1)

/-- The weights over the cached keys. -/
def weightsCached (a : FVec Ideal S256x512 .f32) (m : FVec Ideal S256x1 .f32) : FVec Ideal S256x512 .f32 :=
  exp2 (subf a (broadcastTo S256x512 m broadcasts_S256x1_S256x512))

/-- The weights over the row's own sequence. -/
def weightsOwn (b : FVec Ideal S256x4096 .f32) (m : FVec Ideal S256x1 .f32) : FVec Ideal S256x4096 .f32 :=
  exp2 (subf b (broadcastTo S256x4096 m broadcasts_S256x1_S256x4096))

/-- The weighted sum of the values over the sum of the weights. -/
def blend (p : FVec Ideal S256x512 .f32) (r : FVec Ideal S256x4096 .f32) (cv : FVec Ideal S512x64 .bf16)
    (v : FVec Ideal S4096x64 .bf16) : FVec Ideal S256x64 .bf16 :=
  truncf .bf16 (divf
    (addf (addf (broadcast S256x64 (Scalar.ofBits .f32 0x00000000#32))
        (matmul dot_S256x512_S512x64_S256x64_1_0_0_1_n_n none (truncf .bf16 p bitsLt_bf16_f32) cv (constant S256x64 .f32 0x00000000#32)))
      (matmul dot_S256x4096_S4096x64_S256x64_1_0_0_1_n_n none (truncf .bf16 r bitsLt_bf16_f32) v (constant S256x64 .f32 0x00000000#32)))
    (broadcastTo S256x64
      (addf (addf (broadcast S256x1 (Scalar.ofBits .f32 0x00000000#32))
          (shapeCast S256x1 (multiReduction .add [1] S256 p 0x00000000#32 reduces_S256x512_S256 (.inl rfl) rfl) shapeCasts_S256_S256x1))
        (shapeCast S256x1 (multiReduction .add [1] S256 r 0x00000000#32 reduces_S256x4096_S256 (.inl rfl) rfl) shapeCasts_S256_S256x1))
      broadcasts_S256x1_S256x64)) bitsLt_bf16_f32

/-- A head of the body. -/
def head (q : FVec Ideal S256x64 .bf16) (ck cv : FVec Ideal S512x64 .bf16) (k v : FVec Ideal S4096x64 .bf16) : FVec Ideal S256x64 .bf16 :=
  blend (weightsCached (cached q ck) (top (cached q ck) (own q k))) (weightsOwn (own q k) (top (cached q ck) (own q k))) cv v

/-- The pattern of minus infinity denotes the least extended real. -/
theorem ofBits_neg_inf : Ideal.ofBits .f32 0xFF800000#32 = ⊥ := by
  simp [Ideal.ofBits, Ideal.ieee]

/-- A head read at row `r` and column `d`, down to the extended reals. -/
theorem head_apply (q : FVec Ideal S256x64 .bf16) (ck cv : FVec Ideal S512x64 .bf16) (k v : FVec Ideal S4096x64 .bf16) (r : Fin 256) (d : Fin 64) :
    head q ck cv k v (ix2 r d)
      = Softmax.row₂ (fun x => q (ix2 r x)) (fun i x => ck (ix2 i x)) (fun i => cv (ix2 i d)) (fun i x => k (ix2 i x))
          (fun i => v (ix2 i d)) := by
  pointwise [head, blend, weightsCached, weightsOwn, top, cached, own, ofBits_neg_inf]
  rfl

/-- The kernel's constant is the scale, by the certificate's table of constants. -/
theorem q_scale : Named.named (F := Ideal) κ "q_scale" (φ := .f32) 0x3E38AA3B#32 = ((Softmax.scale : ℝ) : EReal) :=
  IdealRules.named_const.ideal_named_scalar _ _ _ _ rfl

/-- A head over its columns of the staged blocks, from column `oq` of the queries and column `ok` of the keys and values. -/
theorem head_blocks (oq ok : ℕ) (hoq : oq + 64 ≤ 512) (hok : ok + 64 ≤ 128) (sq : S256x512.Slices ![0, oq] S256x64)
    (sc : S512x128.Slices ![0, ok] S512x64) (sk : S4096x128.Slices ![0, ok] S4096x64) (x0 : FVec Ideal S256x512 .f32)
    (x1 x2 : FVec Ideal S1x1x512x128 .f32) (x3 x4 : FVec Ideal S4096x128 .f32) (r : Fin 256) (d : Fin 64) :
    head (extractStridedSlice S256x64 ![0, oq] (k0_pay1 x0) sq) (extractStridedSlice S512x64 ![0, ok] (k0_pay2 x1) sc)
        (extractStridedSlice S512x64 ![0, ok] (k0_pay3 x2) sc) (extractStridedSlice S4096x64 ![0, ok] (k0_pay4 x3) sk)
        (extractStridedSlice S4096x64 ![0, ok] (k0_pay5 x4) sk) (ix2 r d)
      = Softmax.row₂ (fun x : Fin 64 => x0 (ix2 r ⟨oq + x.val, by omega⟩) * ((Softmax.scale : ℝ) : EReal))
          (fun i (x : Fin 64) => x1 (ix4 0 0 i ⟨ok + x.val, by omega⟩)) (fun i => x2 (ix4 0 0 i ⟨ok + d.val, by omega⟩))
          (fun i (x : Fin 64) => x3 (ix2 i ⟨ok + x.val, by omega⟩)) (fun i => x4 (ix2 i ⟨ok + d.val, by omega⟩)) := by
  rw [head_apply]
  pointwise [k0_pay1, k0_pay2, k0_pay3, k0_pay4, k0_pay5, q_scale]

/-- The same at a column `l` of the whole block that the head's columns hold: `l / 64` is the head and `l / 256` its group. -/
theorem head_at (oq ok : ℕ) (hoq : oq + 64 ≤ 512) (hok : ok + 64 ≤ 128) (sq : S256x512.Slices ![0, oq] S256x64)
    (sc : S512x128.Slices ![0, ok] S512x64) (sk : S4096x128.Slices ![0, ok] S4096x64) (x0 : FVec Ideal S256x512 .f32)
    (x1 x2 : FVec Ideal S1x1x512x128 .f32) (x3 x4 : FVec Ideal S4096x128 .f32) (r : Fin 256) (l : Fin 512) (y : S256x64.Idx)
    (hr : r.val = (y 0).val) (hl : l.val = oq + (y 1).val) (ho : oq % 64 = 0) (hk : ok = oq / 256 * 64) :
    head (extractStridedSlice S256x64 ![0, oq] (k0_pay1 x0) sq) (extractStridedSlice S512x64 ![0, ok] (k0_pay2 x1) sc)
        (extractStridedSlice S512x64 ![0, ok] (k0_pay3 x2) sc) (extractStridedSlice S4096x64 ![0, ok] (k0_pay4 x3) sk)
        (extractStridedSlice S4096x64 ![0, ok] (k0_pay5 x4) sk) y
      = Softmax.row₂ (fun x : Fin 64 => x0 (ix2 r ⟨l.val / 64 * 64 + x.val, by omega⟩) * ((Softmax.scale : ℝ) : EReal))
          (fun i (x : Fin 64) => x1 (ix4 0 0 i ⟨l.val / 256 * 64 + x.val, by omega⟩)) (fun i => x2 (ix4 0 0 i ⟨l.val / 256 * 64 + l.val % 64, by omega⟩))
          (fun i (x : Fin 64) => x3 (ix2 i ⟨l.val / 256 * 64 + x.val, by omega⟩)) (fun i => x4 (ix2 i ⟨l.val / 256 * 64 + l.val % 64, by omega⟩)) := by
  idx_vars y
  have hr' : r = y0 := Fin.ext hr
  have hl' : l.val = oq + y1.val := hl
  have e1 : l.val / 64 * 64 = oq := by omega
  have e2 : l.val / 256 * 64 = ok := by omega
  have e3 : l.val % 64 = y1.val := by omega
  subst hr'
  rw [head_blocks oq ok hoq hok]
  simp only [e1, e2, e3]

/-- What is stored at columns 0 to 63 is head 0 over its columns. -/
theorem stored0 (x0 : FVec Ideal S256x512 .f32) (x1 x2 : FVec Ideal S1x1x512x128 .f32) (x3 : FVec Ideal S4096x128 .f32) (v : FVec Ideal S4096x128 .bf16) :
    k0_pay14 v (k0_pay8 x0 x3) (k0_pay9 x0 x1 x3) (k0_pay10 (F := Ideal)) (k0_pay12 x0 x1 x3) (k0_pay13 x0 x1 x2 x3)
      = head (extractStridedSlice S256x64 ![0, 0] (k0_pay1 x0) slices_S256x512_o0_0_S256x64)
      (extractStridedSlice S512x64 ![0, 0] (k0_pay2 x1) slices_S512x128_o0_0_S512x64) (extractStridedSlice S512x64 ![0, 0] (k0_pay3 x2) slices_S512x128_o0_0_S512x64)
      (extractStridedSlice S4096x64 ![0, 0] (k0_pay4 x3) slices_S4096x128_o0_0_S4096x64) (extractStridedSlice S4096x64 ![0, 0] v slices_S4096x128_o0_0_S4096x64) := rfl

/-- What is stored at columns 64 to 127 is head 1 over its columns. -/
theorem stored1 (q : FVec Ideal S256x512 .bf16) (ck cv : FVec Ideal S512x128 .bf16) (k v : FVec Ideal S4096x128 .bf16) :
    k0_pay25 (k0_pay20 q ck cv k) (k0_pay22 q ck k) (k0_pay23 q ck k) (k0_pay24 v) (constant S256x64 .f32 0x00000000#32)
      = head (extractStridedSlice S256x64 ![0, 64] q slices_S256x512_o0_64_S256x64)
      (extractStridedSlice S512x64 ![0, 0] ck slices_S512x128_o0_0_S512x64) (extractStridedSlice S512x64 ![0, 0] cv slices_S512x128_o0_0_S512x64)
      (extractStridedSlice S4096x64 ![0, 0] k slices_S4096x128_o0_0_S4096x64) (extractStridedSlice S4096x64 ![0, 0] v slices_S4096x128_o0_0_S4096x64) := rfl

/-- What is stored at columns 128 to 191 is head 2 over its columns. -/
theorem stored2 (q : FVec Ideal S256x512 .bf16) (ck cv : FVec Ideal S512x128 .bf16) (k v : FVec Ideal S4096x128 .bf16) :
    k0_pay26 q ck cv k v
      = head (extractStridedSlice S256x64 ![0, 128] q slices_S256x512_o0_128_S256x64)
      (extractStridedSlice S512x64 ![0, 0] ck slices_S512x128_o0_0_S512x64) (extractStridedSlice S512x64 ![0, 0] cv slices_S512x128_o0_0_S512x64)
      (extractStridedSlice S4096x64 ![0, 0] k slices_S4096x128_o0_0_S4096x64) (extractStridedSlice S4096x64 ![0, 0] v slices_S4096x128_o0_0_S4096x64) := rfl

/-- What is stored at columns 192 to 255 is head 3 over its columns. -/
theorem stored3 (q : FVec Ideal S256x512 .bf16) (ck cv : FVec Ideal S512x128 .bf16) (k v : FVec Ideal S4096x128 .bf16) :
    k0_pay29 cv k v (k0_pay27 q) (k0_pay28 ck)
      = head (extractStridedSlice S256x64 ![0, 192] q slices_S256x512_o0_192_S256x64)
      (extractStridedSlice S512x64 ![0, 0] ck slices_S512x128_o0_0_S512x64) (extractStridedSlice S512x64 ![0, 0] cv slices_S512x128_o0_0_S512x64)
      (extractStridedSlice S4096x64 ![0, 0] k slices_S4096x128_o0_0_S4096x64) (extractStridedSlice S4096x64 ![0, 0] v slices_S4096x128_o0_0_S4096x64) := rfl

/-- What is stored at columns 256 to 319 is head 4 over its columns. -/
theorem stored4 (q : FVec Ideal S256x512 .bf16) (ck cv : FVec Ideal S512x128 .bf16) (k v : FVec Ideal S4096x128 .bf16) :
    k0_pay35 cv v (k0_pay31 q ck) (k0_pay32 q k) (k0_pay33 q ck) (k0_pay34 q k)
      = head (extractStridedSlice S256x64 ![0, 256] q slices_S256x512_o0_256_S256x64)
      (extractStridedSlice S512x64 ![0, 64] ck slices_S512x128_o0_64_S512x64) (extractStridedSlice S512x64 ![0, 64] cv slices_S512x128_o0_64_S512x64)
      (extractStridedSlice S4096x64 ![0, 64] k slices_S4096x128_o0_64_S4096x64) (extractStridedSlice S4096x64 ![0, 64] v slices_S4096x128_o0_64_S4096x64) := rfl

/-- What is stored at columns 320 to 383 is head 5 over its columns. -/
theorem stored5 (q : FVec Ideal S256x512 .bf16) (ck cv : FVec Ideal S512x128 .bf16) (k v : FVec Ideal S4096x128 .bf16) :
    k0_pay44 cv v (k0_pay38 q k) (k0_pay39 q ck k) (k0_pay40 (F := Ideal)) (k0_pay41 (F := Ideal)) (k0_pay42 q ck k) (k0_pay43 q ck k)
      = head (extractStridedSlice S256x64 ![0, 320] q slices_S256x512_o0_320_S256x64)
      (extractStridedSlice S512x64 ![0, 64] ck slices_S512x128_o0_64_S512x64) (extractStridedSlice S512x64 ![0, 64] cv slices_S512x128_o0_64_S512x64)
      (extractStridedSlice S4096x64 ![0, 64] k slices_S4096x128_o0_64_S4096x64) (extractStridedSlice S4096x64 ![0, 64] v slices_S4096x128_o0_64_S4096x64) := rfl

/-- What is stored at columns 384 to 447 is head 6 over its columns. -/
theorem stored6 (q : FVec Ideal S256x512 .bf16) (ck cv : FVec Ideal S512x128 .bf16) (k v : FVec Ideal S4096x128 .bf16) :
    k0_pay54 v (k0_pay50 q ck k) (k0_pay51 q ck cv k) (k0_pay52 q ck k) (k0_pay53 q ck k)
      = head (extractStridedSlice S256x64 ![0, 384] q slices_S256x512_o0_384_S256x64)
      (extractStridedSlice S512x64 ![0, 64] ck slices_S512x128_o0_64_S512x64) (extractStridedSlice S512x64 ![0, 64] cv slices_S512x128_o0_64_S512x64)
      (extractStridedSlice S4096x64 ![0, 64] k slices_S4096x128_o0_64_S4096x64) (extractStridedSlice S4096x64 ![0, 64] v slices_S4096x128_o0_64_S4096x64) := rfl

/-- What is stored at columns 448 to 511 is head 7 over its columns. -/
theorem stored7 (q : FVec Ideal S256x512 .bf16) (ck cv : FVec Ideal S512x128 .bf16) (k v : FVec Ideal S4096x128 .bf16) :
    k0_pay55 q ck cv k v
      = head (extractStridedSlice S256x64 ![0, 448] q slices_S256x512_o0_448_S256x64)
      (extractStridedSlice S512x64 ![0, 64] ck slices_S512x128_o0_64_S512x64) (extractStridedSlice S512x64 ![0, 64] cv slices_S512x128_o0_64_S512x64)
      (extractStridedSlice S4096x64 ![0, 64] k slices_S4096x128_o0_64_S4096x64) (extractStridedSlice S4096x64 ![0, 64] v slices_S4096x128_o0_64_S4096x64) := rfl

/-- What the body leaves in the output block, read at row `r` and column `l`: head `l / 64`, column `l % 64` of it. -/
theorem block_apply (x0 : FVec Ideal S256x512 .f32) (x1 x2 : FVec Ideal S1x1x512x128 .f32) (x3 x4 : FVec Ideal S4096x128 .f32)
    (r : Fin 256) (l : Fin 512) :
    out0_5 (F := Ideal) x0 x1 x2 x3 x4 (ix2 r l)
      = Softmax.row₂ (fun x : Fin 64 => x0 (ix2 r ⟨l.val / 64 * 64 + x.val, by omega⟩) * ((Softmax.scale : ℝ) : EReal))
          (fun i (x : Fin 64) => x1 (ix4 0 0 i ⟨l.val / 256 * 64 + x.val, by omega⟩)) (fun i => x2 (ix4 0 0 i ⟨l.val / 256 * 64 + l.val % 64, by omega⟩))
          (fun i (x : Fin 64) => x3 (ix2 i ⟨l.val / 256 * 64 + x.val, by omega⟩)) (fun i => x4 (ix2 i ⟨l.val / 256 * 64 + l.val % 64, by omega⟩)) := by
  have e1 : k0_pay56 (F := Ideal) x0 x1 x2 x3 x4 = k0_pay1 x0 := by unfold k0_pay56; rw [View.ld_unit_zero (by funext a; fin_cases a <;> rfl)]
  have e2 : k0_pay57 (F := Ideal) x0 x1 x2 x3 x4 = k0_pay2 x1 := by unfold k0_pay57; rw [View.ld_unit_zero (by funext a; fin_cases a <;> rfl)]
  have e3 : k0_pay58 (F := Ideal) x0 x1 x2 x3 x4 = k0_pay3 x2 := by unfold k0_pay58; rw [View.ld_unit_zero (by funext a; fin_cases a <;> rfl)]
  have e4 : k0_pay59 (F := Ideal) x0 x1 x2 x3 x4 = k0_pay4 x3 := by unfold k0_pay59; rw [View.ld_unit_zero (by funext a; fin_cases a <;> rfl)]
  have e5 : k0_pay60 (F := Ideal) x0 x1 x2 x3 x4 = k0_pay5 x4 := by unfold k0_pay60; rw [View.ld_unit_zero (by funext a; fin_cases a <;> rfl)]
  unfold out0_5
  rw [e1, e2, e3, e4, e5]
  canon_tiles x h
  case piece0 =>
    rw [stored7]
    exact head_at 448 64 (by decide) (by decide) _ _ _ x0 x1 x2 x3 x4 r l x h0 h1 rfl rfl
  case piece1 =>
    rw [stored6]
    exact head_at 384 64 (by decide) (by decide) _ _ _ x0 x1 x2 x3 x4 r l x h0 h1 rfl rfl
  case piece2 =>
    rw [stored5]
    exact head_at 320 64 (by decide) (by decide) _ _ _ x0 x1 x2 x3 x4 r l x h0 h1 rfl rfl
  case piece3 =>
    rw [stored4]
    exact head_at 256 64 (by decide) (by decide) _ _ _ x0 x1 x2 x3 x4 r l x h0 h1 rfl rfl
  case piece4 =>
    rw [stored3]
    exact head_at 192 0 (by decide) (by decide) _ _ _ x0 x1 x2 x3 x4 r l x h0 h1 rfl rfl
  case piece5 =>
    rw [stored2]
    exact head_at 128 0 (by decide) (by decide) _ _ _ x0 x1 x2 x3 x4 r l x h0 h1 rfl rfl
  case piece6 =>
    rw [stored1]
    exact head_at 64 0 (by decide) (by decide) _ _ _ x0 x1 x2 x3 x4 r l x h0 h1 rfl rfl
  case piece7 =>
    rw [View.ld_unit_zero (by funext a; fin_cases a <;> rfl), View.ld_unit_zero (by funext a; fin_cases a <;> rfl),
      View.ld_unit_zero (by funext a; fin_cases a <;> rfl), View.ld_unit_zero (by funext a; fin_cases a <;> rfl), stored0]
    exact head_at 0 0 (by decide) (by decide) _ _ _ x0 x1 x2 x3 x4 r l x h0 (h1.trans (Nat.zero_add _).symm) rfl rfl

end Cert.KernelIdeal.Head

end
-- ==== Proof.Blocks.lean ====
/- The kernel's result array after the run, read at an index. -/
module

public import proofs.«01_k».proof.Proof.Head
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable (m : (ℓ : Loc nD τ sig) → Buf (Elt Ideal) ℓ)

/-- The windows' block indices at every grid point. -/
theorem idx : ∀ t : Fin cfg0.N, win0_0.index t = ![32 + t.val, 0] ∧ win0_1.index t = ![t.val / 16, 0, 0, 0]
    ∧ win0_2.index t = ![t.val / 16, 0, 0, 0] ∧ win0_3.index t = ![2 + t.val / 16, 0] ∧ win0_4.index t = ![2 + t.val / 16, 0]
    ∧ win0_5.index t = ![t.val, 0] :=
  (by decide +kernel : ∀ t : Fin grid0.N, _)

/-- The result as one function of the argument arrays: row `R`, column `l`. -/
def G (q : FVec Ideal S16384x512 .f32) (k v : FVec Ideal S16384x128 .f32) (ck cv : FVec Ideal S2x2x512x2x64 .f32)
    (R : Fin 8192) (l : Fin 512) : EReal :=
  Softmax.row₂ (fun x : Fin 64 => q (ix2 ⟨8192 + R.val, by omega⟩ ⟨l.val / 64 * 64 + x.val, by omega⟩) * ((Softmax.scale : ℝ) : EReal))
    (fun (i : Fin 512) (x : Fin 64) => ck (ix5 ⟨R.val / 4096, by omega⟩ 0 i ⟨l.val / 256, by omega⟩ x))
    (fun i => cv (ix5 ⟨R.val / 4096, by omega⟩ 0 i ⟨l.val / 256, by omega⟩ ⟨l.val % 64, by omega⟩))
    (fun (i : Fin 4096) (x : Fin 64) => k (ix2 ⟨8192 + (R.val / 4096 * 4096 + i.val), by omega⟩ ⟨l.val / 256 * 64 + x.val, by omega⟩))
    (fun i => v (ix2 ⟨8192 + (R.val / 4096 * 4096 + i.val), by omega⟩ ⟨l.val / 256 * 64 + l.val % 64, by omega⟩))

/-- There are 32 grid points. -/
theorem points (t : Fin cfg0.N) : t.val < 32 := t.isLt

/-- The query block at grid point `t`: rows `8192 + 256 t …`. -/
theorem query (c : Dev nD) (t : Fin cfg0.N) (r : Fin 256) (l : Fin 512) :
    iblk m c 0 t (ix2 r l) = m ((c : Thread nD τ).loc main_arg0)
      (ix2 ⟨8192 + (t.val * 256 + r.val), by have := points t; omega⟩ l) := by
  blk_ext! [iblk, V, idx t]

/-- The key block: the rows of the batch entry `t / 16`. -/
theorem key (c : Dev nD) (t : Fin cfg0.N) (i : Fin 4096) (l : Fin 128) :
    iblk m c 3 t (ix2 i l) = m ((c : Thread nD τ).loc main_arg1)
      (ix2 ⟨8192 + (t.val / 16 * 4096 + i.val), by have := points t; omega⟩ l) := by
  blk_ext! [iblk, V, idx t]

/-- The value block. -/
theorem value (c : Dev nD) (t : Fin cfg0.N) (i : Fin 4096) (l : Fin 128) :
    iblk m c 4 t (ix2 i l) = m ((c : Thread nD τ).loc main_arg2)
      (ix2 ⟨8192 + (t.val / 16 * 4096 + i.val), by have := points t; omega⟩ l) := by
  blk_ext! [iblk, V, idx t]

/-- The cached keys' block: layer 0 of the batch entry, the heads side by side. -/
theorem cachedKey (c : Dev nD) (t : Fin cfg0.N) (i : Fin 512) (g : Fin 2) (x : Fin 64) :
    iblk m c 1 t (ix4 0 0 i ⟨g.val * 64 + x.val, by omega⟩) = m ((c : Thread nD τ).loc main_arg3)
      (ix5 ⟨t.val / 16, by have := points t; omega⟩ 0 i g x) := by
  blk_ext! [iblk, V, idx t]

/-- The cached values' block. -/
theorem cachedValue (c : Dev nD) (t : Fin cfg0.N) (i : Fin 512) (g : Fin 2) (x : Fin 64) :
    iblk m c 2 t (ix4 0 0 i ⟨g.val * 64 + x.val, by omega⟩) = m ((c : Thread nD τ).loc main_arg4)
      (ix5 ⟨t.val / 16, by have := points t; omega⟩ 0 i g x) := by
  blk_ext! [iblk, V, idx t]

/-- Two of the formulas agree when their five parts do. -/
theorem row_congr {q q' : Fin 64 → EReal} {a a' : Fin 512 → Fin 64 → EReal} {A A' : Fin 512 → EReal}
    {b b' : Fin 4096 → Fin 64 → EReal} {B B' : Fin 4096 → EReal} (hq : ∀ x, q x = q' x) (ha : ∀ i x, a i x = a' i x)
    (hA : ∀ i, A i = A' i) (hb : ∀ i x, b i x = b' i x) (hB : ∀ i, B i = B' i) :
    Softmax.row₂ q a A b B = Softmax.row₂ q' a' A' b' B' := by
  rw [funext hq, funext fun i => funext (ha i), funext hA, funext fun i => funext (hb i), funext hB]

/-- The body at grid point `t`, row `r`, column `l` of its block, is the result at row `256 t + r`. -/
theorem point (c : Dev nD) (t : Fin cfg0.N) (r : Fin 256) (l : Fin 512) :
    out0_5 (F := Ideal) (iblk m c 0 t) (iblk m c 1 t) (iblk m c 2 t) (iblk m c 3 t) (iblk m c 4 t) (ix2 r l)
      = G (m ((c : Thread nD τ).loc main_arg0)) (m ((c : Thread nD τ).loc main_arg1)) (m ((c : Thread nD τ).loc main_arg2))
          (m ((c : Thread nD τ).loc main_arg3)) (m ((c : Thread nD τ).loc main_arg4))
          ⟨t.val * 256 + r.val, by have := points t; omega⟩ l := by
  have ht := points t
  have e : (t.val * 256 + r.val) / 4096 = t.val / 16 := by omega
  rw [Head.block_apply]
  unfold G
  refine row_congr (fun x => ?_) (fun i x => ?_) (fun i => ?_) (fun i x => ?_) (fun i => ?_)
  · rw [query]
  · rw [cachedKey m c t i ⟨l.val / 256, by omega⟩ x]; simp only [e]
  · rw [cachedValue m c t i ⟨l.val / 256, by omega⟩ ⟨l.val % 64, by omega⟩]; simp only [e]
  · rw [key]; simp only [e]
  · rw [value]; simp only [e]

/-- The result array as a function of the arguments. -/
def result (c : Dev nD) : FVec Ideal S8192x512 .bf16 := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1)

/-- The output block at grid point `t` is the block of rows `256 t …` of the result. -/
theorem block (c : Dev nD) (t : Fin cfg0.N) (r : Fin 256) (l : Fin 512) :
    out0_5 (F := Ideal) (iblk m c 0 t) (iblk m c 1 t) (iblk m c 2 t) (iblk m c 3 t) (iblk m c 4 t) (ix2 r l)
      = result m c (((cfg0.win 5).blk t).view.emb (ix2 r l)) := by
  have ht := points t
  have e : ((cfg0.win 5).blk t).view.emb (ix2 r l) = (ix2 ⟨t.val * 256 + r.val, by omega⟩ l : S8192x512.Idx) := by
    blk_ext! [idx t]
  rw [e, point]
  rfl

/-- The result array after the run. -/
theorem final (c : Dev nD) : (dats m 0 c).arrAt 5 (cfgs 0).N = result m c := by
  refine (dats m 0 c).arrAt_eq_of_covers 5 _ (by decide +kernel) fun t _ y => ?_
  blk_simp
  rw [after0_5]
  have h := block m c t (y 0) (y 1)
  rw [show (ix2 (y 0) (y 1) : S256x512.Idx) = y from by funext a; fin_cases a <;> rfl] at h
  exact h

end Cert.KernelIdeal.Blocks

end
-- ==== Proof.Plain.lean ====
/- The reference's attention read at an index of its result. -/
module

public import proofs.«01_k».proof.Proof.Gen.ReferenceIdeal.Read
public import proofs.«01_k».proof.Proof.Softmax
public import Idealize.ShloMosaic.Lib.Pointwise

@[expose] public section

set_option maxRecDepth 16384

noncomputable section

open Idealize.ShloMosaic Idealize.ShloMosaic.TcCoe Idealize.SL.Sem

namespace Cert.ReferenceIdeal.Plain

open Cert.ReferenceIdeal Cert.ReferenceIdeal.Gen Cert.ReferenceIdeal.Read

/-- The reference's constant `1/8`, the pattern of one over the root of the head width. -/
theorem eighth : val_main_cst (F := Ideal) ix0 = ((1 / 8 : ℝ) : EReal) := by
  show Ideal.ofBits .f32 0x3E000000#32 = _
  simp [Ideal.ofBits, Ideal.ieee, -EReal.coe_mul]
  norm_num

/-- The pattern of minus infinity denotes the least extended real. -/
theorem ofBits_neg_inf : Ideal.ofBits .f32 0xFF800000#32 = ⊥ := by
  simp [Ideal.ofBits, Ideal.ieee]

/-- A key of the cache among the keys put end to end. -/
theorem keys_left (k : FVec Ideal S16384x128 .f32) (ck : FVec Ideal S2x2x512x2x64 .f32) (b : Fin 2) (i : Fin 512) (g : Fin 2) (x : Fin 64) :
    val_main_v6 (F := Ideal) k ck (ix4 b (Fin.castAdd 4096 i) g x) = ck (ix5 b 0 i g x) := by
  pointwise [val_main_v6, val_main_v5, val_main_v4, val_main_v3, val_main_v2]
  exact dif_pos i.isLt

/-- A key of the row's own sequence among the keys put end to end. -/
theorem keys_right (k : FVec Ideal S16384x128 .f32) (ck : FVec Ideal S2x2x512x2x64 .f32) (b : Fin 2) (i : Fin 4096) (g : Fin 2) (x : Fin 64) :
    val_main_v6 (F := Ideal) k ck (ix4 b (Fin.natAdd 512 i) g x) = k (ix2 ⟨8192 + (b.val * 4096 + i.val), by omega⟩ ⟨g.val * 64 + x.val, by omega⟩) := by
  pointwise [val_main_v6, val_main_v5, val_main_v4, val_main_v3, val_main_v2]
  have hi : ((Fin.natAdd 512 i : Fin (512 + 4096)) : ℕ) = 512 + i.val := rfl
  rw [dif_neg (by omega)]
  congr 3
  omega

/-- A value of the cache among the values put end to end. -/
theorem values_left (v : FVec Ideal S16384x128 .f32) (cv : FVec Ideal S2x2x512x2x64 .f32) (b : Fin 2) (i : Fin 512) (g : Fin 2) (x : Fin 64) :
    val_main_v11 (F := Ideal) v cv (ix4 b (Fin.castAdd 4096 i) g x) = cv (ix5 b 0 i g x) :=
  keys_left v cv b i g x

/-- A value of the row's own sequence among the values put end to end. -/
theorem values_right (v : FVec Ideal S16384x128 .f32) (cv : FVec Ideal S2x2x512x2x64 .f32) (b : Fin 2) (i : Fin 4096) (g : Fin 2) (x : Fin 64) :
    val_main_v11 (F := Ideal) v cv (ix4 b (Fin.natAdd 512 i) g x) = v (ix2 ⟨8192 + (b.val * 4096 + i.val), by omega⟩ ⟨g.val * 64 + x.val, by omega⟩) :=
  keys_right v cv b i g x

/-- A score. -/
theorem scores_apply (q : FVec Ideal S16384x512 .f32) (k : FVec Ideal S16384x128 .f32) (ck : FVec Ideal S2x2x512x2x64 .f32)
    (b : Fin 2) (g : Fin 2) (h : Fin 4) (t : Fin 4096) (i : Fin 4608) :
    val_main_v15 (F := Ideal) q k ck (ix5 b g h t i)
      = (∑ x : Fin 64, val_main_v6 (F := Ideal) k ck (ix4 b i g x)
          * q (ix2 ⟨8192 + (b.val * 4096 + t.val), by omega⟩ ⟨g.val * 256 + h.val * 64 + x.val, by omega⟩)) * ((1 / 8 : ℝ) : EReal) := by
  pointwise [val_main_v15, val_main_v14, val_main_v13, val_main_v12, val_main_v1, val_main_v0, eighth]

/-- The result read at row `R` and column `l`: the softmax of the row's scores against the values. -/
theorem result_apply (q : FVec Ideal S16384x512 .f32) (k v : FVec Ideal S16384x128 .f32) (ck cv : FVec Ideal S2x2x512x2x64 .f32)
    (R : Fin 8192) (l : Fin 512) :
    let b : Fin 2 := ⟨R.val / 4096, by omega⟩
    let t : Fin 4096 := ⟨R.val % 4096, by omega⟩
    let g : Fin 2 := ⟨l.val / 256, by omega⟩
    let h : Fin 4 := ⟨l.val / 64 % 4, by omega⟩
    let d : Fin 64 := ⟨l.val % 64, by omega⟩
    val_main_v30 (F := Ideal) q k v ck cv (ix2 R l)
      = ∑ i : Fin 4608, val_main_v11 (F := Ideal) v cv (ix4 b i g d)
          * Ideal.div (Ideal.exp (val_main_v15 (F := Ideal) q k ck (ix5 b g h t i) - val_main_v18 (F := Ideal) q k ck (ix4 b g h t)))
            (∑ j : Fin 4608, Ideal.exp (val_main_v15 (F := Ideal) q k ck (ix5 b g h t j) - val_main_v18 (F := Ideal) q k ck (ix4 b g h t))) := by
  intro b t g h d
  pointwise [val_main_v30, val_main_v29, val_main_v28, val_main_v27, val_main_v26, val_main_v25, val_main_v24, val_main_v23,
    val_main_v22, val_main_v21, val_main_v20, val_main_v19, val_main_cst_2]
  rfl

/-- The maximum over the keys, read at a row. -/
theorem maximum_apply (x : FVec Ideal S2x2x4x4096x4608 .f32) (b : Fin 2) (g : Fin 2) (h : Fin 4) (t : Fin 4096) :
    Host.reduce (FloatOps.maximumf (F := Ideal)) x (constant S_ .f32 0xFF800000#32) reducesTo_S2x2x4x4096x4608_S2x2x4x4096_d4 h_S_ (ix4 b g h t)
      = Finset.univ.fold max ⊥ fun i : Fin 4608 => x (ix5 b g h t i) := by
  pointwise [ofBits_neg_inf]

/-- The largest score of a row, when its scores are finite, is finite. -/
theorem top_real (q : FVec Ideal S16384x512 .f32) (k : FVec Ideal S16384x128 .f32) (ck : FVec Ideal S2x2x512x2x64 .f32)
    (b : Fin 2) (g : Fin 2) (h : Fin 4) (t : Fin 4096) (σ : Fin (4607 + 1) → ℝ)
    (hσ : ∀ i, val_main_v15 (F := Ideal) q k ck (ix5 b g h t i) = (σ i : EReal)) :
    ∃ M : ℝ, val_main_v18 (F := Ideal) q k ck (ix4 b g h t) = (M : EReal) := by
  obtain ⟨M, hM⟩ := Softmax.fold_max_real σ
  refine ⟨M, ?_⟩
  rw [val_main_v18_apply, val_main_v17_apply, val_main_cst_1_apply]
  unfold val_main_v16 val_main_cst_0
  rw [maximum_apply]
  simp only [hσ]
  rw [hM]
  show max (Ideal.ofBits .f32 0xFF800000#32) (M : EReal) = _
  rw [ofBits_neg_inf]
  exact max_eq_right bot_le

/-- The reference's result over finite queries, keys and cached keys is the kernel's row of attention. -/
theorem result_row (q : S16384x512.Idx → ℝ) (k : S16384x128.Idx → ℝ) (v : FVec Ideal S16384x128 .f32) (ck : S2x2x512x2x64.Idx → ℝ)
    (cv : FVec Ideal S2x2x512x2x64 .f32) (R : Fin 8192) (l : Fin 512) :
    let b : Fin 2 := ⟨R.val / 4096, by omega⟩
    let g : Fin 2 := ⟨l.val / 256, by omega⟩
    let d : Fin 64 := ⟨l.val % 64, by omega⟩
    val_main_v30 (F := Ideal) (fun i => (q i : EReal)) (fun i => (k i : EReal)) v (fun i => (ck i : EReal)) cv (ix2 R l)
      = Softmax.row₂ (fun x : Fin 64 => (q (ix2 ⟨8192 + R.val, by omega⟩ ⟨l.val / 64 * 64 + x.val, by omega⟩) : EReal) * ((Softmax.scale : ℝ) : EReal))
          (fun (i : Fin 512) (x : Fin 64) => (ck (ix5 b 0 i g x) : EReal)) (fun i => cv (ix5 b 0 i g d))
          (fun (i : Fin 4096) (x : Fin 64) => (k (ix2 ⟨8192 + (R.val / 4096 * 4096 + i.val), by omega⟩ ⟨l.val / 256 * 64 + x.val, by omega⟩) : EReal))
          (fun i => v (ix2 ⟨8192 + (R.val / 4096 * 4096 + i.val), by omega⟩ ⟨l.val / 256 * 64 + l.val % 64, by omega⟩)) := by
  intro b g d
  set Q : FVec Ideal S16384x512 .f32 := fun i => (q i : EReal) with hQ
  set K : FVec Ideal S16384x128 .f32 := fun i => (k i : EReal) with hK
  set C : FVec Ideal S2x2x512x2x64 .f32 := fun i => (ck i : EReal) with hC
  have ht : R.val % 4096 < 4096 := by omega
  have hh : l.val / 64 % 4 < 4 := by omega
  let t : Fin 4096 := ⟨R.val % 4096, ht⟩
  let h : Fin 4 := ⟨l.val / 64 % 4, hh⟩
  let q' : Fin 64 → ℝ := fun x => q (ix2 ⟨8192 + R.val, by omega⟩ ⟨l.val / 64 * 64 + x.val, by omega⟩)
  let k₁ : Fin (511 + 1) → Fin 64 → ℝ := fun i x => ck (ix5 b 0 i g x)
  let k₂ : Fin (4095 + 1) → Fin 64 → ℝ := fun i x => k (ix2 ⟨8192 + (R.val / 4096 * 4096 + i.val), by omega⟩ ⟨l.val / 256 * 64 + x.val, by omega⟩)
  have hq : ∀ x : Fin 64, Q (ix2 ⟨8192 + (b.val * 4096 + t.val), by omega⟩ ⟨g.val * 256 + h.val * 64 + x.val, by omega⟩) = (q' x : EReal) := by
    intro x
    have e1 : 8192 + (b.val * 4096 + t.val) = 8192 + R.val := by show 8192 + (R.val / 4096 * 4096 + R.val % 4096) = _; omega
    have e2 : g.val * 256 + h.val * 64 + x.val = l.val / 64 * 64 + x.val := by
      show l.val / 256 * 256 + l.val / 64 % 4 * 64 + x.val = _; omega
    simp only [e1, e2, hQ, q']
  have h₁ : ∀ i : Fin 512, val_main_v15 (F := Ideal) Q K C (ix5 b g h t (Fin.castAdd 4096 i))
      = (∑ x, (k₁ i x : EReal) * (q' x : EReal)) * ((1 / 8 : ℝ) : EReal) := by
    intro i
    rw [scores_apply]
    refine congrArg (· * _) (Finset.sum_congr rfl fun x _ => ?_)
    rw [hq, keys_left]
  have h₂ : ∀ i : Fin 4096, val_main_v15 (F := Ideal) Q K C (ix5 b g h t (Fin.natAdd 512 i))
      = (∑ x, (k₂ i x : EReal) * (q' x : EReal)) * ((1 / 8 : ℝ) : EReal) := by
    intro i
    rw [scores_apply]
    refine congrArg (· * _) (Finset.sum_congr rfl fun x _ => ?_)
    rw [hq, keys_right]
  obtain ⟨M, hM⟩ := top_real Q K C b g h t
    (Fin.addCases (m := 512) (n := 4096) (fun i => (∑ x, k₁ i x * q' x) * (1 / 8)) (fun i => (∑ x, k₂ i x * q' x) * (1 / 8))) (by
      intro i
      refine Fin.addCases (m := 512) (n := 4096) (fun i => ?_) (fun i => ?_) i
      · rw [h₁, Softmax.score_reference, Fin.addCases_left]
      · rw [h₂, Softmax.score_reference, Fin.addCases_right])
  rw [result_apply]
  have key := Softmax.attend_two q' k₁ k₂ (fun i => cv (ix5 b 0 i g d))
    (fun i => v (ix2 ⟨8192 + (R.val / 4096 * 4096 + i.val), by omega⟩ ⟨l.val / 256 * 64 + l.val % 64, by omega⟩)) M
  refine Eq.trans ?_ key.symm
  have hden : (∑ j : Fin (512 + 4096), Ideal.exp (val_main_v15 (F := Ideal) Q K C (ix5 b g h t j) - val_main_v18 (F := Ideal) Q K C (ix4 b g h t)))
      = (∑ i, Ideal.exp ((∑ x, (k₁ i x : EReal) * (q' x : EReal)) * ((1 / 8 : ℝ) : EReal) - (M : EReal)))
        + ∑ i, Ideal.exp ((∑ x, (k₂ i x : EReal) * (q' x : EReal)) * ((1 / 8 : ℝ) : EReal) - (M : EReal)) := by
    rw [Fin.sum_univ_add, hM]
    exact congrArg₂ (· + ·) (Finset.sum_congr rfl fun i _ => by rw [h₁]) (Finset.sum_congr rfl fun i _ => by rw [h₂])
  rw [Fin.sum_univ_add (a := 512) (b := 4096)]
  refine congrArg₂ (· + ·) (Finset.sum_congr rfl fun i _ => ?_) (Finset.sum_congr rfl fun i _ => ?_)
  · refine congrArg₂ (· * ·) (values_left v cv b i g d) (congrArg₂ Ideal.div ?_ hden)
    exact congrArg Ideal.exp (congrArg₂ (· - ·) (h₁ i) hM)
  · refine congrArg₂ (· * ·) (values_right v cv b i g d) (congrArg₂ Ideal.div ?_ hden)
    exact congrArg Ideal.exp (congrArg₂ (· - ·) (h₂ i) hM)

end Cert.ReferenceIdeal.Plain

end
-- ==== Proof.Finite.lean ====
/- The precondition: every element of the queries, the keys and the cached keys is a real number. -/
module

public import proofs.«01_k».proof.Pre_finite_scores
public import Idealize.ShloMosaic.Lib.ReduceAll
public import Idealize.ShloMosaic.Lib.Pointwise
public import Idealize.ShloMosaic.PureOps.Ideal.Laws

@[expose] public section

noncomputable section

open Idealize.ShloMosaic

namespace Cert.Pre_finite_scores

/-- The side conditions of the predicate's operations. -/
theorem facts : Facts where
  bcast_S_S16384x512 := by decide
  reducesTo_S16384x512_S_d0_1 := by decide
  h_S_ := by decide
  bcast_S_S16384x128 := by decide
  reducesTo_S16384x128_S_d0_1 := by decide
  bcast_S_S2x2x512x2x64 := by decide
  reducesTo_S2x2x512x2x64_S_d0_1_2_3_4 := by decide

/-- An extended real whose magnitude compares below the constant `+∞` is a real number. -/
theorem real_of_lt (a : EReal) (h : FloatOps.cmpf (F := Ideal) (φ := .f32) .olt (FloatOps.absf a)
    (FloatOps.ofBits (F := Ideal) .f32 0x7F800000#32) = 1#1) : ∃ r : ℝ, a = (r : EReal) := by
  have htop : FloatOps.ofBits (F := Ideal) .f32 0x7F800000#32 = (⊤ : EReal) := by
    show Ideal.ofBits .f32 0x7F800000#32 = ⊤
    simp [Ideal.ofBits, Ideal.ieee]
  rw [htop] at h
  have h' : Ideal.cmp .olt (max a (-a)) ⊤ = 1#1 := h
  induction a using EReal.rec with
  | bot => simp [Ideal.cmp] at h'
  | coe r => exact ⟨r, rfl⟩
  | top => simp [Ideal.cmp] at h'

/-- An array whose elements all pass the test is an array of reals. -/
theorem reals {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1) :
    ∃ r : s.Idx → ℝ, x = fun i => (r i : EReal) := by
  have : Subsingleton S_.Idx := ⟨fun a b => funext fun k => k.elim0⟩
  have p : ∀ i, ∃ r : ℝ, x i = (r : EReal) := fun i => real_of_lt (x i) (Host.reduce_andi_all _ _ h hu j e i)
  choose r hr using p
  exact ⟨r, funext hr⟩

/-- What the precondition says. -/
theorem decode [Facts] (q : FVec Ideal S16384x512 .f32) (k v : FVec Ideal S16384x128 .f32) (ck cv : FVec Ideal S2x2x512x2x64 .f32)
    (h : fn (F := Ideal) q k v ck cv = fun _ => 1#1) :
    (∃ r : S16384x512.Idx → ℝ, q = fun i => (r i : EReal)) ∧ (∃ r : S16384x128.Idx → ℝ, k = fun i => (r i : EReal))
      ∧ ∃ r : S2x2x512x2x64.Idx → ℝ, ck = fun i => (r i : EReal) := by
  have e := congrFun h (fun k => k.elim0)
  unfold fn at e
  obtain ⟨e₁, e₃⟩ := IntOp.andi_eq_one.1 e
  obtain ⟨e₁, e₂⟩ := IntOp.andi_eq_one.1 e₁
  exact ⟨reals q _ _ _ _ e₁, reals k _ _ _ _ e₂, reals ck _ _ _ _ e₃⟩

end Cert.Pre_finite_scores

end
-- ==== Proof.Rows.lean ====
/- Formulas of a token's row shared by the normalising calls. -/
module

public import Idealize.ShloMosaic.Lib.Pipeline.ValueKit
public import Idealize.ShloMosaic.Lib.Pointwise

@[expose] public section

noncomputable section

open Idealize.ShloMosaic

namespace Rows

/-- The modulation group of a token: 0 for the context's 8192 rows, 1 and 2 for the two latent sequences of 4096 rows. -/
def group (R : Fin 16384) : Fin 3 := if R.val < 8192 then 0 else ⟨R.val / 4096 - 1, by omega⟩

/-- A row divided by the root of its mean square plus 1e-6, times a gain. -/
def rms (x g : Fin 1024 → EReal) (l : Fin 1024) : EReal :=
  x l * Ideal.rsqrt (Ideal.div (∑ k, x k * x k) (Ideal.ofBits FTy.f32 1149239296#32) + Ideal.ofBits FTy.f32 897988541#32) * g l

/-- The normalised row scaled by one plus `b` and shifted by `a`. -/
def modulate (x g a b : Fin 1024 → EReal) (l : Fin 1024) : EReal :=
  rms x g l * (Ideal.ofBits FTy.f32 1065353216#32 + b l) + a l

/-- The group of the rows of 512-row block `t`. -/
theorem group_block (t r : ℕ) (ht : t < 32) (hr : r < 512) :
    group ⟨t * 512 + r, by omega⟩ = if t < 16 then 0 else ⟨(t - 16) / 8 + 1, by omega⟩ := by
  unfold group
  by_cases h : t < 16
  · rw [if_pos (show t * 512 + r < 8192 by omega), if_pos h]
  · rw [if_neg (show ¬ t * 512 + r < 8192 by omega), if_neg h]
    exact Fin.ext (show (t * 512 + r) / 4096 - 1 = (t - 16) / 8 + 1 by omega)

/-- The group of a context row. -/
theorem group_ctx (R : Fin 16384) (h : R.val < 8192) : group R = 0 := if_pos h

/-- The group of a latent row. -/
theorem group_lat (R : Fin 16384) (h : ¬ R.val < 8192) : group R = ⟨1 + (R.val - 8192) / 4096, by omega⟩ :=
  (if_neg h).trans (Fin.ext (show R.val / 4096 - 1 = 1 + (R.val - 8192) / 4096 by omega))

/-- A choice made by comparing a grid coordinate with 16. -/
theorem pick {α : Type} (n : Fin 32) (a b : α) :
    Scalar.select (Scalar.cmpi CmpIPredicate.slt (BitVec.ofNat 32 n.val) 16#32) a b = if n.val < 16 then a else b := by
  have e : ∀ n : Fin 32, Scalar.cmpi CmpIPredicate.slt (BitVec.ofNat 32 n.val) 16#32 = if n.val < 16 then 1#1 else 0#1 := by
    decide
  rw [e n]
  by_cases h : n.val < 16
  · rw [if_pos h, if_pos h]; rfl
  · rw [if_neg h, if_neg h]; rfl

end Rows

end
-- ==== Proof.Project.lean ====
/- The output projection: the kernel's result array after the run and the reference's, one formula. -/
module

public import proofs.«01_k».proof.Proof.Rows
public import proofs.«01_k».proof.Proof.Gen.Kernel2Ideal.Value
public import proofs.«01_k».proof.Proof.Gen.Reference2Ideal.Read

@[expose] public section

set_option maxRecDepth 16384

noncomputable section

open Idealize.ShloMosaic Idealize.ShloMosaic.TcCoe Idealize.SL.Sem

namespace Cert.Kernel2Ideal.Project

open Cert.Kernel2Ideal Cert.Kernel2Ideal.Gen

variable (m : (ℓ : Loc nD τ sig) → Buf (Elt Ideal) ℓ)

/-- The windows' block indices at every grid point. -/
theorem idx : ∀ t : Fin cfg0.N, win0_0.index t = ![t.val, 0]
    ∧ win0_1.index t = ![if t.val < 16 then 0 else (t.val - 16) / 8 + 1, 0, 0] ∧ win0_2.index t = ![t.val, 0]
    ∧ win0_3.index t = ![min t.val 15, 0] ∧ win0_4.index t = ![t.val - 16, 0] ∧ win0_5.index t = ![0, 0]
    ∧ win0_6.index t = ![1, 0] ∧ win0_7.index t = ![t.val, 0] :=
  (by decide +kernel : ∀ t : Fin grid0.N, _)

/-- There are 32 grid points. -/
theorem points (t : Fin cfg0.N) : t.val < 32 := t.isLt

/-- The result's row `R`, column `l`. -/
def G (x : FVec Ideal S16384x1024 .f32) (d : FVec Ideal S3x6x1024 .f32) (a : FVec Ideal S16384x512 .bf16)
    (yc yl : FVec Ideal S8192x512 .bf16) (w : FVec Ideal S1024x1024 .f32) (R : Fin 16384) (l : Fin 1024) : EReal :=
  x (ix2 R l) + d (ix3 (Rows.group R) 2 l) *
    (∑ k : Fin 512, a (ix2 R k) * w (ix2 ⟨k.val, by omega⟩ l)
      + ∑ k : Fin 512, (if h : R.val < 8192 then yc (ix2 ⟨R.val, h⟩ k) else yl (ix2 ⟨R.val - 8192, by omega⟩ k))
          * w (ix2 ⟨512 + k.val, by omega⟩ l))

/-- The body at an index of its block. -/
theorem body (i : grid0.Coords) (x : FVec Ideal S512x1024 .f32) (d : FVec Ideal S1x6x1024 .f32) (a yc yl : FVec Ideal S512x512 .bf16)
    (u v : FVec Ideal S512x1024 .bf16) (r : Fin 512) (l : Fin 1024) :
    out0_7 (F := Ideal) i x d a yc yl u v (ix2 r l) = x (ix2 r l) + d (ix3 0 2 l) *
      (∑ k : Fin 512, a (ix2 r k) * u (ix2 k l)
        + ∑ k : Fin 512, (if (i 0).val < 16 then yc (ix2 r k) else yl (ix2 r k)) * v (ix2 k l)) := by
  unfold out0_7
  rw [View.canon_unit_zero (by decide), View.ld_unit_zero (by decide), View.ld_unit_zero (by decide),
    View.ld_unit_zero (by decide), View.ld_unit_zero (by decide), View.ld_unit_zero (by decide), View.ld_unit_zero (by decide)]
  pointwise [k0_pay1]
  simp only [Rows.pick (i 0)]

/-- The block of tokens at grid point `t`. -/
theorem tokens (c : Dev nD) (t : Fin cfg0.N) (r : Fin 512) (l : Fin 1024) :
    iblk m c 0 t (ix2 r l) = m ((c : Thread nD τ).loc main_arg0) (ix2 ⟨t.val * 512 + r.val, by have := points t; omega⟩ l) := by
  blk_ext! [iblk, V, idx t]

/-- The modulation's block: the group of the block's rows. -/
theorem modulation (c : Dev nD) (t : Fin cfg0.N) (r : Fin 512) (s : Fin 6) (l : Fin 1024) :
    iblk m c 1 t (ix3 0 s l) = m ((c : Thread nD τ).loc main_arg1)
      (ix3 (Rows.group ⟨t.val * 512 + r.val, by have := points t; omega⟩) s l) := by
  rw [Rows.group_block t.val r.val (points t) r.isLt]
  by_cases h : t.val < 16
  · have e : (if t.val < 16 then 0 else (t.val - 16) / 8 + 1) = 0 := if_pos h
    rw [if_pos h]
    blk_ext! [iblk, V, idx t, e]
  · have e : (if t.val < 16 then 0 else (t.val - 16) / 8 + 1) = (t.val - 16) / 8 + 1 := if_neg h
    rw [if_neg h]
    blk_ext! [iblk, V, idx t, e]

/-- The block of the attention's or convolution's rows. -/
theorem whole (c : Dev nD) (t : Fin cfg0.N) (r : Fin 512) (l : Fin 512) :
    iblk m c 2 t (ix2 r l) = m ((c : Thread nD τ).loc main_arg2) (ix2 ⟨t.val * 512 + r.val, by have := points t; omega⟩ l) := by
  blk_ext! [iblk, V, idx t]

/-- The context's block, at the grid points of the context. -/
theorem ctx (c : Dev nD) (t : Fin cfg0.N) (h : t.val < 16) (r : Fin 512) (l : Fin 512) :
    iblk m c 3 t (ix2 r l) = m ((c : Thread nD τ).loc main_arg3) (ix2 ⟨t.val * 512 + r.val, by omega⟩ l) := by
  have e : min t.val 15 = t.val := by omega
  blk_ext! [iblk, V, idx t, e]

/-- The latent rows' block, at the other grid points. -/
theorem lat (c : Dev nD) (t : Fin cfg0.N) (h : ¬ t.val < 16) (r : Fin 512) (l : Fin 512) :
    iblk m c 4 t (ix2 r l) = m ((c : Thread nD τ).loc main_arg4)
      (ix2 ⟨t.val * 512 + r.val - 8192, by have := points t; omega⟩ l) := by
  blk_ext! [iblk, V, idx t]

/-- The upper half of the weights. -/
theorem upper (c : Dev nD) (t : Fin cfg0.N) (k : Fin 512) (l : Fin 1024) :
    iblk m c 5 t (ix2 k l) = m ((c : Thread nD τ).loc main_arg5) (ix2 ⟨k.val, by omega⟩ l) := by
  blk_ext! [iblk, V, idx t]

/-- The lower half of the weights. -/
theorem lower (c : Dev nD) (t : Fin cfg0.N) (k : Fin 512) (l : Fin 1024) :
    iblk m c 6 t (ix2 k l) = m ((c : Thread nD τ).loc main_arg5) (ix2 ⟨512 + k.val, by omega⟩ l) := by
  blk_ext! [iblk, V, idx t]

/-- The result array as a function of the arguments. -/
def result (c : Dev nD) : FVec Ideal S16384x1024 .f32 := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (j 0) (j 1)

/-- The grid's coordinate is the grid point. -/
theorem coord : ∀ t : Fin cfg0.N, (grid0.coords t 0).val = t.val := (by decide +kernel : ∀ t : Fin grid0.N, _)

/-- The output block at grid point `t` is the block of rows `512 t …` of the result. -/
theorem block (c : Dev nD) (t : Fin cfg0.N) (r : Fin 512) (l : Fin 1024) :
    out0_7 (F := Ideal) (grid0.coords t) (iblk m c 0 t) (iblk m c 1 t) (iblk m c 2 t) (iblk m c 3 t) (iblk m c 4 t) (iblk m c 5 t)
      (iblk m c 6 t) (ix2 r l) = result m c (((cfg0.win 7).blk t).view.emb (ix2 r l)) := by
  have ht := points t
  have e : ((cfg0.win 7).blk t).view.emb (ix2 r l) = (ix2 ⟨t.val * 512 + r.val, by omega⟩ l : S16384x1024.Idx) := by
    blk_ext! [idx t]
  rw [e, body, tokens, modulation m c t r, coord]
  simp only [whole, upper, lower]
  show _ = G _ _ _ _ _ _ ⟨t.val * 512 + r.val, _⟩ l
  unfold G
  by_cases h : t.val < 16
  · simp only [ctx m c t h, if_pos h, dif_pos (show t.val * 512 + r.val < 8192 by omega)]
  · simp only [lat m c t h, if_neg h, dif_neg (show ¬ t.val * 512 + r.val < 8192 by omega)]

/-- The result array after the run. -/
theorem final (c : Dev nD) : (dats m 0 c).arrAt 7 (cfgs 0).N = result m c := by
  refine (dats m 0 c).arrAt_eq_of_covers 7 _ (by decide +kernel) fun t _ y => ?_
  blk_simp
  rw [after0_7]
  have h := block m c t (y 0) (y 1)
  rw [show (ix2 (y 0) (y 1) : S512x1024.Idx) = y from by funext a; fin_cases a <;> rfl] at h
  exact h

end Cert.Kernel2Ideal.Project

namespace Cert.Reference2Ideal.Project

open Cert.Reference2Ideal Cert.Reference2Ideal.Read

/-- The context rows. -/
theorem upper (x : FVec Ideal S16384x1024 .f32) (d : FVec Ideal S3x6x1024 .f32) (a : FVec Ideal S16384x512 .bf16)
    (yc : FVec Ideal S8192x512 .bf16) (w : FVec Ideal S1024x1024 .f32) (r : Fin 8192) (l : Fin 1024) :
    val_main_v31 (F := Ideal) x d a yc w (ix2 r l) = x (ix2 ⟨r.val, by omega⟩ l) + d (ix3 0 2 l) *
      (∑ k : Fin 512, a (ix2 ⟨r.val, by omega⟩ k) * w (ix2 ⟨k.val, by omega⟩ l)
        + ∑ k : Fin 512, yc (ix2 r k) * w (ix2 ⟨512 + k.val, by omega⟩ l)) := by
  pointwise [val_main_v31, val_main_v23, val_main_v22, val_main_v21, val_main_v20, val_main_v19, val_main_v18, val_main_v17, val_main_v10, val_main_v9, val_main_v8, val_main_v7, val_main_v6, val_main_v5, val_main_v4, val_main_v1, val_main_v0]

/-- The latent rows. -/
theorem lower (x : FVec Ideal S16384x1024 .f32) (d : FVec Ideal S3x6x1024 .f32) (a : FVec Ideal S16384x512 .bf16)
    (yl : FVec Ideal S8192x512 .bf16) (w : FVec Ideal S1024x1024 .f32) (r : Fin 8192) (l : Fin 1024) :
    val_main_v32 (F := Ideal) x d a yl w (ix2 r l) = x (ix2 ⟨8192 + r.val, by omega⟩ l) + d (ix3 ⟨1 + r.val / 4096, by omega⟩ 2 l) *
      (∑ k : Fin 512, a (ix2 ⟨8192 + r.val, by omega⟩ k) * w (ix2 ⟨k.val, by omega⟩ l)
        + ∑ k : Fin 512, yl (ix2 r k) * w (ix2 ⟨512 + k.val, by omega⟩ l)) := by
  pointwise [val_main_v32, val_main_v30, val_main_v29, val_main_v28, val_main_v27, val_main_v26, val_main_v25, val_main_v24, val_main_v16, val_main_v15, val_main_v14, val_main_v13, val_main_v12, val_main_v11, val_main_v4, val_main_v3, val_main_v2]

/-- The reference's result array is the same formula. -/
theorem array (x : FVec Ideal S16384x1024 .f32) (d : FVec Ideal S3x6x1024 .f32) (a : FVec Ideal S16384x512 .bf16)
    (yc yl : FVec Ideal S8192x512 .bf16) (w : FVec Ideal S1024x1024 .f32) :
    val_main_v33 (F := Ideal) x d a yc yl w = fun j => Cert.Kernel2Ideal.Project.G x d a yc yl w (j 0) (j 1) := by
  funext j
  idx_vars j
  pointwise [val_main_v33]
  unfold Cert.Kernel2Ideal.Project.G
  by_cases h : j0.val < 8192
  · rw [dif_pos h, upper, Rows.group_ctx j0 h]
    simp only [dif_pos h]
  · rw [dif_neg h, lower, Rows.group_lat j0 h]
    simp only [dif_neg h, show 8192 + (j0.val - 8192) = j0.val by omega]

end Cert.Reference2Ideal.Project

end
-- ==== Proof.OddIn.lean ====
/- The input projection of the odd layers: the kernel's result arrays after the run and the reference's, one formula. -/
module

public import proofs.«01_k».proof.Proof.Rows
public import proofs.«01_k».proof.Proof.Gen.Kernel3Ideal.Value
public import proofs.«01_k».proof.Proof.Gen.Reference3Ideal.Read

@[expose] public section

set_option maxRecDepth 16384

noncomputable section

open Idealize.ShloMosaic Idealize.ShloMosaic.TcCoe Idealize.SL.Sem

namespace Cert.Kernel3Ideal.OddIn

open Cert.Kernel3Ideal Cert.Kernel3Ideal.Gen

variable (m : (ℓ : Loc nD τ sig) → Buf (Elt Ideal) ℓ)

/-- The windows' block indices at every grid point. -/
theorem idx : ∀ t : Fin cfg0.N, win0_0.index t = ![t.val, 0]
    ∧ win0_1.index t = ![if t.val < 16 then 0 else (t.val - 16) / 8 + 1, 0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- There are 32 grid points. -/
theorem points (t : Fin cfg0.N) : t.val < 32 := t.isLt

/-- The projected row `R` of the modulated normalised tokens, column `l`. -/
def P (x : FVec Ideal S16384x1024 .f32) (d : FVec Ideal S3x6x1024 .f32) (g : FVec Ideal S1024 .f32)
    (w : FVec Ideal S1024x2048 .f32) (R : Fin 16384) (l : Fin 2048) : EReal :=
  ∑ k : Fin 1024, Rows.modulate (fun i => x (ix2 R i)) (fun i => g (ix1 i)) (fun i => d (ix3 (Rows.group R) 0 i))
    (fun i => d (ix3 (Rows.group R) 1 i)) k * w (ix2 k l)

/-- The projection inside a block. -/
def B (x : FVec Ideal S512x1024 .f32) (d : FVec Ideal S1x6x1024 .f32) (g : FVec Ideal S1x1024 .f32)
    (w : FVec Ideal S1024x2048 .bf16) (r : Fin 512) (l : Fin 2048) : EReal :=
  ∑ k : Fin 1024, Rows.modulate (fun i => x (ix2 r i)) (fun i => g (ix2 0 i)) (fun i => d (ix3 0 0 i))
    (fun i => d (ix3 0 1 i)) k * w (ix2 k l)

/-- The Fourier branch at an index of the block. -/
theorem body4 (x : FVec Ideal S512x1024 .f32) (d : FVec Ideal S1x6x1024 .f32) (g : FVec Ideal S1x1024 .f32)
    (w : FVec Ideal S1024x2048 .bf16) (r : Fin 512) (l : Fin 512) :
    out0_4 (F := Ideal) x d g w (ix2 r l) = B x d g w r ⟨l.val, by omega⟩ := by
  unfold out0_4
  rw [View.canon_unit_zero (by decide), View.ld_unit_zero (by decide), View.ld_unit_zero (by decide), View.ld_unit_zero (by decide)]
  pointwise! [k0_pay3, k0_pay2, B, Rows.modulate, Rows.rms]

/-- The gate at an index of the block. -/
theorem body5 (x : FVec Ideal S512x1024 .f32) (d : FVec Ideal S1x6x1024 .f32) (g : FVec Ideal S1x1024 .f32)
    (w : FVec Ideal S1024x2048 .bf16) (r : Fin 512) (l : Fin 512) :
    out0_5 (F := Ideal) x d g w (ix2 r l) = B x d g w r ⟨512 + l.val, by omega⟩ := by
  unfold out0_5
  rw [View.canon_unit_zero (by decide), View.ld_unit_zero (by decide), View.ld_unit_zero (by decide), View.ld_unit_zero (by decide)]
  pointwise! [k0_pay4, k0_pay2, B, Rows.modulate, Rows.rms]

/-- The product of the third and fourth parts at an index of the block. -/
theorem body6 (x : FVec Ideal S512x1024 .f32) (d : FVec Ideal S1x6x1024 .f32) (g : FVec Ideal S1x1024 .f32)
    (w : FVec Ideal S1024x2048 .bf16) (r : Fin 512) (l : Fin 512) :
    out0_6 (F := Ideal) x d g w (ix2 r l) = B x d g w r ⟨1024 + l.val, by omega⟩ * B x d g w r ⟨1536 + l.val, by omega⟩ := by
  unfold out0_6
  rw [View.canon_unit_zero (by decide), View.ld_unit_zero (by decide), View.ld_unit_zero (by decide), View.ld_unit_zero (by decide)]
  pointwise! [k0_pay1, k0_pay5, k0_pay6, k0_pay2, B, Rows.modulate, Rows.rms]

/-- The block of tokens at grid point `t`. -/
theorem tokens (c : Dev nD) (t : Fin cfg0.N) (r : Fin 512) (l : Fin 1024) :
    iblk m c 0 t (ix2 r l) = m ((c : Thread nD τ).loc main_arg0) (ix2 ⟨t.val * 512 + r.val, by have := points t; omega⟩ l) := by
  blk_ext! [iblk, V, idx t]

/-- The modulation's block: the group of the block's rows. -/
theorem modulation (c : Dev nD) (t : Fin cfg0.N) (r : Fin 512) (s : Fin 6) (l : Fin 1024) :
    iblk m c 1 t (ix3 0 s l) = m ((c : Thread nD τ).loc main_arg1)
      (ix3 (Rows.group ⟨t.val * 512 + r.val, by have := points t; omega⟩) s l) := by
  rw [Rows.group_block t.val r.val (points t) r.isLt]
  by_cases h : t.val < 16
  · have e : (if t.val < 16 then 0 else (t.val - 16) / 8 + 1) = 0 := if_pos h
    rw [if_pos h]
    blk_ext! [iblk, V, idx t, e]
  · have e : (if t.val < 16 then 0 else (t.val - 16) / 8 + 1) = (t.val - 16) / 8 + 1 := if_neg h
    rw [if_neg h]
    blk_ext! [iblk, V, idx t, e]

/-- The gains. -/
theorem gain (c : Dev nD) (t : Fin cfg0.N) (l : Fin 1024) :
    iblk m c 2 t (ix2 0 l) = m ((c : Thread nD τ).loc main_arg2) (ix1 l) := by
  blk_ext! [iblk, V, idx t]

/-- The weights. -/
theorem weights (c : Dev nD) (t : Fin cfg0.N) (k : Fin 1024) (l : Fin 2048) :
    iblk m c 3 t (ix2 k l) = m ((c : Thread nD τ).loc main_arg3) (ix2 k l) := by
  blk_ext! [iblk, V, idx t]

/-- The block's projection is the array's, at row `512 t + r`. -/
theorem proj (c : Dev nD) (t : Fin cfg0.N) (r : Fin 512) (l : Fin 2048) :
    B (iblk m c 0 t) (iblk m c 1 t) (iblk m c 2 t) (iblk m c 3 t) r l
      = P (m ((c : Thread nD τ).loc main_arg0)) (m ((c : Thread nD τ).loc main_arg1)) (m ((c : Thread nD τ).loc main_arg2))
          (m ((c : Thread nD τ).loc main_arg3)) ⟨t.val * 512 + r.val, by have := points t; omega⟩ l := by
  unfold B P
  simp only [tokens, modulation m c t r, gain, weights]

/-- The Fourier branch as a function of the arguments. -/
def G4 (x : FVec Ideal S16384x1024 .f32) (d : FVec Ideal S3x6x1024 .f32) (g : FVec Ideal S1024 .f32) (w : FVec Ideal S1024x2048 .f32) :
    FVec Ideal S16384x512 .bf16 := fun j =>
  P x d g w (j 0) ⟨(j 1).val, by have : (j 1).val < 512 := (j 1).isLt; omega⟩

/-- The Fourier branch after the run. -/
def result4 (c : Dev nD) : FVec Ideal S16384x512 .bf16 :=
  G4 (m ((c : Thread nD τ).loc main_arg0)) (m ((c : Thread nD τ).loc main_arg1)) (m ((c : Thread nD τ).loc main_arg2))
    (m ((c : Thread nD τ).loc main_arg3))

/-- The output block at grid point `t` is the block of rows `512 t …` of the result. -/
theorem block4 (c : Dev nD) (t : Fin cfg0.N) (r : Fin 512) (l : Fin 512) :
    out0_4 (F := Ideal) (iblk m c 0 t) (iblk m c 1 t) (iblk m c 2 t) (iblk m c 3 t) (ix2 r l)
      = result4 m c (((cfg0.win 4).blk t).view.emb (ix2 r l)) := by
  have ht := points t
  have e : ((cfg0.win 4).blk t).view.emb (ix2 r l) = (ix2 ⟨t.val * 512 + r.val, by omega⟩ l : S16384x512.Idx) := by
    blk_ext! [idx t]
  rw [e, body4]
  simp only [proj]
  rfl

/-- The array after the run. -/
theorem final4 (c : Dev nD) : (dats m 0 c).arrAt 4 (cfgs 0).N = result4 m c := by
  refine (dats m 0 c).arrAt_eq_of_covers 4 _ (by decide +kernel) fun t _ y => ?_
  blk_simp
  rw [after0_4]
  have h := block4 m c t (y 0) (y 1)
  rw [show (ix2 (y 0) (y 1) : S512x512.Idx) = y from by funext a; fin_cases a <;> rfl] at h
  exact h

/-- The gate as a function of the arguments. -/
def G5 (x : FVec Ideal S16384x1024 .f32) (d : FVec Ideal S3x6x1024 .f32) (g : FVec Ideal S1024 .f32) (w : FVec Ideal S1024x2048 .f32) :
    FVec Ideal S16384x512 .f32 := fun j =>
  P x d g w (j 0) ⟨512 + (j 1).val, by have : (j 1).val < 512 := (j 1).isLt; omega⟩

/-- The gate after the run. -/
def result5 (c : Dev nD) : FVec Ideal S16384x512 .f32 :=
  G5 (m ((c : Thread nD τ).loc main_arg0)) (m ((c : Thread nD τ).loc main_arg1)) (m ((c : Thread nD τ).loc main_arg2))
    (m ((c : Thread nD τ).loc main_arg3))

/-- The output block at grid point `t` is the block of rows `512 t …` of the result. -/
theorem block5 (c : Dev nD) (t : Fin cfg0.N) (r : Fin 512) (l : Fin 512) :
    out0_5 (F := Ideal) (iblk m c 0 t) (iblk m c 1 t) (iblk m c 2 t) (iblk m c 3 t) (ix2 r l)
      = result5 m c (((cfg0.win 5).blk t).view.emb (ix2 r l)) := by
  have ht := points t
  have e : ((cfg0.win 5).blk t).view.emb (ix2 r l) = (ix2 ⟨t.val * 512 + r.val, by omega⟩ l : S16384x512.Idx) := by
    blk_ext! [idx t]
  rw [e, body5]
  simp only [proj]
  rfl

/-- The array after the run. -/
theorem final5 (c : Dev nD) : (dats m 0 c).arrAt 5 (cfgs 0).N = result5 m c := by
  refine (dats m 0 c).arrAt_eq_of_covers 5 _ (by decide +kernel) fun t _ y => ?_
  blk_simp
  rw [after0_5]
  have h := block5 m c t (y 0) (y 1)
  rw [show (ix2 (y 0) (y 1) : S512x512.Idx) = y from by funext a; fin_cases a <;> rfl] at h
  exact h

/-- The product of the third and fourth parts as a function of the arguments. -/
def G6 (x : FVec Ideal S16384x1024 .f32) (d : FVec Ideal S3x6x1024 .f32) (g : FVec Ideal S1024 .f32) (w : FVec Ideal S1024x2048 .f32) :
    FVec Ideal S16384x512 .f32 := fun j =>
  P x d g w (j 0) ⟨1024 + (j 1).val, by have : (j 1).val < 512 := (j 1).isLt; omega⟩ * P x d g w (j 0) ⟨1536 + (j 1).val, by have : (j 1).val < 512 := (j 1).isLt; omega⟩

/-- The product of the third and fourth parts after the run. -/
def result6 (c : Dev nD) : FVec Ideal S16384x512 .f32 :=
  G6 (m ((c : Thread nD τ).loc main_arg0)) (m ((c : Thread nD τ).loc main_arg1)) (m ((c : Thread nD τ).loc main_arg2))
    (m ((c : Thread nD τ).loc main_arg3))

/-- The output block at grid point `t` is the block of rows `512 t …` of the result. -/
theorem block6 (c : Dev nD) (t : Fin cfg0.N) (r : Fin 512) (l : Fin 512) :
    out0_6 (F := Ideal) (iblk m c 0 t) (iblk m c 1 t) (iblk m c 2 t) (iblk m c 3 t) (ix2 r l)
      = result6 m c (((cfg0.win 6).blk t).view.emb (ix2 r l)) := by
  have ht := points t
  have e : ((cfg0.win 6).blk t).view.emb (ix2 r l) = (ix2 ⟨t.val * 512 + r.val, by omega⟩ l : S16384x512.Idx) := by
    blk_ext! [idx t]
  rw [e, body6]
  simp only [proj]
  rfl

/-- The array after the run. -/
theorem final6 (c : Dev nD) : (dats m 0 c).arrAt 6 (cfgs 0).N = result6 m c := by
  refine (dats m 0 c).arrAt_eq_of_covers 6 _ (by decide +kernel) fun t _ y => ?_
  blk_simp
  rw [after0_6]
  have h := block6 m c t (y 0) (y 1)
  rw [show (ix2 (y 0) (y 1) : S512x512.Idx) = y from by funext a; fin_cases a <;> rfl] at h
  exact h

end Cert.Kernel3Ideal.OddIn

namespace Cert.Reference3Ideal.OddIn

open Cert.Reference3Ideal Cert.Reference3Ideal.Read

/-- The projection's context rows. -/
theorem upper (x : FVec Ideal S16384x1024 .f32) (d : FVec Ideal S3x6x1024 .f32) (g : FVec Ideal S1024 .f32) (w : FVec Ideal S1024x2048 .f32)
    (r : Fin 8192) (l : Fin 2048) :
    val_main_v56 (F := Ideal) x d g w (ix2 r l) = ∑ k : Fin 1024, Rows.modulate (fun i => x (ix2 ⟨r.val, by omega⟩ i))
      (fun i => g (ix1 i)) (fun i => d (ix3 0 0 i)) (fun i => d (ix3 0 1 i)) k * w (ix2 k l) := by
  pointwise! [val_main_v56, val_main_v54, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v1, val_main_v0, val_main_cst, val_main_cst_0, val_main_cst_1, val_main_cst_2, Rows.modulate, Rows.rms]

/-- The projection's latent rows. -/
theorem lower (x : FVec Ideal S16384x1024 .f32) (d : FVec Ideal S3x6x1024 .f32) (g : FVec Ideal S1024 .f32) (w : FVec Ideal S1024x2048 .f32)
    (r : Fin 8192) (l : Fin 2048) :
    val_main_v57 (F := Ideal) x d g w (ix2 r l) = ∑ k : Fin 1024, Rows.modulate (fun i => x (ix2 ⟨8192 + r.val, by omega⟩ i))
      (fun i => g (ix1 i)) (fun i => d (ix3 ⟨1 + r.val / 4096, by omega⟩ 0 i)) (fun i => d (ix3 ⟨1 + r.val / 4096, by omega⟩ 1 i)) k
      * w (ix2 k l) := by
  pointwise! [val_main_v57, val_main_v55, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v3, val_main_v2, val_main_cst_3, val_main_cst_4, val_main_cst_5, val_main_cst_6, Rows.modulate, Rows.rms]

/-- The reference's projection. -/
theorem proj (x : FVec Ideal S16384x1024 .f32) (d : FVec Ideal S3x6x1024 .f32) (g : FVec Ideal S1024 .f32) (w : FVec Ideal S1024x2048 .f32)
    (R : Fin 16384) (l : Fin 2048) : val_main_v58 (F := Ideal) x d g w (ix2 R l) = Cert.Kernel3Ideal.OddIn.P x d g w R l := by
  pointwise [val_main_v58]
  unfold Cert.Kernel3Ideal.OddIn.P
  by_cases h : R.val < 8192
  · rw [dif_pos h, upper, Rows.group_ctx R h]
  · rw [dif_neg h, lower, Rows.group_lat R h]
    simp only [show 8192 + (R.val - 8192) = R.val by omega]

/-- The Fourier branch: the reference's array is the same formula. -/
theorem array4 (x : FVec Ideal S16384x1024 .f32) (d : FVec Ideal S3x6x1024 .f32) (g : FVec Ideal S1024 .f32) (w : FVec Ideal S1024x2048 .f32) :
    val_main_v63 (F := Ideal) x d g w = Cert.Kernel3Ideal.OddIn.G4 x d g w := by
  funext j
  idx_vars j
  pointwise [val_main_v63, val_main_v59]
  simp only [proj]
  rfl

/-- The gate: the reference's array is the same formula. -/
theorem array5 (x : FVec Ideal S16384x1024 .f32) (d : FVec Ideal S3x6x1024 .f32) (g : FVec Ideal S1024 .f32) (w : FVec Ideal S1024x2048 .f32) :
    val_main_v60 (F := Ideal) x d g w = Cert.Kernel3Ideal.OddIn.G5 x d g w := by
  funext j
  idx_vars j
  pointwise [val_main_v60]
  simp only [proj]
  rfl

/-- The product of the third and fourth parts: the reference's array is the same formula. -/
theorem array6 (x : FVec Ideal S16384x1024 .f32) (d : FVec Ideal S3x6x1024 .f32) (g : FVec Ideal S1024 .f32) (w : FVec Ideal S1024x2048 .f32) :
    val_main_v64 (F := Ideal) x d g w = Cert.Kernel3Ideal.OddIn.G6 x d g w := by
  funext j
  idx_vars j
  pointwise [val_main_v64, val_main_v61, val_main_v62]
  simp only [proj]
  rfl

end Cert.Reference3Ideal.OddIn

end
-- ==== Proof.EvenRuns.lean ====
/- What the even layers' input body leaves in each output block, at context and at latent points. -/
module

public import proofs.«01_k».proof.Proof.Rows
public import proofs.«01_k».proof.Proof.Gen.Kernel4Ideal.Value

@[expose] public section

set_option maxRecDepth 16384

noncomputable section

open Idealize.ShloMosaic Idealize.ShloMosaic.TcCoe Idealize.SL.Sem Idealize.ShloMosaic.Tactic

namespace Cert.Kernel4Ideal.EvenIn

open Cert.Kernel4Ideal Cert.Kernel4Ideal.Gen

/-- The block's projection as the body computes it. -/
def proj (x0 : Vec Ideal S512x1024 .f32) (x1 : Vec Ideal S1x6x1024 .f32) (x2 : Vec Ideal S1x1024 .f32)
    (x3 : Vec Ideal S1024x1792 .bf16) : FVec Ideal S512x1792 .f32 :=
  k0_pay5 x0 x2 (View.ld x1 (Rect.unit ![0, 0, 0] S1x1x1024.size inb_S1x6x1024_S1x1x1024_0_0_0))
    (View.ld x1 (Rect.unit ![0, 1, 0] S1x1x1024.size inb_S1x6x1024_S1x1x1024_0_1_0)) x3

/-- The gated half as the body computes it. -/
def gated (x0 : Vec Ideal S512x1024 .f32) (x1 : Vec Ideal S1x6x1024 .f32) (x2 : Vec Ideal S1x1024 .f32)
    (x3 : Vec Ideal S1024x1792 .bf16) : FVec Ideal S512x512 .f32 :=
  k0_pay6 x0 x2 (View.ld x1 (Rect.unit ![0, 0, 0] S1x1x1024.size inb_S1x6x1024_S1x1x1024_0_0_0))
    (View.ld x1 (Rect.unit ![0, 1, 0] S1x1x1024.size inb_S1x6x1024_S1x1x1024_0_1_0)) x3

section Runs

/-- A whole block loads as itself. -/
theorem whole0 (x : Vec Ideal S512x1024 .f32) : View.ld x (Rect.unit ![0, 0] ![512, 1024] inb_S512x1024_S512x1024_0_0) = x := by
  rw [View.ld_unit_zero (by decide)]

/-- A whole block loads as itself. -/
theorem whole2 (x : Vec Ideal S1x1024 .f32) : View.ld x (Rect.unit ![0, 0] ![1, 1024] inb_S1x1024_S1x1024_0_0) = x := by
  rw [View.ld_unit_zero (by decide)]

/-- A whole block loads as itself. -/
theorem whole3 (x : Vec Ideal S1024x1792 .bf16) : View.ld x (Rect.unit ![0, 0] ![1024, 1792] inb_S1024x1792_S1024x1792_0_0) = x := by
  rw [View.ld_unit_zero (by decide)]

/-- A whole block loads as itself. -/
theorem whole4 (x : Vec Ideal S1x512 .f32) : View.ld x (Rect.unit ![0, 0] ![1, 512] inb_S1x512_S1x512_0_0) = x := by
  rw [View.ld_unit_zero (by decide)]

/-- A whole block loads as itself. -/
theorem whole5 (x : Vec Ideal S1x128 .f32) : View.ld x (Rect.unit ![0, 0] ![1, 128] inb_S1x128_S1x128_0_0) = x := by
  rw [View.ld_unit_zero (by decide)]

/-- A whole block loads as itself. -/
theorem whole6 (x : Vec Ideal S512x512 .bf16) : View.ld x (Rect.unit ![0, 0] ![512, 512] inb_S512x512_S512x512_0_0) = x := by
  rw [View.ld_unit_zero (by decide)]

/-- A whole block loads as itself. -/
theorem whole7 (x : Vec Ideal S512x512 .f32) : View.ld x (Rect.unit ![0, 0] ![512, 512] inb_S512x512_S512x512_0_0) = x := by
  rw [View.ld_unit_zero (by decide)]

variable (c : Dev nD) (i : grid0.Coords) (a1 : Memref sig .tc .vmem S512x1024 .f32) (h1 : a1.IsWhole) (a2 : Memref sig .tc
  .vmem S1x6x1024 .f32) (h2 : a2.IsWhole) (a3 : Memref sig .tc .vmem S1x1024 .f32) (h3 : a3.IsWhole) (a4 : Memref sig .tc
  .vmem S1024x1792 .bf16) (h4 : a4.IsWhole) (a5 : Memref sig .tc .vmem S1x512 .f32) (h5 : a5.IsWhole) (a6 : Memref sig .tc
  .vmem S1x128 .f32) (h6 : a6.IsWhole) (a7 : Memref sig .tc .vmem S512x512 .bf16) (h7 : a7.IsWhole) (a8 : Memref sig .tc
  .vmem S512x512 .f32) (h8 : a8.IsWhole) (a9 : Memref sig .tc .vmem S512x512 .f32) (h9 : a9.IsWhole) (a10 : Memref sig .tc
  .vmem S512x512 .f32) (h10 : a10.IsWhole) (a11 : Memref sig .tc .vmem S512x512 .f32) (h11 : a11.IsWhole) (a12 : Memref sig
  .tc .vmem S512x128 .f32) (h12 : a12.IsWhole) (a13 : Memref sig .tc .vmem S512x128 .f32) (h13 : a13.IsWhole) (x0 : Vec Ideal
  S512x1024 .f32) (x1 : Vec Ideal S1x6x1024 .f32) (x2 : Vec Ideal S1x1024 .f32) (x3 : Vec Ideal S1024x1792 .bf16) (x4 : Vec
  Ideal S1x512 .f32) (x5 : Vec Ideal S1x128 .f32) (x6 : Vec Ideal S512x512 .bf16) (x7 : Vec Ideal S512x512 .f32) (x8 : Vec
  Ideal S512x512 .f32)

/-- The gated half of a context point. -/
theorem outA9 (p : cond0_0 i) (q : ¬cond0_1 i) :
    out0_A_9 c i a1 h1 a2 h2 a3 h3 a4 h4 a5 h5 a6 h6 a7 h7 a8 h8 a9 h9 a10 h10 a11 h11 a12 h12 a13 h13
      p q x0 x1 x2 x3 x4 x5 x6 x7 x8 = gated x0 x1 x2 x3 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13
    p q x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

/-- The query block of a context point. -/
theorem outA10 (p : cond0_0 i) (q : ¬cond0_1 i) :
    out0_A_10 c i a1 h1 a2 h2 a3 h3 a4 h4 a5 h5 a6 h6 a7 h7 a8 h8 a9 h9 a10 h10 a11 h11 a12 h12 a13 h13
      p q x0 x1 x2 x3 x4 x5 x6 x7 x8 = k0_pay8 (proj x0 x1 x2 x3) x6 x4 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13
    p q x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

/-- The key block of a context point. -/
theorem outA11 (p : cond0_0 i) (q : ¬cond0_1 i) :
    out0_A_11 c i a1 h1 a2 h2 a3 h3 a4 h4 a5 h5 a6 h6 a7 h7 a8 h8 a9 h9 a10 h10 a11 h11 a12 h12 a13 h13
      p q x0 x1 x2 x3 x4 x5 x6 x7 x8 = k0_pay9 (proj x0 x1 x2 x3) x6 x5 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13
    p q x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

/-- The value block of a context point. -/
theorem outA12 (p : cond0_0 i) (q : ¬cond0_1 i) :
    out0_A_12 c i a1 h1 a2 h2 a3 h3 a4 h4 a5 h5 a6 h6 a7 h7 a8 h8 a9 h9 a10 h10 a11 h11 a12 h12 a13 h13
      p q x0 x1 x2 x3 x4 x5 x6 x7 x8 = k0_pay10 (proj x0 x1 x2 x3) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13
    p q x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

/-- The gated half of a latent point. -/
theorem outB9 (p : ¬cond0_0 i) (q : cond0_1 i) :
    out0_B_9 c i a1 h1 a2 h2 a3 h3 a4 h4 a5 h5 a6 h6 a7 h7 a8 h8 a9 h9 a10 h10 a11 h11 a12 h12 a13 h13
      p q x0 x1 x2 x3 x4 x5 x6 x7 x8 = gated x0 x1 x2 x3 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13
    p q x0 x1 x2 x3 x4 x5 x6 x7 x8)]
  unfold kernelRun0_B
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

/-- The query block of a latent point. -/
theorem outB10 (p : ¬cond0_0 i) (q : cond0_1 i) :
    out0_B_10 c i a1 h1 a2 h2 a3 h3 a4 h4 a5 h5 a6 h6 a7 h7 a8 h8 a9 h9 a10 h10 a11 h11 a12 h12 a13 h13
      p q x0 x1 x2 x3 x4 x5 x6 x7 x8 = k0_pay3 (k0_pay8 (proj x0 x1 x2 x3) x6 x4) x7 x8 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13
    p q x0 x1 x2 x3 x4 x5 x6 x7 x8)]
  unfold kernelRun0_B
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

/-- The key block of a latent point. -/
theorem outB11 (p : ¬cond0_0 i) (q : cond0_1 i) :
    out0_B_11 c i a1 h1 a2 h2 a3 h3 a4 h4 a5 h5 a6 h6 a7 h7 a8 h8 a9 h9 a10 h10 a11 h11 a12 h12 a13 h13
      p q x0 x1 x2 x3 x4 x5 x6 x7 x8 = k0_pay4 (k0_pay9 (proj x0 x1 x2 x3) x6 x5) x7 x8 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13
    p q x0 x1 x2 x3 x4 x5 x6 x7 x8)]
  unfold kernelRun0_B
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

/-- The value block of a latent point. -/
theorem outB12 (p : ¬cond0_0 i) (q : cond0_1 i) :
    out0_B_12 c i a1 h1 a2 h2 a3 h3 a4 h4 a5 h5 a6 h6 a7 h7 a8 h8 a9 h9 a10 h10 a11 h11 a12 h12 a13 h13
      p q x0 x1 x2 x3 x4 x5 x6 x7 x8 = k0_pay10 (proj x0 x1 x2 x3) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13
    p q x0 x1 x2 x3 x4 x5 x6 x7 x8)]
  unfold kernelRun0_B
  dsimp only
  sl_unfold_words
  simp only [View.readAt_eq_ld, h1.read_unread, h2.read_unread, h3.read_unread, h4.read_unread, h5.read_unread, h6.read_unread,
    h7.read_unread, h8.read_unread, h9.read_unread]
  rw [View.canon_unit_zero (by decide)]
  simp only [whole0, whole2, whole3, whole4, whole5, whole6, whole7]
  rfl

end Runs

end Cert.Kernel4Ideal.EvenIn

end
-- ==== Proof.EvenRows.lean ====
/- The norm of a head's columns and the rotary positions, as a row's formulas; where the two ways to sum a head's squares agree. -/
module

public import proofs.«01_k».proof.Proof.Rows
public import proofs.«01_k».proof.Proof.Softmax

@[expose] public section

noncomputable section

open Idealize.ShloMosaic

namespace Rows

/-- One where two columns belong to one head of 64, else zero. -/
def same {n : ℕ} (a b : Fin n) : EReal := if a.val / 64 = b.val / 64 then 1 else 0

/-- A head's column over the root of the head's mean square plus 1e-6, times a gain. -/
def headNorm {n : ℕ} (hn : n % 64 = 0) (p : Fin n → EReal) (g : Fin 64 → EReal) (l : Fin n) : EReal :=
  p l * Ideal.rsqrt (Ideal.div (∑ x : Fin 64, p ⟨l.val / 64 * 64 + x.val, by omega⟩ * p ⟨l.val / 64 * 64 + x.val, by omega⟩)
    (Ideal.ofBits FTy.f32 1115684864#32) + Ideal.ofBits FTy.f32 897988541#32) * g ⟨l.val % 64, by omega⟩

/-- The same, the squares summed against the table of ones as a part and a rest. -/
def headNormSplit {n : ℕ} (p : Fin n → EReal) (g : Fin 64 → EReal) (l : Fin n) : EReal :=
  p l * Ideal.rsqrt ((∑ x, p x * p x * same x l + ∑ x, (p x * p x - p x * p x) * same x l)
    * Ideal.ofBits FTy.f32 1015021568#32 + Ideal.ofBits FTy.f32 897988541#32) * g ⟨l.val % 64, by omega⟩

/-- Neighbouring columns turned by an angle with cosine `c` and sine `s`. -/
def rope {n : ℕ} (hn : n % 64 = 0) (p : Fin n → EReal) (c s : Fin 32 → EReal) (l : Fin n) : EReal :=
  if l.val % 2 = 0 then
    p ⟨l.val / 2 * 2, by omega⟩ * c ⟨l.val % 64 / 2, by omega⟩ - p ⟨l.val / 2 * 2 + 1, by omega⟩ * s ⟨l.val % 64 / 2, by omega⟩
  else p ⟨l.val / 2 * 2, by omega⟩ * s ⟨l.val % 64 / 2, by omega⟩ + p ⟨l.val / 2 * 2 + 1, by omega⟩ * c ⟨l.val % 64 / 2, by omega⟩

/-- A sum against the ones of a head is the sum over the head's columns. -/
theorem sum_same {n : ℕ} (hn : n % 64 = 0) (f : Fin n → EReal) (l : Fin n) :
    ∑ x, f x * same x l = ∑ x : Fin 64, f ⟨l.val / 64 * 64 + x.val, by omega⟩ := by
  simp only [same, mul_ite, mul_one, mul_zero]
  rw [← Finset.sum_filter]
  refine Finset.sum_bij' (fun x _ => (⟨x.val % 64, by omega⟩ : Fin 64)) (fun x _ => ⟨l.val / 64 * 64 + x.val, by omega⟩) ?_ ?_ ?_ ?_ ?_
  · intro a _; exact Finset.mem_univ _
  · intro a _; simp only [Finset.mem_filter, Finset.mem_univ, true_and]; omega
  · intro a ha
    have h := (Finset.mem_filter.1 ha).2
    exact Fin.ext (by show l.val / 64 * 64 + a.val % 64 = a.val; omega)
  · intro a _; exact Fin.ext (by show (l.val / 64 * 64 + a.val) % 64 = a.val; omega)
  · intro a ha
    have h := (Finset.mem_filter.1 ha).2
    exact congrArg f (Fin.ext (by show a.val = l.val / 64 * 64 + a.val % 64; omega))

/-- The word of 64. -/
theorem ofBits_64 : Ideal.ofBits FTy.f32 1115684864#32 = ((64 : ℝ) : EReal) := by
  simp [Ideal.ofBits, Ideal.ieee, -EReal.coe_mul]
  norm_num

/-- The word of 1/64. -/
theorem ofBits_64th : Ideal.ofBits FTy.f32 1015021568#32 = ((1 / 64 : ℝ) : EReal) := by
  simp [Ideal.ofBits, Ideal.ieee, -EReal.coe_mul]
  norm_num

/-- Over real columns the rest is zero, and the two forms agree. -/
theorem headNormSplit_eq {n : ℕ} (hn : n % 64 = 0) (p : Fin n → EReal) (g : Fin 64 → EReal) (l : Fin n)
    (hp : ∀ x, ∃ r : ℝ, p x = (r : EReal)) : headNormSplit p g l = headNorm hn p g l := by
  choose r hr using hp
  obtain rfl : p = fun x => (r x : EReal) := funext hr
  unfold headNormSplit headNorm
  rw [sum_same hn, sum_same hn, ofBits_64, ofBits_64th, Ideal.div_coe (by norm_num)]
  have e : ∀ x : Fin n, (r x : EReal) * (r x : EReal) - (r x : EReal) * (r x : EReal) = 0 := fun x => by
    rw [← EReal.coe_mul, ← EReal.coe_sub, sub_self, EReal.coe_zero]
  simp only [e, Finset.sum_const_zero, add_zero]

/-- A sum of reals is real. -/
theorem real_sum {ι : Type} [Fintype ι] (f : ι → EReal) (h : ∀ i, ∃ r : ℝ, f i = (r : EReal)) : ∃ r : ℝ, ∑ i, f i = (r : EReal) := by
  choose r hr using h
  exact ⟨∑ i, r i, by simp only [hr, Cert.Softmax.coe_sum]⟩

/-- The word of 1024. -/
theorem ofBits_1024 : Ideal.ofBits FTy.f32 1149239296#32 = ((1024 : ℝ) : EReal) := by
  simp [Ideal.ofBits, Ideal.ieee, -EReal.coe_mul]
  norm_num

/-- The word of 1e-6 is a positive real. -/
theorem ofBits_eps : ∃ e : ℝ, 0 < e ∧ Ideal.ofBits FTy.f32 897988541#32 = (e : EReal) := by
  refine ⟨8796093 / 2 ^ 43, by norm_num, ?_⟩
  simp [Ideal.ofBits, Ideal.ieee, -EReal.coe_mul]
  norm_num

/-- The inverse root of a positive real is real. -/
theorem real_rsqrt (a : ℝ) (h : 0 < a) : ∃ r : ℝ, Ideal.rsqrt (a : EReal) = (r : EReal) := by
  refine ⟨(Real.sqrt a)⁻¹, ?_⟩
  show (if a < 0 then ⊥ else if a = 0 then ⊤ else (((Real.sqrt a)⁻¹ : ℝ) : EReal)) = _
  rw [if_neg (not_lt.2 h.le), if_neg h.ne']

/-- A real row's modulated norm is real. -/
theorem real_modulate (x g a b : Fin 1024 → ℝ) (l : Fin 1024) :
    ∃ r : ℝ, modulate (fun i => (x i : EReal)) (fun i => (g i : EReal)) (fun i => (a i : EReal)) (fun i => (b i : EReal)) l = (r : EReal) := by
  obtain ⟨e, he, hb⟩ := ofBits_eps
  have hs : 0 < (∑ k, x k * x k) * (1 / 1024) + e :=
    add_pos_of_nonneg_of_pos (mul_nonneg (Finset.sum_nonneg fun i _ => mul_self_nonneg _) (by norm_num)) he
  obtain ⟨q, hq⟩ := real_rsqrt _ hs
  have h1 : Ideal.ofBits FTy.f32 1065353216#32 = ((1 : ℝ) : EReal) := by
    simp [Ideal.ofBits, Ideal.ieee, -EReal.coe_mul]
    norm_num
  refine ⟨x l * q * g l * (1 + b l) + a l, ?_⟩
  unfold modulate rms
  rw [hb, h1, ofBits_1024, Ideal.div_coe (by norm_num)]
  simp only [← EReal.coe_mul, ← Cert.Softmax.coe_sum, ← EReal.coe_add, hq]

end Rows

end
-- ==== Proof.EvenBody.lean ====
/- The even layers' input inside a block, read at a row and a column. -/
module

public import proofs.«01_k».proof.Proof.EvenRuns
public import proofs.«01_k».proof.Proof.EvenRows

@[expose] public section

set_option maxRecDepth 16384

noncomputable section

open Idealize.ShloMosaic Idealize.ShloMosaic.TcCoe Idealize.SL.Sem

namespace Cert.Kernel4Ideal.EvenIn

open Cert.Kernel4Ideal Cert.Kernel4Ideal.Gen

/-- A projected row of the block. -/
def B (x : FVec Ideal S512x1024 .f32) (d : FVec Ideal S1x6x1024 .f32) (g : FVec Ideal S1x1024 .f32)
    (w : FVec Ideal S1024x1792 .bf16) (r : Fin 512) (l : Fin 1792) : EReal :=
  ∑ k : Fin 1024, Rows.modulate (fun i => x (ix2 r i)) (fun i => g (ix2 0 i)) (fun i => d (ix3 0 0 i))
    (fun i => d (ix3 0 1 i)) k * w (ix2 k l)

/-- The body's projection at an index. -/
theorem proj_apply (x : FVec Ideal S512x1024 .f32) (d : FVec Ideal S1x6x1024 .f32) (g : FVec Ideal S1x1024 .f32)
    (w : FVec Ideal S1024x1792 .bf16) (r : Fin 512) (l : Fin 1792) : proj x d g w (ix2 r l) = B x d g w r l := by
  pointwise! [proj, k0_pay5, B, Rows.modulate, Rows.rms]

/-- A value times the logistic function of another. -/
def gate (a b : EReal) : EReal := a * Ideal.div 1 (1 + Ideal.exp (-b))

/-- The gated half at an index. -/
theorem gated_apply (x : FVec Ideal S512x1024 .f32) (d : FVec Ideal S1x6x1024 .f32) (g : FVec Ideal S1x1024 .f32)
    (w : FVec Ideal S1024x1792 .bf16) (r : Fin 512) (l : Fin 512) :
    gated x d g w (ix2 r l) = gate (B x d g w r ⟨l.val, by omega⟩) (B x d g w r ⟨512 + l.val, by omega⟩) := by
  rw [← proj_apply, ← proj_apply]
  unfold gated k0_pay6
  pointwise [gate, proj]
  rw [zero_sub]

/-- The queries' norm at an index. -/
theorem q_apply (P : FVec Ideal S512x1792 .f32) (bd : FVec Ideal S512x512 .bf16) (g : FVec Ideal S1x512 .f32) (γ : Fin 64 → EReal)
    (hb : ∀ a b : Fin 512, bd (ix2 a b) = Rows.same a b) (hg : ∀ l : Fin 512, g (ix2 0 l) = γ ⟨l.val % 64, by omega⟩) (r : Fin 512) (l : Fin 512) :
    k0_pay8 P bd g (ix2 r l) = Rows.headNormSplit (fun x : Fin 512 => P (ix2 r ⟨1024 + x.val, by omega⟩)) γ l := by
  pointwise [k0_pay8, k0_pay7]
  simp only [hb, hg]
  rfl

/-- The keys' norm at an index. -/
theorem k_apply (P : FVec Ideal S512x1792 .f32) (bd : FVec Ideal S512x512 .bf16) (g : FVec Ideal S1x128 .f32) (γ : Fin 64 → EReal)
    (hb : ∀ a b : Fin 512, bd (ix2 a b) = Rows.same a b) (hg : ∀ l : Fin 128, g (ix2 0 l) = γ ⟨l.val % 64, by omega⟩) (r : Fin 512) (l : Fin 128) :
    k0_pay9 P bd g (ix2 r l) = Rows.headNormSplit (fun x : Fin 128 => P (ix2 r ⟨1536 + x.val, by omega⟩)) γ l := by
  pointwise [k0_pay9, k0_pay7]
  simp only [hb, hg]
  rfl

/-- The values at an index. -/
theorem v_apply (P : FVec Ideal S512x1792 .f32) (r : Fin 512) (l : Fin 128) :
    k0_pay10 P (ix2 r l) = P (ix2 r ⟨1664 + l.val, by omega⟩) := by
  pointwise [k0_pay10]

/-- A choice by a column's parity. -/
theorem parity {α : Type} (l : Fin 512) (a b : α) :
    Scalar.select (IntOp.cmpi CmpIPredicate.eq (IntOp.andi (BitVec.ofNat 32 l.val) 1#32) 0#32) a b = if l.val % 2 = 0 then a else b := by
  have e : ∀ l : Fin 512, IntOp.cmpi CmpIPredicate.eq (IntOp.andi (BitVec.ofNat 32 l.val) 1#32) 0#32 = if l.val % 2 = 0 then 1#1 else 0#1 := by
    decide +kernel
  rw [e l]
  by_cases h : l.val % 2 = 0
  · rw [if_pos h, if_pos h]; rfl
  · rw [if_neg h, if_neg h]; rfl

/-- A column with its neighbour against the two staged tables is the pair turned by the angle. -/
theorem turn {n : ℕ} (hn : n % 64 = 0) (p : Fin n → EReal) (c s : Fin 32 → EReal) (l : Fin n) (C S a b : EReal)
    (hC : C = c ⟨l.val % 64 / 2, by omega⟩)
    (hS : S = if l.val % 2 = 0 then -s ⟨l.val % 64 / 2, by omega⟩ else s ⟨l.val % 64 / 2, by omega⟩)
    (ha : ∀ h : l.val % 2 = 0, a = p ⟨l.val + 1, by omega⟩) (hb : ∀ h : ¬ l.val % 2 = 0, b = p ⟨l.val - 1, by omega⟩) :
    p l * C + (if l.val % 2 = 0 then a else b) * S = Rows.rope hn p c s l := by
  unfold Rows.rope
  by_cases h : l.val % 2 = 0
  · rw [hC, hS, if_pos h, if_pos h, if_pos h, ha h, mul_neg, sub_eq_add_neg]
    simp only [show l.val / 2 * 2 = l.val by omega]
  · rw [hC, hS, if_neg h, if_neg h, if_neg h, hb h, add_comm]
    simp only [show l.val / 2 * 2 = l.val - 1 by omega, show l.val - 1 + 1 = l.val by omega]

/-- The queries turned, at an index. -/
theorem q_rope (q c s : FVec Ideal S512x512 .f32) (κ σ : Fin 32 → EReal) (r : Fin 512)
    (hc : ∀ l : Fin 512, c (ix2 r l) = κ ⟨l.val % 64 / 2, by omega⟩)
    (hs : ∀ l : Fin 512, s (ix2 r l) = if l.val % 2 = 0 then -σ ⟨l.val % 64 / 2, by omega⟩ else σ ⟨l.val % 64 / 2, by omega⟩) (l : Fin 512) :
    k0_pay3 q c s (ix2 r l) = Rows.rope (by decide) (fun x : Fin 512 => q (ix2 r x)) κ σ l := by
  pointwise [k0_pay3, k0_pay1, k0_pay2]
  rw [parity]
  refine turn (by decide) (fun x : Fin 512 => q (ix2 r x)) κ σ l _ _ _ _ (hc l) (hs l) (fun h => ?_) (fun h => ?_)
  · simp only [show (l.val + 512 - 511) % 512 = l.val + 1 by omega]
  · simp only [show (l.val + 512 - 1) % 512 = l.val - 1 by omega]

/-- The keys turned, at an index. -/
theorem k_rope (q : FVec Ideal S512x128 .f32) (c s : FVec Ideal S512x512 .f32) (κ σ : Fin 32 → EReal) (r : Fin 512)
    (hc : ∀ l : Fin 512, c (ix2 r l) = κ ⟨l.val % 64 / 2, by omega⟩)
    (hs : ∀ l : Fin 512, s (ix2 r l) = if l.val % 2 = 0 then -σ ⟨l.val % 64 / 2, by omega⟩ else σ ⟨l.val % 64 / 2, by omega⟩) (l : Fin 128) :
    k0_pay4 q c s (ix2 r l) = Rows.rope (by decide) (fun x : Fin 128 => q (ix2 r x)) κ σ l := by
  pointwise [k0_pay4, k0_pay1, k0_pay2]
  have e := parity (α := EReal) ⟨l.val, by omega⟩
  dsimp only at e
  rw [e]
  refine turn (by decide) (fun x : Fin 128 => q (ix2 r x)) κ σ l _ _ _ _ (hc ⟨l.val, by omega⟩) (hs ⟨l.val, by omega⟩) (fun h => ?_) (fun h => ?_)
  · simp only [show (l.val + 128 - 127) % 128 = l.val + 1 by omega]
  · simp only [show (l.val + 128 - 1) % 128 = l.val - 1 by omega]

end Cert.Kernel4Ideal.EvenIn

end
-- ==== Proof.EvenIn.lean ====
/- The input projection of the even layers: the kernel's result arrays after the run. -/
module

public import proofs.«01_k».proof.Proof.EvenBody

@[expose] public section

set_option maxRecDepth 16384

noncomputable section

open Idealize.ShloMosaic Idealize.ShloMosaic.TcCoe Idealize.SL.Sem

namespace Cert.Kernel4Ideal.EvenIn

open Cert.Kernel4Ideal Cert.Kernel4Ideal.Gen

variable (m : (ℓ : Loc nD τ sig) → Buf (Elt Ideal) ℓ)

/-- The input windows' block indices at every grid point. -/
theorem idx : ∀ t : Fin cfg0.N, win0_0.index t = ![t.val, 0]
    ∧ win0_1.index t = ![if t.val < 16 then 0 else (t.val - 16) / 8 + 1, 0, 0] ∧ win0_2.index t = ![0, 0]
    ∧ win0_3.index t = ![0, 0] ∧ win0_4.index t = ![0, 0] ∧ win0_5.index t = ![0, 0] ∧ win0_6.index t = ![0, 0]
    ∧ win0_7.index t = ![(t.val - 16) % 8, 0] ∧ win0_8.index t = ![(t.val - 16) % 8, 0] :=
  (by decide +kernel : ∀ t : Fin grid0.N, _)

/-- The output windows' block indices at every grid point. -/
theorem oidx : ∀ t : Fin cfg0.N, win0_9.index t = ![t.val, 0] ∧ win0_10.index t = ![t.val, 0] ∧ win0_11.index t = ![t.val, 0]
    ∧ win0_12.index t = ![t.val, 0] :=
  (by decide +kernel : ∀ t : Fin grid0.N, _)

/-- There are 32 grid points. -/
theorem points (t : Fin cfg0.N) : t.val < 32 := t.isLt

/-- The projected row `R` of the modulated normalised tokens, column `l`. -/
def P (x : FVec Ideal S16384x1024 .f32) (d : FVec Ideal S3x6x1024 .f32) (g : FVec Ideal S1024 .f32)
    (w : FVec Ideal S1024x1792 .f32) (R : Fin 16384) (l : Fin 1792) : EReal :=
  ∑ k : Fin 1024, Rows.modulate (fun i => x (ix2 R i)) (fun i => g (ix1 i)) (fun i => d (ix3 (Rows.group R) 0 i))
    (fun i => d (ix3 (Rows.group R) 1 i)) k * w (ix2 k l)

/-- The block of tokens at grid point `t`. -/
theorem tokens (c : Dev nD) (t : Fin cfg0.N) (r : Fin 512) (l : Fin 1024) :
    iblk m c 0 t (ix2 r l) = m ((c : Thread nD τ).loc main_arg0) (ix2 ⟨t.val * 512 + r.val, by have := points t; omega⟩ l) := by
  blk_ext! [iblk, V, idx t]

/-- The modulation's block: the group of the block's rows. -/
theorem modulation (c : Dev nD) (t : Fin cfg0.N) (r : Fin 512) (s : Fin 6) (l : Fin 1024) :
    iblk m c 1 t (ix3 0 s l) = m ((c : Thread nD τ).loc main_arg1)
      (ix3 (Rows.group ⟨t.val * 512 + r.val, by have := points t; omega⟩) s l) := by
  rw [Rows.group_block t.val r.val (points t) r.isLt]
  by_cases h : t.val < 16
  · have e : (if t.val < 16 then 0 else (t.val - 16) / 8 + 1) = 0 := if_pos h
    rw [if_pos h]
    blk_ext! [iblk, V, idx t, e]
  · have e : (if t.val < 16 then 0 else (t.val - 16) / 8 + 1) = (t.val - 16) / 8 + 1 := if_neg h
    rw [if_neg h]
    blk_ext! [iblk, V, idx t, e]

/-- The gains. -/
theorem gain (c : Dev nD) (t : Fin cfg0.N) (l : Fin 1024) :
    iblk m c 2 t (ix2 0 l) = m ((c : Thread nD τ).loc main_arg2) (ix1 l) := by
  blk_ext! [iblk, V, idx t]

/-- The weights. -/
theorem weights (c : Dev nD) (t : Fin cfg0.N) (k : Fin 1024) (l : Fin 1792) :
    iblk m c 3 t (ix2 k l) = m ((c : Thread nD τ).loc main_arg3) (ix2 k l) := by
  blk_ext! [iblk, V, idx t]

/-- The queries' gains, repeated for each head. -/
theorem qgain (c : Dev nD) (t : Fin cfg0.N) (l : Fin 512) :
    iblk m c 4 t (ix2 0 l) = m ((c : Thread nD τ).loc main_arg4) (ix1 ⟨l.val % 64, by omega⟩) := by
  blk_ext! [iblk, V, idx t]

/-- The keys' gains, repeated for each head. -/
theorem kgain (c : Dev nD) (t : Fin cfg0.N) (l : Fin 128) :
    iblk m c 5 t (ix2 0 l) = m ((c : Thread nD τ).loc main_arg5) (ix1 ⟨l.val % 64, by omega⟩) := by
  blk_ext! [iblk, V, idx t]

/-- A truth value of two equal heads, as a number. -/
theorem same_head (a b : Fin 512) : FloatOps.uitofp (F := Ideal) FTy.f32
    (IntOp.cmpi CmpIPredicate.eq (IntOp.addi (BitVec.ofNat 32 (a.val / 64)) 0#32) (BitVec.ofNat 32 (b.val / 64))) = Rows.same a b := by
  have e : ∀ u v : Fin 8, IntOp.cmpi CmpIPredicate.eq (IntOp.addi (BitVec.ofNat 32 u.val) 0#32) (BitVec.ofNat 32 v.val)
      = if u.val = v.val then 1#1 else 0#1 := by decide
  have h := e ⟨a.val / 64, by omega⟩ ⟨b.val / 64, by omega⟩
  dsimp only at h
  rw [h]
  unfold Rows.same
  by_cases h' : a.val / 64 = b.val / 64
  · rw [if_pos h', if_pos h']
    show (((1#1 : BitVec 1).toNat : ℝ) : EReal) = 1
    simp
  · rw [if_neg h', if_neg h']
    show (((0#1 : BitVec 1).toNat : ℝ) : EReal) = 0
    simp

/-- The table of ones. -/
theorem ones (c : Dev nD) (t : Fin cfg0.N) (a b : Fin 512) : iblk m c 6 t (ix2 a b) = Rows.same a b := by
  have e : (win0_6.blk t).view.emb (ix2 a b) = ix2 a b := by blk_ext! [idx t]
  rw [← same_head]
  simp only [iblk]
  blk_simp [V]
  rw [e]
  entry_read
  pointwise

/-- The cosines of a latent block. -/
theorem cosines (c : Dev nD) (t : Fin cfg0.N) (r : Fin 512) (l : Fin 512) :
    iblk m c 7 t (ix2 r l) = m ((c : Thread nD τ).loc main_arg6)
      (ix2 ⟨(t.val - 16) % 8 * 512 + r.val, by omega⟩ ⟨l.val % 64 / 2, by omega⟩) := by
  blk_ext! [iblk, V, idx t]

/-- The sines, an argument. -/
def sine (c : Dev nD) (a : Fin 4096) (b : Fin 32) : EReal := m ((c : Thread nD τ).loc main_arg7) (ix2 a b)

set_option maxHeartbeats 2000000 in
/-- The signed sines of a latent block. -/
theorem sines (c : Dev nD) (t : Fin cfg0.N) (r : Fin 512) (l : Fin 512) :
    iblk m c 8 t (ix2 r l) = if l.val % 2 = 0 then -sine m c ⟨(t.val - 16) % 8 * 512 + r.val, by omega⟩ ⟨l.val % 64 / 2, by omega⟩
      else sine m c ⟨(t.val - 16) % 8 * 512 + r.val, by omega⟩ ⟨l.val % 64 / 2, by omega⟩ := by
  have e : (win0_8.blk t).view.emb (ix2 r l) = ix2 ⟨(t.val - 16) % 8 * 512 + r.val, by omega⟩ l := by blk_ext! [idx t]
  simp only [iblk]
  blk_simp [V]
  rw [e]
  entry_read
  pointwise
  by_cases h : l.val % 2 = 0
  · have h' : l.val % 64 % 2 < 1 := by omega
    rw [if_pos h]
    exact dif_pos h'
  · have h' : ¬ l.val % 64 % 2 < 1 := by omega
    rw [if_neg h]
    exact dif_neg h'

/-- The block's projection is the array's, at row `512 t + r`. -/
theorem proj_block (c : Dev nD) (t : Fin cfg0.N) (r : Fin 512) (l : Fin 1792) :
    B (iblk m c 0 t) (iblk m c 1 t) (iblk m c 2 t) (iblk m c 3 t) r l
      = P (m ((c : Thread nD τ).loc main_arg0)) (m ((c : Thread nD τ).loc main_arg1)) (m ((c : Thread nD τ).loc main_arg2))
          (m ((c : Thread nD τ).loc main_arg3)) ⟨t.val * 512 + r.val, by have := points t; omega⟩ l := by
  unfold B P
  simp only [tokens, modulation m c t r, gain, weights]

/-- The gated half as a function of the arguments. -/
def G9 (x : FVec Ideal S16384x1024 .f32) (d : FVec Ideal S3x6x1024 .f32) (g : FVec Ideal S1024 .f32)
    (w : FVec Ideal S1024x1792 .f32) (R : Fin 16384) (l : Fin 512) : EReal :=
  gate (P x d g w R ⟨l.val, by omega⟩) (P x d g w R ⟨512 + l.val, by omega⟩)

/-- The queries: normalised over each head, and turned by their position's angles in the latent rows. -/
def G10 (x : FVec Ideal S16384x1024 .f32) (d : FVec Ideal S3x6x1024 .f32) (g : FVec Ideal S1024 .f32)
    (w : FVec Ideal S1024x1792 .f32) (qg : FVec Ideal S64 .f32) (κ σ : FVec Ideal S4096x32 .f32) (R : Fin 16384) (l : Fin 512) : EReal :=
  if R.val < 8192 then Rows.headNormSplit (fun x' : Fin 512 => P x d g w R ⟨1024 + x'.val, by omega⟩) (fun i => qg (ix1 i)) l
  else Rows.rope (by decide) (Rows.headNormSplit (fun x' : Fin 512 => P x d g w R ⟨1024 + x'.val, by omega⟩) (fun i => qg (ix1 i)))
    (fun i => κ (ix2 ⟨R.val % 4096, by omega⟩ i)) (fun i => σ (ix2 ⟨R.val % 4096, by omega⟩ i)) l

/-- The keys: normalised over each head, and turned by their position's angles in the latent rows. -/
def G11 (x : FVec Ideal S16384x1024 .f32) (d : FVec Ideal S3x6x1024 .f32) (g : FVec Ideal S1024 .f32)
    (w : FVec Ideal S1024x1792 .f32) (kg : FVec Ideal S64 .f32) (κ σ : FVec Ideal S4096x32 .f32) (R : Fin 16384) (l : Fin 128) : EReal :=
  if R.val < 8192 then Rows.headNormSplit (fun x' : Fin 128 => P x d g w R ⟨1536 + x'.val, by omega⟩) (fun i => kg (ix1 i)) l
  else Rows.rope (by decide) (Rows.headNormSplit (fun x' : Fin 128 => P x d g w R ⟨1536 + x'.val, by omega⟩) (fun i => kg (ix1 i)))
    (fun i => κ (ix2 ⟨R.val % 4096, by omega⟩ i)) (fun i => σ (ix2 ⟨R.val % 4096, by omega⟩ i)) l

/-- The values as a function of the arguments. -/
def G12 (x : FVec Ideal S16384x1024 .f32) (d : FVec Ideal S3x6x1024 .f32) (g : FVec Ideal S1024 .f32)
    (w : FVec Ideal S1024x1792 .f32) (R : Fin 16384) (l : Fin 128) : EReal :=
  P x d g w R ⟨1664 + l.val, by omega⟩

/-- A context row's query in its block. -/
theorem q_block (c : Dev nD) (t : Fin cfg0.N) (r : Fin 512) (l : Fin 512) :
    k0_pay8 (proj (iblk m c 0 t) (iblk m c 1 t) (iblk m c 2 t) (iblk m c 3 t)) (iblk m c 6 t) (iblk m c 4 t) (ix2 r l)
      = Rows.headNormSplit (fun x : Fin 512 => P (m ((c : Thread nD τ).loc main_arg0)) (m ((c : Thread nD τ).loc main_arg1)) (m ((c : Thread nD τ).loc main_arg2))
            (m ((c : Thread nD τ).loc main_arg3)) ⟨t.val * 512 + r.val, by have := points t; omega⟩ ⟨1024 + x.val, by omega⟩)
          (fun i => m ((c : Thread nD τ).loc main_arg4) (ix1 i)) l := by
  rw [q_apply _ _ _ (fun i => m ((c : Thread nD τ).loc main_arg4) (ix1 i)) (ones m c t) (qgain m c t)]
  simp only [proj_apply, proj_block]

/-- A context row's key in its block. -/
theorem k_block (c : Dev nD) (t : Fin cfg0.N) (r : Fin 512) (l : Fin 128) :
    k0_pay9 (proj (iblk m c 0 t) (iblk m c 1 t) (iblk m c 2 t) (iblk m c 3 t)) (iblk m c 6 t) (iblk m c 5 t) (ix2 r l)
      = Rows.headNormSplit (fun x : Fin 128 => P (m ((c : Thread nD τ).loc main_arg0)) (m ((c : Thread nD τ).loc main_arg1)) (m ((c : Thread nD τ).loc main_arg2))
            (m ((c : Thread nD τ).loc main_arg3)) ⟨t.val * 512 + r.val, by have := points t; omega⟩ ⟨1536 + x.val, by omega⟩)
          (fun i => m ((c : Thread nD τ).loc main_arg5) (ix1 i)) l := by
  rw [k_apply _ _ _ (fun i => m ((c : Thread nD τ).loc main_arg5) (ix1 i)) (ones m c t) (kgain m c t)]
  simp only [proj_apply, proj_block]

/-- The gated half after the run. -/
def result9 (c : Dev nD) : FVec Ideal S16384x512 .f32 := fun j =>
  G9 (m ((c : Thread nD τ).loc main_arg0)) (m ((c : Thread nD τ).loc main_arg1)) (m ((c : Thread nD τ).loc main_arg2))
    (m ((c : Thread nD τ).loc main_arg3))  (j 0) (j 1)

set_option maxHeartbeats 1000000 in
/-- The gated half' block at a context point. -/
theorem blockA9 (c : Dev nD) (t : Fin cfg0.N) (h0 : t.val < 16) (h1 : ¬16 ≤ t.val) (r : Fin 512) (l : Fin 512) :
    ((outsAt0 m c t.val t.isLt).1 : FVec Ideal S512x512 .f32) (ix2 r l) = result9 m c (((cfg0.win 9).blk t).view.emb (ix2 r l)) := by
  have ht := points t
  have e : ((cfg0.win 9).blk t).view.emb (ix2 r l) = (ix2 ⟨t.val * 512 + r.val, by omega⟩ l : S16384x512.Idx) := by
    blk_ext! [oidx t]
  rw [e, outsAt0_A m c t h0 h1]
  dsimp only
  rw [outA9]
  rw [gated_apply, proj_block, proj_block]
  rfl

set_option maxHeartbeats 1000000 in
/-- The gated half' block at a latent point. -/
theorem blockB9 (c : Dev nD) (t : Fin cfg0.N) (h0 : ¬t.val < 16) (h1 : 16 ≤ t.val) (r : Fin 512) (l : Fin 512) :
    ((outsAt0 m c t.val t.isLt).1 : FVec Ideal S512x512 .f32) (ix2 r l) = result9 m c (((cfg0.win 9).blk t).view.emb (ix2 r l)) := by
  have ht := points t
  have e : ((cfg0.win 9).blk t).view.emb (ix2 r l) = (ix2 ⟨t.val * 512 + r.val, by omega⟩ l : S16384x512.Idx) := by
    blk_ext! [oidx t]
  rw [e, outsAt0_B m c t h0 h1]
  dsimp only
  rw [outB9]
  rw [gated_apply, proj_block, proj_block]
  rfl

/-- The block at a grid point is the block of rows `512 t …` of the result. -/
theorem block9 (c : Dev nD) (t : Fin cfg0.N) (r : Fin 512) (l : Fin 512) :
    ((outsAt0 m c t.val t.isLt).1 : FVec Ideal S512x512 .f32) (ix2 r l) = result9 m c (((cfg0.win 9).blk t).view.emb (ix2 r l)) := by
  by_cases h0 : t.val < 16
  · exact blockA9 m c t h0 (by omega) r l
  · exact blockB9 m c t h0 (by omega) r l

/-- The gated half' array after the run. -/
theorem final9 (c : Dev nD) : (dats m 0 c).arrAt 9 (cfgs 0).N = result9 m c := by
  refine (dats m 0 c).arrAt_eq_of_covers 9 _ (by decide +kernel) fun t _ y => ?_
  blk_simp
  rw [after0_9]
  have h := block9 m c t (y 0) (y 1)
  rw [show (ix2 (y 0) (y 1) : S512x512.Idx) = y from by funext a; fin_cases a <;> rfl] at h
  exact h

/-- The queries after the run. -/
def result10 (c : Dev nD) : FVec Ideal S16384x512 .f32 := fun j =>
  G10 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6)) (m ((c : Thread nD τ).loc main_arg7)) (j 0) (j 1)

set_option maxHeartbeats 1000000 in
/-- The queries' block at a context point. -/
theorem blockA10 (c : Dev nD) (t : Fin cfg0.N) (h0 : t.val < 16) (h1 : ¬16 ≤ t.val) (r : Fin 512) (l : Fin 512) :
    ((outsAt0 m c t.val t.isLt).2.1 : FVec Ideal S512x512 .f32) (ix2 r l) = result10 m c (((cfg0.win 10).blk t).view.emb (ix2 r l)) := by
  have ht := points t
  have e : ((cfg0.win 10).blk t).view.emb (ix2 r l) = (ix2 ⟨t.val * 512 + r.val, by omega⟩ l : S16384x512.Idx) := by
    blk_ext! [oidx t]
  rw [e, outsAt0_A m c t h0 h1]
  dsimp only
  rw [outA10]
  rw [q_block]
  exact (if_pos (by show t.val * 512 + r.val < 8192; omega)).symm

set_option maxHeartbeats 1000000 in
/-- The queries' block at a latent point. -/
theorem blockB10 (c : Dev nD) (t : Fin cfg0.N) (h0 : ¬t.val < 16) (h1 : 16 ≤ t.val) (r : Fin 512) (l : Fin 512) :
    ((outsAt0 m c t.val t.isLt).2.1 : FVec Ideal S512x512 .f32) (ix2 r l) = result10 m c (((cfg0.win 10).blk t).view.emb (ix2 r l)) := by
  have ht := points t
  have e : ((cfg0.win 10).blk t).view.emb (ix2 r l) = (ix2 ⟨t.val * 512 + r.val, by omega⟩ l : S16384x512.Idx) := by
    blk_ext! [oidx t]
  rw [e, outsAt0_B m c t h0 h1]
  dsimp only
  rw [outB10]
  rw [q_rope _ _ _ (fun i => m ((c : Thread nD τ).loc main_arg6) (ix2 ⟨(t.val - 16) % 8 * 512 + r.val, by omega⟩ i))
    (fun i => sine m c ⟨(t.val - 16) % 8 * 512 + r.val, by omega⟩ i) r (cosines m c t r) (sines m c t r)]
  simp only [q_block]
  refine Eq.trans ?_ (if_neg (by show ¬ t.val * 512 + r.val < 8192; omega)).symm
  simp only [sine, show (t.val - 16) % 8 * 512 + r.val = (t.val * 512 + r.val) % 4096 by omega]
  rfl

/-- The block at a grid point is the block of rows `512 t …` of the result. -/
theorem block10 (c : Dev nD) (t : Fin cfg0.N) (r : Fin 512) (l : Fin 512) :
    ((outsAt0 m c t.val t.isLt).2.1 : FVec Ideal S512x512 .f32) (ix2 r l) = result10 m c (((cfg0.win 10).blk t).view.emb (ix2 r l)) := by
  by_cases h0 : t.val < 16
  · exact blockA10 m c t h0 (by omega) r l
  · exact blockB10 m c t h0 (by omega) r l

/-- The queries' array after the run. -/
theorem final10 (c : Dev nD) : (dats m 0 c).arrAt 10 (cfgs 0).N = result10 m c := by
  refine (dats m 0 c).arrAt_eq_of_covers 10 _ (by decide +kernel) fun t _ y => ?_
  blk_simp
  rw [after0_10]
  have h := block10 m c t (y 0) (y 1)
  rw [show (ix2 (y 0) (y 1) : S512x512.Idx) = y from by funext a; fin_cases a <;> rfl] at h
  exact h

/-- The keys after the run. -/
def result11 (c : Dev nD) : FVec Ideal S16384x128 .f32 := fun j =>
  G11 (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) (m ((c : Thread nD τ).loc main_arg7)) (j 0) (j 1)

set_option maxHeartbeats 1000000 in
/-- The keys' block at a context point. -/
theorem blockA11 (c : Dev nD) (t : Fin cfg0.N) (h0 : t.val < 16) (h1 : ¬16 ≤ t.val) (r : Fin 512) (l : Fin 128) :
    ((outsAt0 m c t.val t.isLt).2.2.1 : FVec Ideal S512x128 .f32) (ix2 r l) = result11 m c (((cfg0.win 11).blk t).view.emb (ix2 r l)) := by
  have ht := points t
  have e : ((cfg0.win 11).blk t).view.emb (ix2 r l) = (ix2 ⟨t.val * 512 + r.val, by omega⟩ l : S16384x128.Idx) := by
    blk_ext! [oidx t]
  rw [e, outsAt0_A m c t h0 h1]
  dsimp only
  rw [outA11]
  rw [k_block]
  exact (if_pos (by show t.val * 512 + r.val < 8192; omega)).symm

set_option maxHeartbeats 1000000 in
/-- The keys' block at a latent point. -/
theorem blockB11 (c : Dev nD) (t : Fin cfg0.N) (h0 : ¬t.val < 16) (h1 : 16 ≤ t.val) (r : Fin 512) (l : Fin 128) :
    ((outsAt0 m c t.val t.isLt).2.2.1 : FVec Ideal S512x128 .f32) (ix2 r l) = result11 m c (((cfg0.win 11).blk t).view.emb (ix2 r l)) := by
  have ht := points t
  have e : ((cfg0.win 11).blk t).view.emb (ix2 r l) = (ix2 ⟨t.val * 512 + r.val, by omega⟩ l : S16384x128.Idx) := by
    blk_ext! [oidx t]
  rw [e, outsAt0_B m c t h0 h1]
  dsimp only
  rw [outB11]
  rw [k_rope _ _ _ (fun i => m ((c : Thread nD τ).loc main_arg6) (ix2 ⟨(t.val - 16) % 8 * 512 + r.val, by omega⟩ i))
    (fun i => sine m c ⟨(t.val - 16) % 8 * 512 + r.val, by omega⟩ i) r (cosines m c t r) (sines m c t r)]
  simp only [k_block]
  refine Eq.trans ?_ (if_neg (by show ¬ t.val * 512 + r.val < 8192; omega)).symm
  simp only [sine, show (t.val - 16) % 8 * 512 + r.val = (t.val * 512 + r.val) % 4096 by omega]
  rfl

/-- The block at a grid point is the block of rows `512 t …` of the result. -/
theorem block11 (c : Dev nD) (t : Fin cfg0.N) (r : Fin 512) (l : Fin 128) :
    ((outsAt0 m c t.val t.isLt).2.2.1 : FVec Ideal S512x128 .f32) (ix2 r l) = result11 m c (((cfg0.win 11).blk t).view.emb (ix2 r l)) := by
  by_cases h0 : t.val < 16
  · exact blockA11 m c t h0 (by omega) r l
  · exact blockB11 m c t h0 (by omega) r l

/-- The keys' array after the run. -/
theorem final11 (c : Dev nD) : (dats m 0 c).arrAt 11 (cfgs 0).N = result11 m c := by
  refine (dats m 0 c).arrAt_eq_of_covers 11 _ (by decide +kernel) fun t _ y => ?_
  blk_simp
  rw [after0_11]
  have h := block11 m c t (y 0) (y 1)
  rw [show (ix2 (y 0) (y 1) : S512x128.Idx) = y from by funext a; fin_cases a <;> rfl] at h
  exact h

/-- The values after the run. -/
def result12 (c : Dev nD) : FVec Ideal S16384x128 .f32 := fun j =>
  G12 (m ((c : Thread nD τ).loc main_arg0)) (m ((c : Thread nD τ).loc main_arg1)) (m ((c : Thread nD τ).loc main_arg2))
    (m ((c : Thread nD τ).loc main_arg3))  (j 0) (j 1)

set_option maxHeartbeats 1000000 in
/-- The values' block at a context point. -/
theorem blockA12 (c : Dev nD) (t : Fin cfg0.N) (h0 : t.val < 16) (h1 : ¬16 ≤ t.val) (r : Fin 512) (l : Fin 128) :
    ((outsAt0 m c t.val t.isLt).2.2.2 : FVec Ideal S512x128 .f32) (ix2 r l) = result12 m c (((cfg0.win 12).blk t).view.emb (ix2 r l)) := by
  have ht := points t
  have e : ((cfg0.win 12).blk t).view.emb (ix2 r l) = (ix2 ⟨t.val * 512 + r.val, by omega⟩ l : S16384x128.Idx) := by
    blk_ext! [oidx t]
  rw [e, outsAt0_A m c t h0 h1]
  dsimp only
  rw [outA12]
  rw [v_apply, proj_apply, proj_block]
  rfl

set_option maxHeartbeats 1000000 in
/-- The values' block at a latent point. -/
theorem blockB12 (c : Dev nD) (t : Fin cfg0.N) (h0 : ¬t.val < 16) (h1 : 16 ≤ t.val) (r : Fin 512) (l : Fin 128) :
    ((outsAt0 m c t.val t.isLt).2.2.2 : FVec Ideal S512x128 .f32) (ix2 r l) = result12 m c (((cfg0.win 12).blk t).view.emb (ix2 r l)) := by
  have ht := points t
  have e : ((cfg0.win 12).blk t).view.emb (ix2 r l) = (ix2 ⟨t.val * 512 + r.val, by omega⟩ l : S16384x128.Idx) := by
    blk_ext! [oidx t]
  rw [e, outsAt0_B m c t h0 h1]
  dsimp only
  rw [outB12]
  rw [v_apply, proj_apply, proj_block]
  rfl

/-- The block at a grid point is the block of rows `512 t …` of the result. -/
theorem block12 (c : Dev nD) (t : Fin cfg0.N) (r : Fin 512) (l : Fin 128) :
    ((outsAt0 m c t.val t.isLt).2.2.2 : FVec Ideal S512x128 .f32) (ix2 r l) = result12 m c (((cfg0.win 12).blk t).view.emb (ix2 r l)) := by
  by_cases h0 : t.val < 16
  · exact blockA12 m c t h0 (by omega) r l
  · exact blockB12 m c t h0 (by omega) r l

/-- The values' array after the run. -/
theorem final12 (c : Dev nD) : (dats m 0 c).arrAt 12 (cfgs 0).N = result12 m c := by
  refine (dats m 0 c).arrAt_eq_of_covers 12 _ (by decide +kernel) fun t _ y => ?_
  blk_simp
  rw [after0_12]
  have h := block12 m c t (y 0) (y 1)
  rw [show (ix2 (y 0) (y 1) : S512x128.Idx) = y from by funext a; fin_cases a <;> rfl] at h
  exact h

end Cert.Kernel4Ideal.EvenIn

end
-- ==== Proof.FiniteTokens.lean ====
/- What the precondition on the even layers' input says. -/
module

public import proofs.«01_k».proof.Proof.Finite
public import proofs.«01_k».proof.Proof.Gen.Pre_finite_tokens

@[expose] public section

noncomputable section

open Idealize.ShloMosaic

namespace Cert.Pre_finite_tokens

/-- The side conditions of the predicate's operations. -/
theorem facts : Facts := Gen.facts

/-- What the precondition on the even layers' input says. -/
theorem decode [Facts] (x : FVec Ideal S16384x1024 .f32) (d : FVec Ideal S3x6x1024 .f32) (g : FVec Ideal S1024 .f32)
    (w : FVec Ideal S1024x1792 .f32) (qg kg : FVec Ideal S64 .f32) (c s : FVec Ideal S4096x32 .f32)
    (h : fn (F := Ideal) x d g w qg kg c s = fun _ => 1#1) :
    (∃ r : S16384x1024.Idx → ℝ, x = fun i => (r i : EReal)) ∧ (∃ r : S3x6x1024.Idx → ℝ, d = fun i => (r i : EReal))
      ∧ (∃ r : S1024.Idx → ℝ, g = fun i => (r i : EReal)) ∧ ∃ r : S1024x1792.Idx → ℝ, w = fun i => (r i : EReal) := by
  have e := congrFun h (fun k => k.elim0)
  unfold fn at e
  obtain ⟨e₁, e₄⟩ := IntOp.andi_eq_one.1 e
  obtain ⟨e₁, e₃⟩ := IntOp.andi_eq_one.1 e₁
  obtain ⟨e₁, e₂⟩ := IntOp.andi_eq_one.1 e₁
  exact ⟨Cert.Pre_finite_scores.reals x _ _ _ _ e₁, Cert.Pre_finite_scores.reals d _ _ _ _ e₂,
    Cert.Pre_finite_scores.reals g _ _ _ _ e₃, Cert.Pre_finite_scores.reals w _ _ _ _ e₄⟩

end Cert.Pre_finite_tokens

end
-- ==== Proof.EvenRef.lean ====
/- The input projection of the even layers: the reference's arrays. -/
module

public import proofs.«01_k».proof.Proof.EvenIn
public import proofs.«01_k».proof.Proof.FiniteTokens
public import proofs.«01_k».proof.Proof.Gen.Reference4Ideal.Read

@[expose] public section

set_option maxRecDepth 16384

noncomputable section

open Idealize.ShloMosaic Idealize.ShloMosaic.TcCoe Idealize.SL.Sem

namespace Cert.Reference4Ideal.EvenIn

open Cert.Reference4Ideal Cert.Reference4Ideal.Read

/-- The projection's context rows. -/
theorem upper (x : FVec Ideal S16384x1024 .f32) (d : FVec Ideal S3x6x1024 .f32) (g : FVec Ideal S1024 .f32)
    (w : FVec Ideal S1024x1792 .f32) (b : Fin 32) (t : Fin 256) (l : Fin 1792) :
    val_main_v29 (F := Ideal) x d g w (ix3 b t l) = Cert.Kernel4Ideal.EvenIn.P x d g w ⟨b.val * 256 + t.val, by omega⟩ l := by
  unfold Cert.Kernel4Ideal.EvenIn.P
  rw [Rows.group_ctx _ (by show b.val * 256 + t.val < 8192; omega)]
  pointwise! [val_main_v29, val_main_v28, val_main_v27, val_main_v26, val_main_v25, val_main_v24, val_main_v23, val_main_cst_2, val_main_v22, val_main_v21, val_main_v20, val_main_v19, val_main_v18, val_main_v17, val_main_v16, val_main_v15, val_main_cst_1, val_main_v14, val_main_v13, val_main_cst_0, val_main_v12, val_main_v11, val_main_cst, val_main_v10, val_main_v9, val_main_v8, val_main_v7, val_main_v6, val_main_v5, val_main_v4, val_main_v3, val_main_v2, val_main_v1, val_main_v0, Rows.modulate, Rows.rms]

/-- The projection's latent rows. -/
theorem lower (x : FVec Ideal S16384x1024 .f32) (d : FVec Ideal S3x6x1024 .f32) (g : FVec Ideal S1024 .f32)
    (w : FVec Ideal S1024x1792 .f32) (b : Fin 2) (t : Fin 4096) (l : Fin 1792) :
    val_main_v95 (F := Ideal) x d g w (ix3 b t l) = Cert.Kernel4Ideal.EvenIn.P x d g w ⟨8192 + (b.val * 4096 + t.val), by omega⟩ l := by
  unfold Cert.Kernel4Ideal.EvenIn.P
  rw [show Rows.group ⟨8192 + (b.val * 4096 + t.val), by omega⟩ = ⟨1 + b.val, by omega⟩ from by
    rw [Rows.group_lat _ (by show ¬ 8192 + (b.val * 4096 + t.val) < 8192; omega)]
    exact Fin.ext (by show 1 + (8192 + (b.val * 4096 + t.val) - 8192) / 4096 = 1 + b.val; omega)]
  pointwise! [val_main_v95, val_main_v94, val_main_v93, val_main_v92, val_main_v91, val_main_v90, val_main_v89, val_main_cst_14, val_main_v88, val_main_v87, val_main_v86, val_main_v85, val_main_v84, val_main_v83, val_main_v82, val_main_v81, val_main_cst_13, val_main_v80, val_main_v79, val_main_cst_12, val_main_v78, val_main_v77, val_main_cst_11, val_main_v76, val_main_v75, val_main_v74, val_main_v73, val_main_v72, val_main_v71, val_main_v70, val_main_v3, val_main_v2, Rows.modulate, Rows.rms]

/-- The context's queries. -/
theorem q_ctx (x : FVec Ideal S16384x1024 .f32) (d : FVec Ideal S3x6x1024 .f32) (g : FVec Ideal S1024 .f32)
    (w : FVec Ideal S1024x1792 .f32) (q : FVec Ideal S64 .f32) (b : Fin 32) (t : Fin 256) (h : Fin 8) (l : Fin 64) :
    val_main_v48 (F := Ideal) x d g w q (ix4 b t h l)
      = Rows.headNorm (by decide) (fun i : Fin 512 => Cert.Kernel4Ideal.EvenIn.P x d g w ⟨b.val * 256 + t.val, by omega⟩ ⟨1024 + i.val, by omega⟩) (fun i => q (ix1 i))
          ⟨h.val * 64 + l.val, by omega⟩ := by
  pointwise [val_main_v48, val_main_v47, val_main_v46, val_main_v45, val_main_v44, val_main_v43, val_main_v42, val_main_v41, val_main_cst_5, val_main_v40, val_main_v39, val_main_cst_4, val_main_v38, val_main_v37, val_main_cst_3, val_main_v36, val_main_v35, val_main_v32]
  simp only [upper]
  unfold Rows.headNorm
  simp only [show (h.val * 64 + l.val) / 64 * 64 = h.val * 64 by omega, show (h.val * 64 + l.val) % 64 = l.val by omega]

/-- The context's keys. -/
theorem k_ctx (x : FVec Ideal S16384x1024 .f32) (d : FVec Ideal S3x6x1024 .f32) (g : FVec Ideal S1024 .f32)
    (w : FVec Ideal S1024x1792 .f32) (q : FVec Ideal S64 .f32) (b : Fin 32) (t : Fin 256) (h : Fin 2) (l : Fin 64) :
    val_main_v62 (F := Ideal) x d g w q (ix4 b t h l)
      = Rows.headNorm (by decide) (fun i : Fin 128 => Cert.Kernel4Ideal.EvenIn.P x d g w ⟨b.val * 256 + t.val, by omega⟩ ⟨1536 + i.val, by omega⟩) (fun i => q (ix1 i))
          ⟨h.val * 64 + l.val, by omega⟩ := by
  pointwise [val_main_v62, val_main_v61, val_main_v60, val_main_v59, val_main_v58, val_main_v57, val_main_v56, val_main_v55, val_main_cst_8, val_main_v54, val_main_v53, val_main_cst_7, val_main_v52, val_main_v51, val_main_cst_6, val_main_v50, val_main_v49, val_main_v33]
  simp only [upper]
  unfold Rows.headNorm
  simp only [show (h.val * 64 + l.val) / 64 * 64 = h.val * 64 by omega, show (h.val * 64 + l.val) % 64 = l.val by omega]

/-- The latent queries before their turn. -/
theorem q_lat (x : FVec Ideal S16384x1024 .f32) (d : FVec Ideal S3x6x1024 .f32) (g : FVec Ideal S1024 .f32)
    (w : FVec Ideal S1024x1792 .f32) (q : FVec Ideal S64 .f32) (b : Fin 2) (t : Fin 4096) (h : Fin 8) (l : Fin 64) :
    val_main_v114 (F := Ideal) x d g w q (ix4 b t h l)
      = Rows.headNorm (by decide) (fun i : Fin 512 => Cert.Kernel4Ideal.EvenIn.P x d g w ⟨8192 + (b.val * 4096 + t.val), by omega⟩ ⟨1024 + i.val, by omega⟩) (fun i => q (ix1 i))
          ⟨h.val * 64 + l.val, by omega⟩ := by
  pointwise [val_main_v114, val_main_v113, val_main_v112, val_main_v111, val_main_v110, val_main_v109, val_main_v108, val_main_v107, val_main_cst_17, val_main_v106, val_main_v105, val_main_cst_16, val_main_v104, val_main_v103, val_main_cst_15, val_main_v102, val_main_v101, val_main_v98]
  simp only [lower]
  unfold Rows.headNorm
  simp only [show (h.val * 64 + l.val) / 64 * 64 = h.val * 64 by omega, show (h.val * 64 + l.val) % 64 = l.val by omega]

/-- The latent keys before their turn. -/
theorem k_lat (x : FVec Ideal S16384x1024 .f32) (d : FVec Ideal S3x6x1024 .f32) (g : FVec Ideal S1024 .f32)
    (w : FVec Ideal S1024x1792 .f32) (q : FVec Ideal S64 .f32) (b : Fin 2) (t : Fin 4096) (h : Fin 2) (l : Fin 64) :
    val_main_v128 (F := Ideal) x d g w q (ix4 b t h l)
      = Rows.headNorm (by decide) (fun i : Fin 128 => Cert.Kernel4Ideal.EvenIn.P x d g w ⟨8192 + (b.val * 4096 + t.val), by omega⟩ ⟨1536 + i.val, by omega⟩) (fun i => q (ix1 i))
          ⟨h.val * 64 + l.val, by omega⟩ := by
  pointwise [val_main_v128, val_main_v127, val_main_v126, val_main_v125, val_main_v124, val_main_v123, val_main_v122, val_main_v121, val_main_cst_20, val_main_v120, val_main_v119, val_main_cst_19, val_main_v118, val_main_v117, val_main_cst_18, val_main_v116, val_main_v115, val_main_v99]
  simp only [lower]
  unfold Rows.headNorm
  simp only [show (h.val * 64 + l.val) / 64 * 64 = h.val * 64 by omega, show (h.val * 64 + l.val) % 64 = l.val by omega]

set_option maxHeartbeats 1000000 in
/-- The latent queries turned. -/
theorem q_turn (x : FVec Ideal S16384x1024 .f32) (d : FVec Ideal S3x6x1024 .f32) (g : FVec Ideal S1024 .f32)
    (w : FVec Ideal S1024x1792 .f32) (q : FVec Ideal S64 .f32) (c s : FVec Ideal S4096x32 .f32)
    (b : Fin 2) (t : Fin 4096) (h : Fin 8) (l : Fin 64) :
    val_main_v149 (F := Ideal) x d g w q c s (ix4 b t h l)
      = if l.val % 2 = 0 then val_main_v114 (F := Ideal) x d g w q (ix4 b t h ⟨l.val / 2 * 2, by omega⟩) * c (ix2 t ⟨l.val / 2, by omega⟩)
          - val_main_v114 (F := Ideal) x d g w q (ix4 b t h ⟨l.val / 2 * 2 + 1, by omega⟩) * s (ix2 t ⟨l.val / 2, by omega⟩)
        else val_main_v114 (F := Ideal) x d g w q (ix4 b t h ⟨l.val / 2 * 2, by omega⟩) * s (ix2 t ⟨l.val / 2, by omega⟩)
          + val_main_v114 (F := Ideal) x d g w q (ix4 b t h ⟨l.val / 2 * 2 + 1, by omega⟩) * c (ix2 t ⟨l.val / 2, by omega⟩) := by
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129]
  by_cases e : l.val % 2 = 0
  · have e' : l.val % 2 < 1 := by omega
    rw [if_pos e]
    exact dif_pos e'
  · have e' : ¬ l.val % 2 < 1 := by omega
    rw [if_neg e]
    exact dif_neg e'

set_option maxHeartbeats 1000000 in
/-- The latent keys turned. -/
theorem k_turn (x : FVec Ideal S16384x1024 .f32) (d : FVec Ideal S3x6x1024 .f32) (g : FVec Ideal S1024 .f32)
    (w : FVec Ideal S1024x1792 .f32) (q : FVec Ideal S64 .f32) (c s : FVec Ideal S4096x32 .f32)
    (b : Fin 2) (t : Fin 4096) (h : Fin 2) (l : Fin 64) :
    val_main_v170 (F := Ideal) x d g w q c s (ix4 b t h l)
      = if l.val % 2 = 0 then val_main_v128 (F := Ideal) x d g w q (ix4 b t h ⟨l.val / 2 * 2, by omega⟩) * c (ix2 t ⟨l.val / 2, by omega⟩)
          - val_main_v128 (F := Ideal) x d g w q (ix4 b t h ⟨l.val / 2 * 2 + 1, by omega⟩) * s (ix2 t ⟨l.val / 2, by omega⟩)
        else val_main_v128 (F := Ideal) x d g w q (ix4 b t h ⟨l.val / 2 * 2, by omega⟩) * s (ix2 t ⟨l.val / 2, by omega⟩)
          + val_main_v128 (F := Ideal) x d g w q (ix4 b t h ⟨l.val / 2 * 2 + 1, by omega⟩) * c (ix2 t ⟨l.val / 2, by omega⟩) := by
  pointwise [val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150]
  by_cases e : l.val % 2 = 0
  · have e' : l.val % 2 < 1 := by omega
    rw [if_pos e]
    exact dif_pos e'
  · have e' : ¬ l.val % 2 < 1 := by omega
    rw [if_neg e]
    exact dif_neg e'

/-- The latent queries: normalised, and turned. -/
theorem q_rot (x : FVec Ideal S16384x1024 .f32) (d : FVec Ideal S3x6x1024 .f32) (g : FVec Ideal S1024 .f32)
    (w : FVec Ideal S1024x1792 .f32) (q : FVec Ideal S64 .f32) (c s : FVec Ideal S4096x32 .f32)
    (b : Fin 2) (t : Fin 4096) (h : Fin 8) (l : Fin 64) :
    val_main_v149 (F := Ideal) x d g w q c s (ix4 b t h l)
      = Rows.rope (by decide) (Rows.headNorm (by decide) (fun i : Fin 512 => Cert.Kernel4Ideal.EvenIn.P x d g w ⟨8192 + (b.val * 4096 + t.val), by omega⟩ ⟨1024 + i.val, by omega⟩)
          (fun i => q (ix1 i))) (fun i => c (ix2 t i)) (fun i => s (ix2 t i)) ⟨h.val * 64 + l.val, by omega⟩ := by
  rw [q_turn, q_lat, q_lat]
  unfold Rows.rope
  simp only [show (h.val * 64 + l.val) % 2 = l.val % 2 by omega, show (h.val * 64 + l.val) / 2 * 2 = h.val * 64 + l.val / 2 * 2 by omega,
    show (h.val * 64 + l.val) % 64 / 2 = l.val / 2 by omega, Nat.add_assoc]

/-- The latent keys: normalised, and turned. -/
theorem k_rot (x : FVec Ideal S16384x1024 .f32) (d : FVec Ideal S3x6x1024 .f32) (g : FVec Ideal S1024 .f32)
    (w : FVec Ideal S1024x1792 .f32) (q : FVec Ideal S64 .f32) (c s : FVec Ideal S4096x32 .f32)
    (b : Fin 2) (t : Fin 4096) (h : Fin 2) (l : Fin 64) :
    val_main_v170 (F := Ideal) x d g w q c s (ix4 b t h l)
      = Rows.rope (by decide) (Rows.headNorm (by decide) (fun i : Fin 128 => Cert.Kernel4Ideal.EvenIn.P x d g w ⟨8192 + (b.val * 4096 + t.val), by omega⟩ ⟨1536 + i.val, by omega⟩)
          (fun i => q (ix1 i))) (fun i => c (ix2 t i)) (fun i => s (ix2 t i)) ⟨h.val * 64 + l.val, by omega⟩ := by
  rw [k_turn, k_lat, k_lat]
  unfold Rows.rope
  simp only [show (h.val * 64 + l.val) % 2 = l.val % 2 by omega, show (h.val * 64 + l.val) / 2 * 2 = h.val * 64 + l.val / 2 * 2 by omega,
    show (h.val * 64 + l.val) % 64 / 2 = l.val / 2 by omega, Nat.add_assoc]

/-- Real arguments project to reals. -/
theorem real_P (x : FVec Ideal S16384x1024 .f32) (d : FVec Ideal S3x6x1024 .f32) (g : FVec Ideal S1024 .f32)
    (w : FVec Ideal S1024x1792 .f32)
    (qg kg : FVec Ideal S64 .f32) (κ σ : FVec Ideal S4096x32 .f32)
    (h : @Cert.Pre_finite_tokens.fn Cert.Pre_finite_tokens.facts Ideal _ x d g w qg kg κ σ = fun _ => 1#1) (R : Fin 16384) (l : Fin 1792) :
    ∃ r : ℝ, Cert.Kernel4Ideal.EvenIn.P x d g w R l = (r : EReal) := by
  obtain ⟨⟨x, rfl⟩, ⟨d, rfl⟩, ⟨g, rfl⟩, ⟨w, rfl⟩⟩ := @Cert.Pre_finite_tokens.decode Cert.Pre_finite_tokens.facts _ _ _ _ _ _ _ _ h
  refine Rows.real_sum _ fun k => ?_
  obtain ⟨a, ha⟩ := Rows.real_modulate (fun i => x (ix2 R i)) (fun i => g (ix1 i)) (fun i => d (ix3 (Rows.group R) 0 i))
    (fun i => d (ix3 (Rows.group R) 1 i)) k
  exact ⟨a * w (ix2 k l), by rw [ha, EReal.coe_mul]⟩

/-- The context's gated half. -/
theorem a_ctx (x : FVec Ideal S16384x1024 .f32) (d : FVec Ideal S3x6x1024 .f32) (g : FVec Ideal S1024 .f32)
    (w : FVec Ideal S1024x1792 .f32) (b : Fin 32) (t : Fin 256) (l : Fin 512) :
    val_main_v69 (F := Ideal) x d g w (ix3 b t l) = Cert.Kernel4Ideal.EvenIn.gate (Cert.Kernel4Ideal.EvenIn.P x d g w ⟨b.val * 256 + t.val, by omega⟩ ⟨l.val, by omega⟩) (Cert.Kernel4Ideal.EvenIn.P x d g w ⟨b.val * 256 + t.val, by omega⟩ ⟨512 + l.val, by omega⟩) := by
  pointwise [val_main_v69, val_main_v68, val_main_v67, val_main_cst_10, val_main_v66, val_main_v65, val_main_cst_9, val_main_v64, val_main_v63, val_main_v31, val_main_v30]
  simp only [upper]
  rfl

/-- The latent gated half. -/
theorem a_lat (x : FVec Ideal S16384x1024 .f32) (d : FVec Ideal S3x6x1024 .f32) (g : FVec Ideal S1024 .f32)
    (w : FVec Ideal S1024x1792 .f32) (b : Fin 2) (t : Fin 4096) (l : Fin 512) :
    val_main_v177 (F := Ideal) x d g w (ix3 b t l) = Cert.Kernel4Ideal.EvenIn.gate (Cert.Kernel4Ideal.EvenIn.P x d g w ⟨8192 + (b.val * 4096 + t.val), by omega⟩ ⟨l.val, by omega⟩) (Cert.Kernel4Ideal.EvenIn.P x d g w ⟨8192 + (b.val * 4096 + t.val), by omega⟩ ⟨512 + l.val, by omega⟩) := by
  pointwise [val_main_v177, val_main_v176, val_main_v175, val_main_cst_22, val_main_v174, val_main_v173, val_main_cst_21, val_main_v172, val_main_v171, val_main_v97, val_main_v96]
  simp only [lower]
  rfl

/-- The context's values. -/
theorem v_ctx (x : FVec Ideal S16384x1024 .f32) (d : FVec Ideal S3x6x1024 .f32) (g : FVec Ideal S1024 .f32)
    (w : FVec Ideal S1024x1792 .f32) (b : Fin 32) (t : Fin 256) (l : Fin 128) :
    val_main_v34 (F := Ideal) x d g w (ix3 b t l) = Cert.Kernel4Ideal.EvenIn.P x d g w ⟨b.val * 256 + t.val, by omega⟩ ⟨1664 + l.val, by omega⟩ := by
  pointwise [val_main_v34]
  simp only [upper]

/-- The latent values. -/
theorem v_lat (x : FVec Ideal S16384x1024 .f32) (d : FVec Ideal S3x6x1024 .f32) (g : FVec Ideal S1024 .f32)
    (w : FVec Ideal S1024x1792 .f32) (b : Fin 2) (t : Fin 4096) (l : Fin 128) :
    val_main_v100 (F := Ideal) x d g w (ix3 b t l) = Cert.Kernel4Ideal.EvenIn.P x d g w ⟨8192 + (b.val * 4096 + t.val), by omega⟩ ⟨1664 + l.val, by omega⟩ := by
  pointwise [val_main_v100]
  simp only [lower]

/-- The gated half: the reference's array is the kernel's. -/
theorem array9 (x : FVec Ideal S16384x1024 .f32) (d : FVec Ideal S3x6x1024 .f32) (g : FVec Ideal S1024 .f32)
    (w : FVec Ideal S1024x1792 .f32)
    (qg kg : FVec Ideal S64 .f32) (κ σ : FVec Ideal S4096x32 .f32)
    (h : @Cert.Pre_finite_tokens.fn Cert.Pre_finite_tokens.facts Ideal _ x d g w qg kg κ σ = fun _ => 1#1) :
    val_main_v180 (F := Ideal) x d g w = fun j => Cert.Kernel4Ideal.EvenIn.G9 x d g w (j 0) (j 1) := by
  funext j
  idx_vars j
  show _ = Cert.Kernel4Ideal.EvenIn.G9 x d g w j0 j1
  pointwise [val_main_v180, val_main_v179, val_main_v178]
  unfold Cert.Kernel4Ideal.EvenIn.G9
  by_cases e : j0.val < 8192
  · rw [dif_pos e]
    simp only [a_ctx, show j0.val / 256 * 256 + j0.val % 256 = j0.val by omega]
  · rw [dif_neg e]
    simp only [a_lat, show 8192 + ((j0.val - 8192) / 4096 * 4096 + (j0.val - 8192) % 4096) = j0.val by omega]

/-- The values: the reference's array is the kernel's. -/
theorem array12 (x : FVec Ideal S16384x1024 .f32) (d : FVec Ideal S3x6x1024 .f32) (g : FVec Ideal S1024 .f32)
    (w : FVec Ideal S1024x1792 .f32)
    (qg kg : FVec Ideal S64 .f32) (κ σ : FVec Ideal S4096x32 .f32)
    (h : @Cert.Pre_finite_tokens.fn Cert.Pre_finite_tokens.facts Ideal _ x d g w qg kg κ σ = fun _ => 1#1) :
    val_main_v189 (F := Ideal) x d g w = fun j => Cert.Kernel4Ideal.EvenIn.G12 x d g w (j 0) (j 1) := by
  funext j
  idx_vars j
  show _ = Cert.Kernel4Ideal.EvenIn.G12 x d g w j0 j1
  pointwise [val_main_v189, val_main_v188, val_main_v187]
  unfold Cert.Kernel4Ideal.EvenIn.G12
  by_cases e : j0.val < 8192
  · rw [dif_pos e]
    simp only [v_ctx, show j0.val / 256 * 256 + j0.val % 256 = j0.val by omega]
  · rw [dif_neg e]
    simp only [v_lat, show 8192 + ((j0.val - 8192) / 4096 * 4096 + (j0.val - 8192) % 4096) = j0.val by omega]

/-- The queries: the reference's array is the kernel's. -/
theorem array10 (x : FVec Ideal S16384x1024 .f32) (d : FVec Ideal S3x6x1024 .f32) (g : FVec Ideal S1024 .f32)
    (w : FVec Ideal S1024x1792 .f32)
    (qg kg : FVec Ideal S64 .f32) (κ σ : FVec Ideal S4096x32 .f32)
    (h : @Cert.Pre_finite_tokens.fn Cert.Pre_finite_tokens.facts Ideal _ x d g w qg kg κ σ = fun _ => 1#1) :
    val_main_v183 (F := Ideal) x d g w qg κ σ = fun j => Cert.Kernel4Ideal.EvenIn.G10 x d g w qg κ σ (j 0) (j 1) := by
  funext j
  idx_vars j
  show _ = Cert.Kernel4Ideal.EvenIn.G10 x d g w qg κ σ j0 j1
  have hs : ∀ l, Rows.headNormSplit (fun i : Fin 512 => Cert.Kernel4Ideal.EvenIn.P x d g w j0 ⟨1024 + i.val, by omega⟩) (fun i => qg (ix1 i)) l
      = Rows.headNorm (by decide) (fun i : Fin 512 => Cert.Kernel4Ideal.EvenIn.P x d g w j0 ⟨1024 + i.val, by omega⟩) (fun i => qg (ix1 i)) l :=
    fun l => Rows.headNormSplit_eq _ _ _ _ fun i => real_P x d g w qg kg κ σ h _ _
  pointwise [val_main_v183, val_main_v182, val_main_v181]
  unfold Cert.Kernel4Ideal.EvenIn.G10
  by_cases e : j0.val < 8192
  · rw [dif_pos e]
    rw [if_pos e, q_ctx, hs]
    simp only [show j0.val / 256 * 256 + j0.val % 256 = j0.val by omega, show j1.val / 64 * 64 + j1.val % 64 = j1.val by omega]
  · rw [dif_neg e]
    rw [if_neg e, q_rot, funext hs]
    simp only [show (j0.val - 8192) % 4096 = j0.val % 4096 by omega, show 8192 + ((j0.val - 8192) / 4096 * 4096 + j0.val % 4096) = j0.val by omega, show j1.val / 64 * 64 + j1.val % 64 = j1.val by omega]

/-- The keys: the reference's array is the kernel's. -/
theorem array11 (x : FVec Ideal S16384x1024 .f32) (d : FVec Ideal S3x6x1024 .f32) (g : FVec Ideal S1024 .f32)
    (w : FVec Ideal S1024x1792 .f32)
    (qg kg : FVec Ideal S64 .f32) (κ σ : FVec Ideal S4096x32 .f32)
    (h : @Cert.Pre_finite_tokens.fn Cert.Pre_finite_tokens.facts Ideal _ x d g w qg kg κ σ = fun _ => 1#1) :
    val_main_v186 (F := Ideal) x d g w kg κ σ = fun j => Cert.Kernel4Ideal.EvenIn.G11 x d g w kg κ σ (j 0) (j 1) := by
  funext j
  idx_vars j
  show _ = Cert.Kernel4Ideal.EvenIn.G11 x d g w kg κ σ j0 j1
  have hs : ∀ l, Rows.headNormSplit (fun i : Fin 128 => Cert.Kernel4Ideal.EvenIn.P x d g w j0 ⟨1536 + i.val, by omega⟩) (fun i => kg (ix1 i)) l
      = Rows.headNorm (by decide) (fun i : Fin 128 => Cert.Kernel4Ideal.EvenIn.P x d g w j0 ⟨1536 + i.val, by omega⟩) (fun i => kg (ix1 i)) l :=
    fun l => Rows.headNormSplit_eq _ _ _ _ fun i => real_P x d g w qg kg κ σ h _ _
  pointwise [val_main_v186, val_main_v185, val_main_v184]
  unfold Cert.Kernel4Ideal.EvenIn.G11
  by_cases e : j0.val < 8192
  · rw [dif_pos e]
    rw [if_pos e, k_ctx, hs]
    simp only [show j0.val / 256 * 256 + j0.val % 256 = j0.val by omega, show j1.val / 64 * 64 + j1.val % 64 = j1.val by omega]
  · rw [dif_neg e]
    rw [if_neg e, k_rot, funext hs]
    simp only [show (j0.val - 8192) % 4096 = j0.val % 4096 by omega, show 8192 + ((j0.val - 8192) / 4096 * 4096 + j0.val % 4096) = j0.val by omega, show j1.val / 64 * 64 + j1.val % 64 = j1.val by omega]

end Cert.Reference4Ideal.EvenIn

end
-- ==== Proof.ContextNorm.lean ====
/- The final normalisation of the context rows: the kernel's result array after the run and the reference's, one formula. -/
module

public import proofs.«01_k».proof.Proof.Rows
public import proofs.«01_k».proof.Proof.Gen.Kernel5Ideal.Value
public import proofs.«01_k».proof.Proof.Gen.Reference5Ideal.Read

@[expose] public section

set_option maxRecDepth 16384

noncomputable section

open Idealize.ShloMosaic Idealize.ShloMosaic.TcCoe Idealize.SL.Sem

namespace Cert.Kernel5Ideal.ContextNorm

open Cert.Kernel5Ideal Cert.Kernel5Ideal.Gen

variable (m : (ℓ : Loc nD τ sig) → Buf (Elt Ideal) ℓ)

/-- The windows' block indices at every grid point. -/
theorem idx : ∀ t : Fin cfg0.N, win0_0.index t = ![ t.val, 0] ∧ win0_1.index t = ![0, 0] ∧ win0_2.index t = ![t.val, 0] :=
  (by decide +kernel : ∀ t : Fin grid0.N, _)

/-- There are 32 grid points. -/
theorem points (t : Fin cfg0.N) : t.val < 32 := t.isLt

/-- The result's row `R`, column `l`. -/
def G (x : FVec Ideal S16384x1024 .f32) (g : FVec Ideal S1024 .f32) (R : Fin 8192) (l : Fin 1024) : EReal :=
  Rows.rms (fun k => x (ix2 ⟨R.val, by omega⟩ k)) (fun k => g (ix1 k)) l

/-- The body at an index of its block. -/
theorem body (x : FVec Ideal S256x1024 .f32) (g : FVec Ideal S1x1024 .f32) (r : Fin 256) (l : Fin 1024) :
    out0_2 (F := Ideal) x g (ix2 r l) = Rows.rms (fun k => x (ix2 r k)) (fun k => g (ix2 0 k)) l := by
  unfold out0_2
  rw [View.canon_unit_zero (by decide), View.ld_unit_zero (by decide), View.ld_unit_zero (by decide)]
  pointwise [k0_pay1]
  rfl

/-- The block of tokens at grid point `t`. -/
theorem tokens (c : Dev nD) (t : Fin cfg0.N) (r : Fin 256) (l : Fin 1024) :
    iblk m c 0 t (ix2 r l) = m ((c : Thread nD τ).loc main_arg0) (ix2 ⟨(t.val * 256 + r.val), by have := points t; omega⟩ l) := by
  blk_ext! [iblk, V, idx t]

/-- The gains. -/
theorem gain (c : Dev nD) (t : Fin cfg0.N) (l : Fin 1024) :
    iblk m c 1 t (ix2 0 l) = m ((c : Thread nD τ).loc main_arg1) (ix1 l) := by
  blk_ext! [iblk, V, idx t]

/-- The result array as a function of the arguments. -/
def result (c : Dev nD) : FVec Ideal S8192x1024 .f32 := fun j =>
  G (m ((c : Thread nD τ).loc main_arg0)) (m ((c : Thread nD τ).loc main_arg1)) (j 0) (j 1)

/-- The output block at grid point `t` is the block of rows `256 t …` of the result. -/
theorem block (c : Dev nD) (t : Fin cfg0.N) (r : Fin 256) (l : Fin 1024) :
    out0_2 (F := Ideal) (iblk m c 0 t) (iblk m c 1 t) (ix2 r l) = result m c (((cfg0.win 2).blk t).view.emb (ix2 r l)) := by
  have ht := points t
  have e : ((cfg0.win 2).blk t).view.emb (ix2 r l) = (ix2 ⟨t.val * 256 + r.val, by omega⟩ l : S8192x1024.Idx) := by
    blk_ext! [idx t]
  rw [e, body, funext (tokens m c t r), funext (gain m c t)]
  rfl

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  have h := block m c t (y 0) (y 1)
  rw [show (ix2 (y 0) (y 1) : S256x1024.Idx) = y from by funext a; fin_cases a <;> rfl] at h
  exact h

end Cert.Kernel5Ideal.ContextNorm

namespace Cert.Reference5Ideal.ContextNorm

open Cert.Reference5Ideal Cert.Reference5Ideal.Read

/-- The reference's result array is the same formula. -/
theorem array (x : FVec Ideal S16384x1024 .f32) (g : FVec Ideal S1024 .f32) :
    val_main_v13 (F := Ideal) x g = fun j => Cert.Kernel5Ideal.ContextNorm.G x g (j 0) (j 1) := by
  funext j
  idx_vars j
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, Cert.Kernel5Ideal.ContextNorm.G, Rows.rms]

end Cert.Reference5Ideal.ContextNorm

end
-- ==== Proof.LatentNorm.lean ====
/- The final normalisation of the latent rows: the kernel's result array after the run and the reference's, one formula. -/
module

public import proofs.«01_k».proof.Proof.Rows
public import proofs.«01_k».proof.Proof.Gen.Kernel6Ideal.Value
public import proofs.«01_k».proof.Proof.Gen.Reference6Ideal.Read

@[expose] public section

set_option maxRecDepth 16384

noncomputable section

open Idealize.ShloMosaic Idealize.ShloMosaic.TcCoe Idealize.SL.Sem

namespace Cert.Kernel6Ideal.LatentNorm

open Cert.Kernel6Ideal Cert.Kernel6Ideal.Gen

variable (m : (ℓ : Loc nD τ sig) → Buf (Elt Ideal) ℓ)

/-- The windows' block indices at every grid point. -/
theorem idx : ∀ t : Fin cfg0.N, win0_0.index t = ![32 + t.val, 0] ∧ win0_1.index t = ![0, 0] ∧ win0_2.index t = ![t.val, 0] :=
  (by decide +kernel : ∀ t : Fin grid0.N, _)

/-- There are 32 grid points. -/
theorem points (t : Fin cfg0.N) : t.val < 32 := t.isLt

/-- The result's row `R`, column `l`. -/
def G (x : FVec Ideal S16384x1024 .f32) (g : FVec Ideal S1024 .f32) (R : Fin 8192) (l : Fin 1024) : EReal :=
  Rows.rms (fun k => x (ix2 ⟨8192 + R.val, by omega⟩ k)) (fun k => g (ix1 k)) l

/-- The body at an index of its block. -/
theorem body (x : FVec Ideal S256x1024 .f32) (g : FVec Ideal S1x1024 .f32) (r : Fin 256) (l : Fin 1024) :
    out0_2 (F := Ideal) x g (ix2 r l) = Rows.rms (fun k => x (ix2 r k)) (fun k => g (ix2 0 k)) l := by
  unfold out0_2
  rw [View.canon_unit_zero (by decide), View.ld_unit_zero (by decide), View.ld_unit_zero (by decide)]
  pointwise [k0_pay1]
  rfl

/-- The block of tokens at grid point `t`. -/
theorem tokens (c : Dev nD) (t : Fin cfg0.N) (r : Fin 256) (l : Fin 1024) :
    iblk m c 0 t (ix2 r l) = m ((c : Thread nD τ).loc main_arg0) (ix2 ⟨8192 + (t.val * 256 + r.val), by have := points t; omega⟩ l) := by
  blk_ext! [iblk, V, idx t]

/-- The gains. -/
theorem gain (c : Dev nD) (t : Fin cfg0.N) (l : Fin 1024) :
    iblk m c 1 t (ix2 0 l) = m ((c : Thread nD τ).loc main_arg1) (ix1 l) := by
  blk_ext! [iblk, V, idx t]

/-- The result array as a function of the arguments. -/
def result (c : Dev nD) : FVec Ideal S8192x1024 .f32 := fun j =>
  G (m ((c : Thread nD τ).loc main_arg0)) (m ((c : Thread nD τ).loc main_arg1)) (j 0) (j 1)

/-- The output block at grid point `t` is the block of rows `256 t …` of the result. -/
theorem block (c : Dev nD) (t : Fin cfg0.N) (r : Fin 256) (l : Fin 1024) :
    out0_2 (F := Ideal) (iblk m c 0 t) (iblk m c 1 t) (ix2 r l) = result m c (((cfg0.win 2).blk t).view.emb (ix2 r l)) := by
  have ht := points t
  have e : ((cfg0.win 2).blk t).view.emb (ix2 r l) = (ix2 ⟨t.val * 256 + r.val, by omega⟩ l : S8192x1024.Idx) := by
    blk_ext! [idx t]
  rw [e, body, funext (tokens m c t r), funext (gain m c t)]
  rfl

/-- The result array after the run. -/
theorem final (c : Dev nD) : (dats m 0 c).arrAt 2 (cfgs 0).N = result m c := by
  refine (dats m 0 c).arrAt_eq_of_covers 2 _ (by decide +kernel) fun t _ y => ?_
  blk_simp
  rw [after0_2]
  have h := block m c t (y 0) (y 1)
  rw [show (ix2 (y 0) (y 1) : S256x1024.Idx) = y from by funext a; fin_cases a <;> rfl] at h
  exact h

end Cert.Kernel6Ideal.LatentNorm

namespace Cert.Reference6Ideal.LatentNorm

open Cert.Reference6Ideal Cert.Reference6Ideal.Read

/-- The reference's result array is the same formula. -/
theorem array (x : FVec Ideal S16384x1024 .f32) (g : FVec Ideal S1024 .f32) :
    val_main_v13 (F := Ideal) x g = fun j => Cert.Kernel6Ideal.LatentNorm.G x g (j 0) (j 1) := by
  funext j
  idx_vars j
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, Cert.Kernel6Ideal.LatentNorm.G, Rows.rms]

end Cert.Reference6Ideal.LatentNorm

end
-- ==== Proof.FiniteQueries.lean ====
/- What the precondition on the context's attention says. -/
module

public import proofs.«01_k».proof.Proof.Finite
public import proofs.«01_k».proof.Proof.Gen.Pre_finite_queries

@[expose] public section

noncomputable section

open Idealize.ShloMosaic

namespace Cert.Pre_finite_queries

/-- The side conditions of the predicate's operations. -/
theorem facts : Facts := Gen.facts

/-- What the precondition on the context's attention says. -/
theorem decode [Facts] (q : FVec Ideal S16384x512 .f32) (k v : FVec Ideal S16384x128 .f32) (h : fn (F := Ideal) q k v = fun _ => 1#1) :
    (∃ r : S16384x512.Idx → ℝ, q = fun i => (r i : EReal)) ∧ ∃ r : S16384x128.Idx → ℝ, k = fun i => (r i : EReal) := by
  have e := congrFun h (fun k => k.elim0)
  unfold fn at e
  obtain ⟨e₁, e₂⟩ := IntOp.andi_eq_one.1 e
  exact ⟨Cert.Pre_finite_scores.reals q _ _ _ _ e₁, Cert.Pre_finite_scores.reals k _ _ _ _ e₂⟩

end Cert.Pre_finite_queries

end
-- ==== Proof.CtxAttention.lean ====
/- The attention of the context tokens: a request's rows against its own keys and values. -/
module

public import proofs.«01_k».proof.Proof.Softmax
public import proofs.«01_k».proof.Proof.FiniteQueries
public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

open Idealize.ShloMosaic Idealize.ShloMosaic.TcCoe Idealize.SL.Sem

/-- A row of attention over one set of keys, base 2. -/
def Softmax.row {n d : ℕ} (q : Fin d → EReal) (k : Fin n → Fin d → EReal) (V : Fin n → EReal) : EReal :=
  let a := fun i => ∑ x, q x * k i x
  let M := Finset.univ.fold max ⊥ a
  Ideal.div (∑ i, Ideal.exp2 (a i - M) * V i) (∑ i, Ideal.exp2 (a i - M))

namespace Cert.Kernel7Ideal.CtxAttention

open Cert.Kernel7Ideal Cert.Kernel7Ideal.Gen

variable (m : (ℓ : Loc nD τ sig) → Buf (Elt Ideal) ℓ)

/-- The scores of a head. -/
def scores (q k : FVec Ideal S256x64 .bf16) : FVec Ideal S256x256 .f32 :=
  matmul dot_S256x64_S256x64_S256x256_1_1_0_0_n_n none q k (constant S256x256 .f32 0x00000000#32)

/-- The weights: powers of two of the scores less their row's largest. -/
def weights (s : FVec Ideal S256x256 .f32) : FVec Ideal S256x256 .f32 :=
  exp2 (subf s (broadcastTo S256x256 (shapeCast S256x1 (multiReduction .maximumf [1] S256 s 0xFF800000#32 reduces_S256x256_S256 (.inl rfl) rfl)
    shapeCasts_S256_S256x1) broadcasts_S256x1_S256x256))

/-- The weighted sum of the values over the sum of the weights. -/
def blend (p : FVec Ideal S256x256 .f32) (v : FVec Ideal S256x64 .bf16) : FVec Ideal S256x64 .bf16 :=
  truncf .bf16 (divf
    (addf (broadcast S256x64 (Scalar.ofBits .f32 0x00000000#32))
      (matmul dot_S256x256_S256x64_S256x64_1_0_0_1_n_n none (truncf .bf16 p bitsLt_bf16_f32) v (constant S256x64 .f32 0x00000000#32)))
    (broadcastTo S256x64
      (addf (broadcast S256x1 (Scalar.ofBits .f32 0x00000000#32))
        (shapeCast S256x1 (multiReduction .add [1] S256 p 0x00000000#32 reduces_S256x256_S256 (.inl rfl) rfl) shapeCasts_S256_S256x1))
      broadcasts_S256x1_S256x64)) bitsLt_bf16_f32

/-- A head of the body. -/
def head (q k v : FVec Ideal S256x64 .bf16) : FVec Ideal S256x64 .bf16 := blend (weights (scores q k)) v

/-- The pattern of minus infinity denotes the least extended real. -/
theorem ofBits_neg_inf : Ideal.ofBits .f32 0xFF800000#32 = ⊥ := by
  simp [Ideal.ofBits, Ideal.ieee]

/-- A head read at row `r` and column `d`. -/
theorem head_apply (q k v : FVec Ideal S256x64 .bf16) (r : Fin 256) (d : Fin 64) :
    head q k v (ix2 r d) = Softmax.row (fun x => q (ix2 r x)) (fun i x => k (ix2 i x)) (fun i => v (ix2 i d)) := by
  pointwise [head, blend, weights, scores, ofBits_neg_inf]
  rfl

/-- The kernel's constant is the scale, by the certificate's table of constants. -/
theorem q_scale : Named.named (F := Ideal) κ "q_scale" (φ := .f32) 0x3E38AA3B#32 = ((Softmax.scale : ℝ) : EReal) :=
  IdealRules.named_const.ideal_named_scalar _ _ _ _ rfl

/-- A head over its columns of the staged blocks. -/
theorem head_blocks (oq ok : ℕ) (hoq : oq + 64 ≤ 512) (hok : ok + 64 ≤ 128) (sq : S256x512.Slices ![0, oq] S256x64)
    (sk : S256x128.Slices ![0, ok] S256x64) (x0 : FVec Ideal S256x512 .f32) (x1 x2 : FVec Ideal S256x128 .f32) (r : Fin 256) (d : Fin 64) :
    head (extractStridedSlice S256x64 ![0, oq] (k0_pay2 x0) sq) (extractStridedSlice S256x64 ![0, ok] (k0_pay3 x1) sk)
        (extractStridedSlice S256x64 ![0, ok] (k0_pay4 x2) sk) (ix2 r d)
      = Softmax.row (fun x : Fin 64 => x0 (ix2 r ⟨oq + x.val, by omega⟩) * ((Softmax.scale : ℝ) : EReal))
          (fun i (x : Fin 64) => x1 (ix2 i ⟨ok + x.val, by omega⟩)) (fun i => x2 (ix2 i ⟨ok + d.val, by omega⟩)) := by
  rw [head_apply]
  pointwise [k0_pay2, k0_pay3, k0_pay4, q_scale]

/-- The row of attention a block holds at row `r`, column `l`: head `l / 64`, column `l % 64` of it. -/
def B (x0 : FVec Ideal S256x512 .f32) (x1 x2 : FVec Ideal S256x128 .f32) (r : Fin 256) (l : Fin 512) : EReal :=
  Softmax.row (fun x : Fin 64 => x0 (ix2 r ⟨l.val / 64 * 64 + x.val, by omega⟩) * ((Softmax.scale : ℝ) : EReal))
    (fun (i : Fin 256) (x : Fin 64) => x1 (ix2 i ⟨l.val / 256 * 64 + x.val, by omega⟩))
    (fun i => x2 (ix2 i ⟨l.val / 256 * 64 + l.val % 64, by omega⟩))

/-- A head at a column of the whole block that the head's columns hold. -/
theorem head_at (oq ok : ℕ) (hoq : oq + 64 ≤ 512) (hok : ok + 64 ≤ 128) (sq : S256x512.Slices ![0, oq] S256x64)
    (sk : S256x128.Slices ![0, ok] S256x64) (x0 : FVec Ideal S256x512 .f32) (x1 x2 : FVec Ideal S256x128 .f32) (r : Fin 256) (l : Fin 512)
    (y : S256x64.Idx) (hr : r.val = (y 0).val) (hl : l.val = oq + (y 1).val) (ho : oq % 64 = 0) (hk : ok = oq / 256 * 64) :
    head (extractStridedSlice S256x64 ![0, oq] (k0_pay2 x0) sq) (extractStridedSlice S256x64 ![0, ok] (k0_pay3 x1) sk)
        (extractStridedSlice S256x64 ![0, ok] (k0_pay4 x2) sk) y = B x0 x1 x2 r l := by
  idx_vars y
  have hr' : r = y0 := Fin.ext hr
  have hl' : l.val = oq + y1.val := hl
  have hy : y1.val < 64 := y1.isLt
  have e1 : l.val / 64 * 64 = oq := by omega
  have e2 : l.val / 256 * 64 = ok := by omega
  have e3 : l.val % 64 = y1.val := by omega
  subst hr'
  rw [head_blocks oq ok hoq hok]
  simp only [B, e1, e2, e3]

/-- What the body leaves in the output block. -/
theorem body (x0 : FVec Ideal S256x512 .f32) (x1 x2 : FVec Ideal S256x128 .f32) (r : Fin 256) (l : Fin 512) :
    out0_3 (F := Ideal) x0 x1 x2 (ix2 r l) = B x0 x1 x2 r l := by
  unfold out0_3 k0_pay24 k0_pay25 k0_pay26
  rw [View.ld_unit_zero (by decide), View.ld_unit_zero (by decide), View.ld_unit_zero (by decide)]
  canon_tiles x h
  case piece0 =>
    exact head_at 448 64 (by decide) (by decide) _ _ x0 x1 x2 r l x h0 h1 rfl rfl
  case piece1 =>
    exact head_at 384 64 (by decide) (by decide) _ _ x0 x1 x2 r l x h0 h1 rfl rfl
  case piece2 =>
    exact head_at 320 64 (by decide) (by decide) _ _ x0 x1 x2 r l x h0 h1 rfl rfl
  case piece3 =>
    exact head_at 256 64 (by decide) (by decide) _ _ x0 x1 x2 r l x h0 h1 rfl rfl
  case piece4 =>
    exact head_at 192 0 (by decide) (by decide) _ _ x0 x1 x2 r l x h0 h1 rfl rfl
  case piece5 =>
    exact head_at 128 0 (by decide) (by decide) _ _ x0 x1 x2 r l x h0 h1 rfl rfl
  case piece6 =>
    exact head_at 64 0 (by decide) (by decide) _ _ x0 x1 x2 r l x h0 h1 rfl rfl
  case piece7 =>
    exact head_at 0 0 (by decide) (by decide) _ _ x0 x1 x2 r l x h0 (h1.trans (Nat.zero_add _).symm) rfl rfl

/-- The windows' block indices at every grid point. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

/-- There are 32 grid points. -/
theorem points (t : Fin cfg0.N) : t.val < 32 := t.isLt

/-- The result as one function of the argument arrays: row `R`, column `l`. -/
def G (q : FVec Ideal S16384x512 .f32) (k v : FVec Ideal S16384x128 .f32) (R : Fin 8192) (l : Fin 512) : EReal :=
  Softmax.row (fun x : Fin 64 => q (ix2 ⟨R.val, by omega⟩ ⟨l.val / 64 * 64 + x.val, by omega⟩) * ((Softmax.scale : ℝ) : EReal))
    (fun (i : Fin 256) (x : Fin 64) => k (ix2 ⟨R.val / 256 * 256 + i.val, by omega⟩ ⟨l.val / 256 * 64 + x.val, by omega⟩))
    (fun i => v (ix2 ⟨R.val / 256 * 256 + i.val, by omega⟩ ⟨l.val / 256 * 64 + l.val % 64, by omega⟩))

/-- The query block at grid point `t`. -/
theorem query (c : Dev nD) (t : Fin cfg0.N) (r : Fin 256) (l : Fin 512) :
    iblk m c 0 t (ix2 r l) = m ((c : Thread nD τ).loc main_arg0) (ix2 ⟨t.val * 256 + r.val, by have := points t; omega⟩ l) := by
  blk_ext! [iblk, V, idx t]

/-- The key block. -/
theorem key (c : Dev nD) (t : Fin cfg0.N) (i : Fin 256) (l : Fin 128) :
    iblk m c 1 t (ix2 i l) = m ((c : Thread nD τ).loc main_arg1) (ix2 ⟨t.val * 256 + i.val, by have := points t; omega⟩ l) := by
  blk_ext! [iblk, V, idx t]

/-- The value block. -/
theorem value (c : Dev nD) (t : Fin cfg0.N) (i : Fin 256) (l : Fin 128) :
    iblk m c 2 t (ix2 i l) = m ((c : Thread nD τ).loc main_arg2) (ix2 ⟨t.val * 256 + i.val, by have := points t; omega⟩ l) := by
  blk_ext! [iblk, V, idx t]

/-- The result array as a function of the arguments. -/
def result (c : Dev nD) : FVec Ideal S8192x512 .bf16 := fun j =>
  G (m ((c : Thread nD τ).loc main_arg0)) (m ((c : Thread nD τ).loc main_arg1)) (m ((c : Thread nD τ).loc main_arg2)) (j 0) (j 1)

/-- The output block at grid point `t` is the block of rows `256 t …` of the result. -/
theorem block (c : Dev nD) (t : Fin cfg0.N) (r : Fin 256) (l : Fin 512) :
    out0_3 (F := Ideal) (iblk m c 0 t) (iblk m c 1 t) (iblk m c 2 t) (ix2 r l) = result m c (((cfg0.win 3).blk t).view.emb (ix2 r l)) := by
  have ht := points t
  have e : ((cfg0.win 3).blk t).view.emb (ix2 r l) = (ix2 ⟨t.val * 256 + r.val, by omega⟩ l : S8192x512.Idx) := by
    blk_ext! [idx t]
  rw [e, body]
  show _ = G _ _ _ ⟨t.val * 256 + r.val, _⟩ l
  have e1 : (t.val * 256 + r.val) / 256 = t.val := by omega
  simp only [B, G, query, key, value, e1]

/-- The result array after the run. -/
theorem final (c : Dev nD) : (dats m 0 c).arrAt 3 (cfgs 0).N = result m c := by
  refine (dats m 0 c).arrAt_eq_of_covers 3 _ (by decide +kernel) fun t _ y => ?_
  blk_simp
  rw [after0_3]
  have h := block m c t (y 0) (y 1)
  rw [show (ix2 (y 0) (y 1) : S256x512.Idx) = y from by funext a; fin_cases a <;> rfl] at h
  exact h

end Cert.Kernel7Ideal.CtxAttention

namespace Cert.Reference7Ideal.CtxAttention

open Cert.Reference7Ideal Cert.Reference7Ideal.Read Cert.Reference7Ideal.Gen

/-- The reference's constant `1/8`. -/
theorem eighth : val_main_cst (F := Ideal) ix0 = ((1 / 8 : ℝ) : EReal) := by
  show Ideal.ofBits .f32 0x3E000000#32 = _
  simp [Ideal.ofBits, Ideal.ieee, -EReal.coe_mul]
  norm_num

/-- The pattern of minus infinity denotes the least extended real. -/
theorem ofBits_neg_inf : Ideal.ofBits .f32 0xFF800000#32 = ⊥ := by
  simp [Ideal.ofBits, Ideal.ieee]

/-- A score. -/
theorem scores_apply (q : FVec Ideal S16384x512 .f32) (k : FVec Ideal S16384x128 .f32)
    (b : Fin 32) (g : Fin 2) (h : Fin 4) (t i : Fin 256) :
    val_main_v9 (F := Ideal) q k (ix5 b g h t i)
      = (∑ x : Fin 64, k (ix2 ⟨b.val * 256 + i.val, by omega⟩ ⟨g.val * 64 + x.val, by omega⟩)
          * q (ix2 ⟨b.val * 256 + t.val, by omega⟩ ⟨g.val * 256 + h.val * 64 + x.val, by omega⟩)) * ((1 / 8 : ℝ) : EReal) := by
  pointwise [val_main_v9, val_main_v8, val_main_v7, val_main_v6, val_main_v3, val_main_v2, val_main_v1, val_main_v0, eighth]

/-- The result read at row `R` and column `l`: the softmax of the row's scores against the values. -/
theorem result_apply (q : FVec Ideal S16384x512 .f32) (k v : FVec Ideal S16384x128 .f32) (R : Fin 8192) (l : Fin 512) :
    let b : Fin 32 := ⟨R.val / 256, by omega⟩
    let t : Fin 256 := ⟨R.val % 256, by omega⟩
    let g : Fin 2 := ⟨l.val / 256, by omega⟩
    let h : Fin 4 := ⟨l.val / 64 % 4, by omega⟩
    val_main_v24 (F := Ideal) q k v (ix2 R l)
      = ∑ i : Fin 256, v (ix2 ⟨R.val / 256 * 256 + i.val, by omega⟩ ⟨l.val / 256 * 64 + l.val % 64, by omega⟩)
          * Ideal.div (Ideal.exp (val_main_v9 (F := Ideal) q k (ix5 b g h t i) - val_main_v12 (F := Ideal) q k (ix4 b g h t)))
            (∑ j : Fin 256, Ideal.exp (val_main_v9 (F := Ideal) q k (ix5 b g h t j) - val_main_v12 (F := Ideal) q k (ix4 b g h t))) := by
  intro b t g h
  pointwise [val_main_v24, val_main_v23, val_main_v22, val_main_v21, val_main_v20, val_main_v19, val_main_v18, val_main_v17,
    val_main_v16, val_main_v15, val_main_v14, val_main_v13, val_main_v5, val_main_v4, val_main_cst_2]
  rfl

/-- The maximum over the keys, read at a row. -/
theorem maximum_apply (x : FVec Ideal S32x2x4x256x256 .f32) (b : Fin 32) (g : Fin 2) (h : Fin 4) (t : Fin 256) :
    Host.reduce (FloatOps.maximumf (F := Ideal)) x (constant S_ .f32 0xFF800000#32) reducesTo_S32x2x4x256x256_S32x2x4x256_d4 h_S_ (ix4 b g h t)
      = Finset.univ.fold max ⊥ fun i : Fin 256 => x (ix5 b g h t i) := by
  pointwise [ofBits_neg_inf]

/-- The largest score of a row, when its scores are finite, is finite. -/
theorem top_real (q : FVec Ideal S16384x512 .f32) (k : FVec Ideal S16384x128 .f32)
    (b : Fin 32) (g : Fin 2) (h : Fin 4) (t : Fin 256) (σ : Fin (255 + 1) → ℝ)
    (hσ : ∀ i, val_main_v9 (F := Ideal) q k (ix5 b g h t i) = (σ i : EReal)) :
    ∃ M : ℝ, val_main_v12 (F := Ideal) q k (ix4 b g h t) = (M : EReal) := by
  obtain ⟨M, hM⟩ := Softmax.fold_max_real σ
  refine ⟨M, ?_⟩
  rw [val_main_v12_apply, val_main_v11_apply, val_main_cst_1_apply]
  unfold val_main_v10 val_main_cst_0
  rw [maximum_apply]
  simp only [hσ]
  rw [hM]
  show max (Ideal.ofBits .f32 0xFF800000#32) (M : EReal) = _
  rw [ofBits_neg_inf]
  exact max_eq_right bot_le

/-- Over finite queries and keys the reference's result is the kernel's formula. -/
theorem row (q : S16384x512.Idx → ℝ) (k : S16384x128.Idx → ℝ) (v : FVec Ideal S16384x128 .f32) (R : Fin 8192) (l : Fin 512) :
    val_main_v24 (F := Ideal) (fun i => (q i : EReal)) (fun i => (k i : EReal)) v (ix2 R l)
      = Softmax.row (fun x : Fin 64 => (q (ix2 ⟨R.val, by omega⟩ ⟨l.val / 64 * 64 + x.val, by omega⟩) : EReal) * ((Softmax.scale : ℝ) : EReal))
          (fun (i : Fin 256) (x : Fin 64) => (k (ix2 ⟨R.val / 256 * 256 + i.val, by omega⟩ ⟨l.val / 256 * 64 + x.val, by omega⟩) : EReal))
          (fun i => v (ix2 ⟨R.val / 256 * 256 + i.val, by omega⟩ ⟨l.val / 256 * 64 + l.val % 64, by omega⟩)) := by
  set Q : FVec Ideal S16384x512 .f32 := fun i => (q i : EReal) with hQ
  set K : FVec Ideal S16384x128 .f32 := fun i => (k i : EReal) with hK
  let b : Fin 32 := ⟨R.val / 256, by omega⟩
  let t : Fin 256 := ⟨R.val % 256, by omega⟩
  let g : Fin 2 := ⟨l.val / 256, by omega⟩
  let h : Fin 4 := ⟨l.val / 64 % 4, by omega⟩
  let q' : Fin 64 → ℝ := fun x => q (ix2 ⟨R.val, by omega⟩ ⟨l.val / 64 * 64 + x.val, by omega⟩)
  let k' : Fin (255 + 1) → Fin 64 → ℝ := fun i x => k (ix2 ⟨R.val / 256 * 256 + i.val, by omega⟩ ⟨l.val / 256 * 64 + x.val, by omega⟩)
  have hs : ∀ i : Fin (255 + 1), val_main_v9 (F := Ideal) Q K (ix5 b g h t i)
      = (∑ x, (k' i x : EReal) * (q' x : EReal)) * ((1 / 8 : ℝ) : EReal) := by
    intro i
    rw [scores_apply]
    refine congrArg (· * _) (Finset.sum_congr rfl fun x _ => ?_)
    have e1 : b.val * 256 + t.val = R.val := by show R.val / 256 * 256 + R.val % 256 = _; omega
    have e2 : g.val * 256 + h.val * 64 + x.val = l.val / 64 * 64 + x.val := by
      show l.val / 256 * 256 + l.val / 64 % 4 * 64 + x.val = _; omega
    simp only [e1, e2, hQ, hK, q', k', b, g]
  obtain ⟨M, hM⟩ := top_real Q K b g h t (fun i => (∑ x, k' i x * q' x) * (1 / 8)) (fun i => by rw [hs, Softmax.score_reference])
  rw [result_apply]
  have key := Softmax.attend_one q' k' (fun i => v (ix2 ⟨R.val / 256 * 256 + i.val, by omega⟩ ⟨l.val / 256 * 64 + l.val % 64, by omega⟩)) M
  refine Eq.trans ?_ key.symm
  have hden : (∑ j : Fin (255 + 1), Ideal.exp (val_main_v9 (F := Ideal) Q K (ix5 b g h t j) - val_main_v12 (F := Ideal) Q K (ix4 b g h t)))
      = ∑ i, Ideal.exp ((∑ x, (k' i x : EReal) * (q' x : EReal)) * ((1 / 8 : ℝ) : EReal) - (M : EReal)) :=
    Finset.sum_congr rfl fun i _ => by rw [hs, hM]
  refine Finset.sum_congr rfl fun i _ => congrArg (_ * ·) (congrArg₂ Ideal.div ?_ hden)
  exact congrArg Ideal.exp (congrArg₂ (· - ·) (hs i) hM)

/-- The reference's array is the kernel's, where the queries and keys are finite. -/
theorem array (q : FVec Ideal S16384x512 .f32) (k v : FVec Ideal S16384x128 .f32)
    (h : @Cert.Pre_finite_queries.fn Cert.Pre_finite_queries.facts Ideal _ q k v = fun _ => 1#1) :
    val_main_v24 (F := Ideal) q k v = fun j => Cert.Kernel7Ideal.CtxAttention.G q k v (j 0) (j 1) := by
  obtain ⟨⟨q, rfl⟩, ⟨k, rfl⟩⟩ := @Cert.Pre_finite_queries.decode Cert.Pre_finite_queries.facts _ _ _ h
  funext j
  have e := row q k v (j 0) (j 1)
  rw [show (ix2 (j 0) (j 1) : S8192x512.Idx) = j from by funext a; fin_cases a <;> rfl] at e
  exact e

end Cert.Reference7Ideal.CtxAttention

end
-- ==== Proof.ProjectOdd.lean ====
/- The output projection of the odd layers, whose whole rows meet the lower half of the weights: the kernel's result array after the run and the reference's, one formula. -/
module

public import proofs.«01_k».proof.Proof.Rows
public import proofs.«01_k».proof.Proof.Gen.Kernel8Ideal.Value
public import proofs.«01_k».proof.Proof.Gen.Reference8Ideal.Read

@[expose] public section

set_option maxRecDepth 16384

noncomputable section

open Idealize.ShloMosaic Idealize.ShloMosaic.TcCoe Idealize.SL.Sem

namespace Cert.Kernel8Ideal.ProjectOdd

open Cert.Kernel8Ideal Cert.Kernel8Ideal.Gen

variable (m : (ℓ : Loc nD τ sig) → Buf (Elt Ideal) ℓ)

/-- The windows' block indices at every grid point. -/
theorem idx : ∀ t : Fin cfg0.N, win0_0.index t = ![t.val, 0]
    ∧ win0_1.index t = ![if t.val < 16 then 0 else (t.val - 16) / 8 + 1, 0, 0] ∧ win0_2.index t = ![t.val, 0]
    ∧ win0_3.index t = ![min t.val 15, 0] ∧ win0_4.index t = ![t.val - 16, 0] ∧ win0_5.index t = ![1, 0]
    ∧ win0_6.index t = ![0, 0] ∧ win0_7.index t = ![t.val, 0] :=
  (by decide +kernel : ∀ t : Fin grid0.N, _)

/-- There are 32 grid points. -/
theorem points (t : Fin cfg0.N) : t.val < 32 := t.isLt

/-- The result's row `R`, column `l`. -/
def G (x : FVec Ideal S16384x1024 .f32) (d : FVec Ideal S3x6x1024 .f32) (a : FVec Ideal S16384x512 .bf16)
    (yc yl : FVec Ideal S8192x512 .bf16) (w : FVec Ideal S1024x1024 .f32) (R : Fin 16384) (l : Fin 1024) : EReal :=
  x (ix2 R l) + d (ix3 (Rows.group R) 2 l) *
    (∑ k : Fin 512, a (ix2 R k) * w (ix2 ⟨512 + k.val, by omega⟩ l)
      + ∑ k : Fin 512, (if h : R.val < 8192 then yc (ix2 ⟨R.val, h⟩ k) else yl (ix2 ⟨R.val - 8192, by omega⟩ k))
          * w (ix2 ⟨k.val, by omega⟩ l))

/-- The body at an index of its block. -/
theorem body (i : grid0.Coords) (x : FVec Ideal S512x1024 .f32) (d : FVec Ideal S1x6x1024 .f32) (a yc yl : FVec Ideal S512x512 .bf16)
    (u v : FVec Ideal S512x1024 .bf16) (r : Fin 512) (l : Fin 1024) :
    out0_7 (F := Ideal) i x d a yc yl u v (ix2 r l) = x (ix2 r l) + d (ix3 0 2 l) *
      (∑ k : Fin 512, a (ix2 r k) * u (ix2 k l)
        + ∑ k : Fin 512, (if (i 0).val < 16 then yc (ix2 r k) else yl (ix2 r k)) * v (ix2 k l)) := by
  unfold out0_7
  rw [View.canon_unit_zero (by decide), View.ld_unit_zero (by decide), View.ld_unit_zero (by decide),
    View.ld_unit_zero (by decide), View.ld_unit_zero (by decide), View.ld_unit_zero (by decide), View.ld_unit_zero (by decide)]
  pointwise [k0_pay1]
  simp only [Rows.pick (i 0)]

/-- The block of tokens at grid point `t`. -/
theorem tokens (c : Dev nD) (t : Fin cfg0.N) (r : Fin 512) (l : Fin 1024) :
    iblk m c 0 t (ix2 r l) = m ((c : Thread nD τ).loc main_arg0) (ix2 ⟨t.val * 512 + r.val, by have := points t; omega⟩ l) := by
  blk_ext! [iblk, V, idx t]

/-- The modulation's block: the group of the block's rows. -/
theorem modulation (c : Dev nD) (t : Fin cfg0.N) (r : Fin 512) (s : Fin 6) (l : Fin 1024) :
    iblk m c 1 t (ix3 0 s l) = m ((c : Thread nD τ).loc main_arg1)
      (ix3 (Rows.group ⟨t.val * 512 + r.val, by have := points t; omega⟩) s l) := by
  rw [Rows.group_block t.val r.val (points t) r.isLt]
  by_cases h : t.val < 16
  · have e : (if t.val < 16 then 0 else (t.val - 16) / 8 + 1) = 0 := if_pos h
    rw [if_pos h]
    blk_ext! [iblk, V, idx t, e]
  · have e : (if t.val < 16 then 0 else (t.val - 16) / 8 + 1) = (t.val - 16) / 8 + 1 := if_neg h
    rw [if_neg h]
    blk_ext! [iblk, V, idx t, e]

/-- The block of the attention's or convolution's rows. -/
theorem whole (c : Dev nD) (t : Fin cfg0.N) (r : Fin 512) (l : Fin 512) :
    iblk m c 2 t (ix2 r l) = m ((c : Thread nD τ).loc main_arg2) (ix2 ⟨t.val * 512 + r.val, by have := points t; omega⟩ l) := by
  blk_ext! [iblk, V, idx t]

/-- The context's block, at the grid points of the context. -/
theorem ctx (c : Dev nD) (t : Fin cfg0.N) (h : t.val < 16) (r : Fin 512) (l : Fin 512) :
    iblk m c 3 t (ix2 r l) = m ((c : Thread nD τ).loc main_arg3) (ix2 ⟨t.val * 512 + r.val, by omega⟩ l) := by
  have e : min t.val 15 = t.val := by omega
  blk_ext! [iblk, V, idx t, e]

/-- The latent rows' block, at the other grid points. -/
theorem lat (c : Dev nD) (t : Fin cfg0.N) (h : ¬ t.val < 16) (r : Fin 512) (l : Fin 512) :
    iblk m c 4 t (ix2 r l) = m ((c : Thread nD τ).loc main_arg4)
      (ix2 ⟨t.val * 512 + r.val - 8192, by have := points t; omega⟩ l) := by
  blk_ext! [iblk, V, idx t]

/-- The lower half of the weights. -/
theorem lower (c : Dev nD) (t : Fin cfg0.N) (k : Fin 512) (l : Fin 1024) :
    iblk m c 5 t (ix2 k l) = m ((c : Thread nD τ).loc main_arg5) (ix2 ⟨512 + k.val, by omega⟩ l) := by
  blk_ext! [iblk, V, idx t]

/-- The upper half of the weights. -/
theorem upper (c : Dev nD) (t : Fin cfg0.N) (k : Fin 512) (l : Fin 1024) :
    iblk m c 6 t (ix2 k l) = m ((c : Thread nD τ).loc main_arg5) (ix2 ⟨k.val, by omega⟩ l) := by
  blk_ext! [iblk, V, idx t]

/-- The result array as a function of the arguments. -/
def result (c : Dev nD) : FVec Ideal S16384x1024 .f32 := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (j 0) (j 1)

/-- The grid's coordinate is the grid point. -/
theorem coord : ∀ t : Fin cfg0.N, (grid0.coords t 0).val = t.val := (by decide +kernel : ∀ t : Fin grid0.N, _)

/-- The output block at grid point `t` is the block of rows `512 t …` of the result. -/
theorem block (c : Dev nD) (t : Fin cfg0.N) (r : Fin 512) (l : Fin 1024) :
    out0_7 (F := Ideal) (grid0.coords t) (iblk m c 0 t) (iblk m c 1 t) (iblk m c 2 t) (iblk m c 3 t) (iblk m c 4 t) (iblk m c 5 t)
      (iblk m c 6 t) (ix2 r l) = result m c (((cfg0.win 7).blk t).view.emb (ix2 r l)) := by
  have ht := points t
  have e : ((cfg0.win 7).blk t).view.emb (ix2 r l) = (ix2 ⟨t.val * 512 + r.val, by omega⟩ l : S16384x1024.Idx) := by
    blk_ext! [idx t]
  rw [e, body, tokens, modulation m c t r, coord]
  simp only [whole, upper, lower]
  show _ = G _ _ _ _ _ _ ⟨t.val * 512 + r.val, _⟩ l
  unfold G
  by_cases h : t.val < 16
  · simp only [ctx m c t h, if_pos h, dif_pos (show t.val * 512 + r.val < 8192 by omega)]
  · simp only [lat m c t h, if_neg h, dif_neg (show ¬ t.val * 512 + r.val < 8192 by omega)]

/-- The result array after the run. -/
theorem final (c : Dev nD) : (dats m 0 c).arrAt 7 (cfgs 0).N = result m c := by
  refine (dats m 0 c).arrAt_eq_of_covers 7 _ (by decide +kernel) fun t _ y => ?_
  blk_simp
  rw [after0_7]
  have h := block m c t (y 0) (y 1)
  rw [show (ix2 (y 0) (y 1) : S512x1024.Idx) = y from by funext a; fin_cases a <;> rfl] at h
  exact h

end Cert.Kernel8Ideal.ProjectOdd

namespace Cert.Reference8Ideal.ProjectOdd

open Cert.Reference8Ideal Cert.Reference8Ideal.Read

/-- The context rows. -/
theorem upper (x : FVec Ideal S16384x1024 .f32) (d : FVec Ideal S3x6x1024 .f32) (a : FVec Ideal S16384x512 .bf16)
    (yc : FVec Ideal S8192x512 .bf16) (w : FVec Ideal S1024x1024 .f32) (r : Fin 8192) (l : Fin 1024) :
    val_main_v31 (F := Ideal) x d a yc w (ix2 r l) = x (ix2 ⟨r.val, by omega⟩ l) + d (ix3 0 2 l) *
      (∑ k : Fin 512, a (ix2 ⟨r.val, by omega⟩ k) * w (ix2 ⟨512 + k.val, by omega⟩ l)
        + ∑ k : Fin 512, yc (ix2 r k) * w (ix2 ⟨k.val, by omega⟩ l)) := by
  rw [add_comm (∑ k : Fin 512, _)]
  pointwise [val_main_v31, val_main_v23, val_main_v22, val_main_v21, val_main_v20, val_main_v19, val_main_v18, val_main_v17, val_main_v10, val_main_v9, val_main_v8, val_main_v7, val_main_v6, val_main_v5, val_main_v4, val_main_v1, val_main_v0]

/-- The latent rows. -/
theorem lower (x : FVec Ideal S16384x1024 .f32) (d : FVec Ideal S3x6x1024 .f32) (a : FVec Ideal S16384x512 .bf16)
    (yl : FVec Ideal S8192x512 .bf16) (w : FVec Ideal S1024x1024 .f32) (r : Fin 8192) (l : Fin 1024) :
    val_main_v32 (F := Ideal) x d a yl w (ix2 r l) = x (ix2 ⟨8192 + r.val, by omega⟩ l) + d (ix3 ⟨1 + r.val / 4096, by omega⟩ 2 l) *
      (∑ k : Fin 512, a (ix2 ⟨8192 + r.val, by omega⟩ k) * w (ix2 ⟨512 + k.val, by omega⟩ l)
        + ∑ k : Fin 512, yl (ix2 r k) * w (ix2 ⟨k.val, by omega⟩ l)) := by
  rw [add_comm (∑ k : Fin 512, _)]
  pointwise [val_main_v32, val_main_v30, val_main_v29, val_main_v28, val_main_v27, val_main_v26, val_main_v25, val_main_v24, val_main_v16, val_main_v15, val_main_v14, val_main_v13, val_main_v12, val_main_v11, val_main_v4, val_main_v3, val_main_v2]

/-- The reference's result array is the same formula. -/
theorem array (x : FVec Ideal S16384x1024 .f32) (d : FVec Ideal S3x6x1024 .f32) (a : FVec Ideal S16384x512 .bf16)
    (yc yl : FVec Ideal S8192x512 .bf16) (w : FVec Ideal S1024x1024 .f32) :
    val_main_v33 (F := Ideal) x d a yc yl w = fun j => Cert.Kernel8Ideal.ProjectOdd.G x d a yc yl w (j 0) (j 1) := by
  funext j
  idx_vars j
  pointwise [val_main_v33]
  unfold Cert.Kernel8Ideal.ProjectOdd.G
  by_cases h : j0.val < 8192
  · rw [dif_pos h, upper, Rows.group_ctx j0 h]
    simp only [dif_pos h]
  · rw [dif_neg h, lower, Rows.group_lat j0 h]
    simp only [dif_neg h, show 8192 + (j0.val - 8192) = j0.val by omega]

end Cert.Reference8Ideal.ProjectOdd

end
-- ==== Proof.Taps.lean ====
/- The rows of a token array by their place in their sequence: what a short window over a sequence reads. -/
module

public import proofs.«01_k».proof.Proof.Rows

@[expose] public section

noncomputable section

namespace Cert.Taps

/-- A row's place in its sequence: context sequences have 256 rows, the two latent ones 4096. -/
def place (R : ℕ) : ℕ := if R < 8192 then R % 256 else R % 4096

/-- The length of a row's sequence. -/
def length (R : ℕ) : ℕ := if R < 8192 then 256 else 4096

/-- What tap `s` of a window of half width `h` reads at row `R`: the row `s - h` further on in its sequence, zero past the ends. -/
def tap (x : Fin 16384 → EReal) (R h s : ℕ) : EReal :=
  if h ≤ place R + s ∧ place R + s < length R + h then x ⟨(R + s - h) % 16384, Nat.mod_lt _ (by omega)⟩ else 0

/-- A context row, read in its sequence. -/
theorem tap_context (x : Fin 16384 → EReal) (h s : ℕ) (b : Fin 32) (t : Fin 256) :
    tap x (b.val * 256 + t.val) h s = if p : h ≤ t.val + s ∧ t.val + s < 256 + h
      then x ⟨b.val * 256 + (t.val + s - h), by omega⟩ else 0 := by
  have e : (b.val * 256 + t.val) % 256 = t.val := by omega
  unfold tap place length
  rw [if_pos (show b.val * 256 + t.val < 8192 by omega), if_pos (show b.val * 256 + t.val < 8192 by omega), e]
  by_cases p : h ≤ t.val + s ∧ t.val + s < 256 + h
  · rw [if_pos p, dif_pos p]
    exact congrArg x (Fin.ext (by show (b.val * 256 + t.val + s - h) % 16384 = b.val * 256 + (t.val + s - h); omega))
  · rw [if_neg p, dif_neg p]

/-- A latent row, read in its sequence. -/
theorem tap_latent (x : Fin 16384 → EReal) (h s : ℕ) (b : Fin 2) (t : Fin 4096) :
    tap x (8192 + (b.val * 4096 + t.val)) h s = if p : h ≤ t.val + s ∧ t.val + s < 4096 + h
      then x ⟨8192 + (b.val * 4096 + (t.val + s - h)), by omega⟩ else 0 := by
  have e : (8192 + (b.val * 4096 + t.val)) % 4096 = t.val := by omega
  unfold tap place length
  rw [if_neg (show ¬8192 + (b.val * 4096 + t.val) < 8192 by omega), if_neg (show ¬8192 + (b.val * 4096 + t.val) < 8192 by omega), e]
  by_cases p : h ≤ t.val + s ∧ t.val + s < 4096 + h
  · rw [if_pos p, dif_pos p]
    exact congrArg x (Fin.ext (by
      show (8192 + (b.val * 4096 + t.val) + s - h) % 16384 = 8192 + (b.val * 4096 + (t.val + s - h)); omega))
  · rw [if_neg p, dif_neg p]

/-- A padded block: sixteen rows before it, its 256 rows, sixteen rows after it. -/
def padded (p : Fin 16 → EReal) (x : Fin 256 → EReal) (n : Fin 16 → EReal) (Q : Fin 288) : EReal :=
  if a : Q.val < 16 then p ⟨Q.val, a⟩ else if b : Q.val < 272 then x ⟨Q.val - 16, by omega⟩ else n ⟨Q.val - 272, by omega⟩

/-- The padded block `t` of an array, the rows outside the sequence zero, is read at row `r` as the taps are. -/
theorem padded_tap (x : Fin 16384 → EReal) (t : ℕ) (ht : t < 64) (h s : ℕ) (hh : h ≤ 16) (r : Fin 256) (Q : Fin 288)
    (hQ : Q.val + h = 16 + r.val + s) :
    padded (fun a => if t < 32 ∨ t % 16 = 0 then 0 else x ⟨(t * 16 - 1) * 16 + a.val, by omega⟩)
      (fun a => x ⟨t * 256 + a.val, by omega⟩)
      (fun a => if t < 32 ∨ t % 16 = 15 then 0 else x ⟨min (t * 16 + 16) 1023 * 16 + a.val, by omega⟩) Q
      = tap x (t * 256 + r.val) h s := by
  have hr := r.isLt
  have hq := Q.isLt
  unfold padded tap place length
  by_cases c : t < 32
  · rw [if_pos (show t * 256 + r.val < 8192 by omega), if_pos (show t * 256 + r.val < 8192 by omega)]
    by_cases a : Q.val < 16
    · rw [dif_pos a]
      beta_reduce
      rw [if_pos (Or.inl c), if_neg (by omega)]
    · by_cases b : Q.val < 272
      · rw [dif_neg a, dif_pos b, if_pos (by omega)]
        exact congrArg x (Fin.ext (by
          show t * 256 + (Q.val - 16) = (t * 256 + r.val + s - h) % 16384; omega))
      · rw [dif_neg a, dif_neg b]
        beta_reduce
        rw [if_pos (Or.inl c), if_neg (by omega)]
  · rw [if_neg (show ¬t * 256 + r.val < 8192 by omega), if_neg (show ¬t * 256 + r.val < 8192 by omega)]
    by_cases a : Q.val < 16
    · rw [dif_pos a]
      beta_reduce
      by_cases d : t % 16 = 0
      · rw [if_pos (Or.inr d), if_neg (by omega)]
      · rw [if_neg (by omega), if_pos (by omega)]
        exact congrArg x (Fin.ext (by
          show (t * 16 - 1) * 16 + Q.val = (t * 256 + r.val + s - h) % 16384; omega))
    · by_cases b : Q.val < 272
      · rw [dif_neg a, dif_pos b, if_pos (by omega)]
        exact congrArg x (Fin.ext (by
          show t * 256 + (Q.val - 16) = (t * 256 + r.val + s - h) % 16384; omega))
      · rw [dif_neg a, dif_neg b]
        beta_reduce
        by_cases d : t % 16 = 15
        · rw [if_pos (Or.inr d), if_neg (by omega)]
        · rw [if_neg (by omega), if_pos (by omega)]
          exact congrArg x (Fin.ext (by
            show min (t * 16 + 16) 1023 * 16 + (Q.val - 272) = (t * 256 + r.val + s - h) % 16384; omega))

end Cert.Taps

end
-- ==== Proof.ShortConv.lean ====
/- The short convolution: the kernel's result array after the run and the reference's, one formula. -/
module

public import proofs.«01_k».proof.Proof.Taps
public import proofs.«01_k».proof.Proof.Gen.Kernel9Ideal.Value
public import proofs.«01_k».proof.Proof.Gen.Reference9Ideal.Read

@[expose] public section

set_option maxRecDepth 16384

noncomputable section

open Idealize.ShloMosaic Idealize.ShloMosaic.TcCoe Idealize.SL.Sem Idealize.ShloMosaic.Tactic

namespace Cert.Kernel9Ideal.ShortConv

open Cert.Kernel9Ideal Cert.Kernel9Ideal.Gen

variable (m : (ℓ : Loc nD τ sig) → Buf (Elt Ideal) ℓ)

/-- The windows' block indices at every grid point. -/
theorem idx : ∀ t : Fin cfg0.N, win0_0.index t = ![t.val * 16 - 1, 0] ∧ win0_1.index t = ![t.val, 0]
    ∧ win0_2.index t = ![min (t.val * 16 + 16) 1023, 0] ∧ win0_3.index t = ![t.val, 0] ∧ win0_4.index t = ![0, 0]
    ∧ win0_5.index t = ![t.val, 0] :=
  (by decide +kernel : ∀ t : Fin grid0.N, _)

/-- There are 64 grid points. -/
theorem points (t : Fin cfg0.N) : t.val < 64 := t.isLt

/-- The word saying that a block starts its sequence, as the body computes it from the grid point. -/
def firstWord (arg0 : BitVec 32) : BitVec 1 :=
  let v0 : BitVec 1 := Scalar.cmpi .slt arg0 32#32
  let v1 : BitVec 32 := Scalar.select v0 1#32 16#32
  let v2 : BitVec 32 := Scalar.subi arg0 32#32
  let v3 : BitVec 32 := Scalar.select v0 arg0 v2
  let v4 : BitVec 1 := Scalar.cmpi .eq v1 0#32
  let v5 : BitVec 32 := Scalar.select v4 1#32 v1
  let v6 : BitVec 32 := Scalar.remsi v3 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  Scalar.cmpi .eq v13 0#32

/-- The word saying that a block ends its sequence, as the body computes it from the grid point. -/
def lastWord (arg0 : BitVec 32) : BitVec 1 :=
  let v0 : BitVec 1 := Scalar.cmpi .slt arg0 32#32
  let v1 : BitVec 32 := Scalar.select v0 1#32 16#32
  let v2 : BitVec 32 := Scalar.subi arg0 32#32
  let v3 : BitVec 32 := Scalar.select v0 arg0 v2
  let v4 : BitVec 1 := Scalar.cmpi .eq v1 0#32
  let v5 : BitVec 32 := Scalar.select v4 1#32 v1
  let v6 : BitVec 32 := Scalar.remsi v3 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  Scalar.cmpi .eq v13 (Scalar.subi v1 1#32)

/-- The blocks that start a sequence: every context block, every sixteenth latent one. -/
theorem firstWord_eq : ∀ t : Fin cfg0.N, firstWord (BitVec.ofNat 32 (grid0.coords t 0).val)
    = if t.val < 32 ∨ t.val % 16 = 0 then 1#1 else 0#1 :=
  (by decide +kernel : ∀ t : Fin grid0.N, _)

/-- The blocks that end a sequence. -/
theorem lastWord_eq : ∀ t : Fin cfg0.N, lastWord (BitVec.ofNat 32 (grid0.coords t 0).val)
    = if t.val < 32 ∨ t.val % 16 = 15 then 1#1 else 0#1 :=
  (by decide +kernel : ∀ t : Fin grid0.N, _)

/-- The halo before a block: zero where the block starts its sequence. -/
theorem head (t : Fin cfg0.N) (x : FVec Ideal S16x512 .f32) (r : Fin 16) (l : Fin 512) :
    k0_pay3 (grid0.coords t) x (ix2 r l) = if t.val < 32 ∨ t.val % 16 = 0 then 0 else x (ix2 r l) := by
  have h : k0_pay3 (grid0.coords t) x = shapeCast S16x512 (Scalar.select (firstWord (BitVec.ofNat 32 (grid0.coords t 0).val))
      (broadcast S16x512 (Scalar.ofBits (F := Ideal) .f32 0x00000000#32)) x) shapeCasts_S16x512_S16x512 := rfl
  rw [h, firstWord_eq t]
  by_cases p : t.val < 32 ∨ t.val % 16 = 0
  · rw [if_pos p, if_pos p]
    pointwise []
  · rw [if_neg p, if_neg p]
    pointwise []

/-- The halo after a block: zero where the block ends its sequence. -/
theorem tail (t : Fin cfg0.N) (x : FVec Ideal S16x512 .f32) (r : Fin 16) (l : Fin 512) :
    k0_pay1 (k0_pay5 (grid0.coords t) x) (ix2 r l) = if t.val < 32 ∨ t.val % 16 = 15 then 0 else x (ix2 r l) := by
  have h : k0_pay1 (k0_pay5 (grid0.coords t) x) = shapeCast S16x512 (Scalar.select (lastWord (BitVec.ofNat 32 (grid0.coords t 0).val))
      (broadcast S16x512 (Scalar.ofBits (F := Ideal) .f32 0x00000000#32)) x) shapeCasts_S16x512_S16x512 := rfl
  rw [h, lastWord_eq t]
  by_cases p : t.val < 32 ∨ t.val % 16 = 15
  · rw [if_pos p, if_pos p]
    pointwise []
  · rw [if_neg p, if_neg p]
    pointwise []

/-- The padded block as the body stores it, last piece first. -/
def pieces (p : Vec Ideal S16x512 .f32) (x : Vec Ideal S256x512 .f32) (n : Vec Ideal S16x512 .f32) :
    List (View.Piece (Elt Ideal) S288x512 .f32) :=
  [⟨Rect.unit ![272, 0] ![16, 512] inb_S288x512_S16x512_272_0, n⟩,
    ⟨Rect.unit ![16, 0] ![256, 512] inb_S288x512_S256x512_16_0, x⟩,
    ⟨Rect.unit ![0, 0] ![16, 512] inb_S288x512_S16x512_0_0, p⟩]

/-- The padded block at an index. -/
theorem pieces_apply (p : Vec Ideal S16x512 .f32) (x : Vec Ideal S256x512 .f32) (n : Vec Ideal S16x512 .f32) (Q : Fin 288)
    (l : Fin 512) :
    View.canon (pieces p x n) (ix2 Q l)
      = Taps.padded (fun a => p (ix2 a l)) (fun a => x (ix2 a l)) (fun a => n (ix2 a l)) Q := by
  unfold pieces Taps.padded
  by_cases a : Q.val < 16
  · rw [dif_pos a, View.canon_cons_of_not_mem _ _ (by
        show ix2 Q l ∉ (Rect.unit (s := S288x512) ![272, 0] ![16, 512] inb_S288x512_S16x512_272_0).set
        rw [Rect.mem_set_unit]; intro h; have := (h 0).1; change 272 ≤ Q.val at this; omega),
      View.canon_cons_of_not_mem _ _ (by
        show ix2 Q l ∉ (Rect.unit (s := S288x512) ![16, 0] ![256, 512] inb_S288x512_S256x512_16_0).set
        rw [Rect.mem_set_unit]; intro h; have := (h 0).1; change 16 ≤ Q.val at this; omega)]
    have e : (Rect.unit ![0, 0] ![16, 512] inb_S288x512_S16x512_0_0).emb (ix2 ⟨Q.val, by omega⟩ l : S16x512.Idx)
        = (ix2 Q l : S288x512.Idx) := by
      funext d; fin_cases d
      · exact Fin.ext ((Rect.idx_unit_val _ _ _ _ _).trans (by show 0 + (Q.val) = Q.val; omega))
      · exact Fin.ext ((Rect.idx_unit_val _ _ _ _ _).trans (by show 0 + l.val = l.val; omega))
    rw [← e]
    exact View.canon_cons_emb _ _ _ _
  · rw [dif_neg a]
    by_cases b : Q.val < 272
    · rw [dif_pos b, View.canon_cons_of_not_mem _ _ (by
        show ix2 Q l ∉ (Rect.unit (s := S288x512) ![272, 0] ![16, 512] inb_S288x512_S16x512_272_0).set
        rw [Rect.mem_set_unit]; intro h; have := (h 0).1; change 272 ≤ Q.val at this; omega)]
      have e : (Rect.unit ![16, 0] ![256, 512] inb_S288x512_S256x512_16_0).emb (ix2 ⟨Q.val - 16, by omega⟩ l : S256x512.Idx)
          = (ix2 Q l : S288x512.Idx) := by
        funext d; fin_cases d
        · exact Fin.ext ((Rect.idx_unit_val _ _ _ _ _).trans (by show 16 + (Q.val - 16) = Q.val; omega))
        · exact Fin.ext ((Rect.idx_unit_val _ _ _ _ _).trans (by show 0 + l.val = l.val; omega))
      rw [← e]
      exact View.canon_cons_emb _ _ _ _
    · rw [dif_neg b]
      have e : (Rect.unit ![272, 0] ![16, 512] inb_S288x512_S16x512_272_0).emb (ix2 ⟨Q.val - 272, by omega⟩ l : S16x512.Idx)
          = (ix2 Q l : S288x512.Idx) := by
        funext d; fin_cases d
        · exact Fin.ext ((Rect.idx_unit_val _ _ _ _ _).trans (by show 272 + (Q.val - 272) = Q.val; omega))
        · exact Fin.ext ((Rect.idx_unit_val _ _ _ _ _).trans (by show 0 + l.val = l.val; omega))
      rw [← e]
      exact View.canon_cons_emb _ _ _ _

section Run

variable (c : Dev nD) (i : grid0.Coords) (a1 : Memref sig .tc .vmem S16x512 .f32) (h1 : a1.IsWhole) (a2 : Memref sig .tc
  .vmem S256x512 .f32) (h2 : a2.IsWhole) (a3 : Memref sig .tc .vmem S16x512 .f32) (h3 : a3.IsWhole) (a4 : Memref sig .tc
  .vmem S256x512 .f32) (h4 : a4.IsWhole) (a5 : Memref sig .tc .vmem S3x512 .f32) (h5 : a5.IsWhole) (a6 : Memref sig .tc
  .vmem S256x512 .bf16) (h6 : a6.IsWhole) (a7 : Memref sig .tc .vmem S288x512 .f32) (h7 : a7.IsWhole) (x0 : Vec Ideal
  S16x512 .f32) (x1 : Vec Ideal S256x512 .f32) (x2 : Vec Ideal S16x512 .f32) (x3 : Vec Ideal S256x512 .f32) (x4 : Vec
  Ideal S3x512 .f32)

/-- A halo loads as itself. -/
theorem whole0 (x : Vec Ideal S16x512 .f32) : View.ld x (Rect.unit ![0, 0] ![16, 512] inb_S16x512_S16x512_0_0) = x := by
  rw [View.ld_unit_zero (by decide)]

/-- A block loads as itself. -/
theorem whole1 (x : Vec Ideal S256x512 .f32) : View.ld x (Rect.unit ![0, 0] ![256, 512] inb_S256x512_S256x512_0_0) = x := by
  rw [View.ld_unit_zero (by decide)]

/-- What the body leaves in its output block: three taps of the padded block, gated. -/
theorem out : out0_A_5 c i a1 h1 a2 h2 a3 h3 a4 h4 a5 h5 a6 h6 a7 h7 x0 x1 x2 x3 x4
    = k0_pay2 (View.ld x4 (Rect.unit ![0, 0] ![1, 512] inb_S3x512_S1x512_0_0))
      (View.ld (View.canon (pieces (k0_pay3 i x0) (k0_pay4 x1) (k0_pay1 (k0_pay5 i x2))))
        (Rect.unit ![15, 0] ![256, 512] inb_S288x512_S256x512_15_0))
      (View.ld x4 (Rect.unit ![1, 0] ![1, 512] inb_S3x512_S1x512_1_0))
      (View.ld (View.canon (pieces (k0_pay3 i x0) (k0_pay4 x1) (k0_pay1 (k0_pay5 i x2))))
        (Rect.unit ![16, 0] ![256, 512] inb_S288x512_S256x512_16_0))
      (View.ld x4 (Rect.unit ![2, 0] ![1, 512] inb_S3x512_S1x512_2_0))
      (View.ld (View.canon (pieces (k0_pay3 i x0) (k0_pay4 x1) (k0_pay1 (k0_pay5 i x2))))
        (Rect.unit ![17, 0] ![256, 512] inb_S288x512_S256x512_17_0)) x3 := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  sl_unfold_words
  simp only [View.readAt_eq_ld, h1.read_unread, h2.read_unread, h3.read_unread, h4.read_unread, h5.read_unread]
  rw [View.canon_unit_zero (by decide)]
  simp only [whole0, whole1, View.readCov_eq_canon']
  rfl

end Run

/-- Row `R` of the result: the gate times the sum of the three taps. -/
def G (x : FVec Ideal S16384x512 .f32) (g : FVec Ideal S16384x512 .f32) (w : FVec Ideal S3x512 .f32) (R : Fin 16384)
    (l : Fin 512) : EReal :=
  g (ix2 R l) * (w (ix2 0 l) * Taps.tap (fun a => x (ix2 a l)) R.val 1 0
    + w (ix2 1 l) * Taps.tap (fun a => x (ix2 a l)) R.val 1 1 + w (ix2 2 l) * Taps.tap (fun a => x (ix2 a l)) R.val 1 2)

/-- The block of rows at grid point `t`. -/
theorem rows (c : Dev nD) (t : Fin cfg0.N) (r : Fin 256) (l : Fin 512) :
    iblk m c 1 t (ix2 r l) = m ((c : Thread nD τ).loc main_arg0) (ix2 ⟨t.val * 256 + r.val, by have := points t; omega⟩ l) := by
  blk_ext! [iblk, V, idx t]

/-- The sixteen rows before the block. -/
theorem before (c : Dev nD) (t : Fin cfg0.N) (r : Fin 16) (l : Fin 512) :
    iblk m c 0 t (ix2 r l) = m ((c : Thread nD τ).loc main_arg0)
      (ix2 ⟨(t.val * 16 - 1) * 16 + r.val, by have := points t; omega⟩ l) := by
  blk_ext! [iblk, V, idx t]

/-- The sixteen rows after the block. -/
theorem after (c : Dev nD) (t : Fin cfg0.N) (r : Fin 16) (l : Fin 512) :
    iblk m c 2 t (ix2 r l) = m ((c : Thread nD τ).loc main_arg0)
      (ix2 ⟨min (t.val * 16 + 16) 1023 * 16 + r.val, by have := points t; omega⟩ l) := by
  blk_ext! [iblk, V, idx t]

/-- The block of gates at grid point `t`. -/
theorem gates (c : Dev nD) (t : Fin cfg0.N) (r : Fin 256) (l : Fin 512) :
    iblk m c 3 t (ix2 r l) = m ((c : Thread nD τ).loc main_arg1) (ix2 ⟨t.val * 256 + r.val, by have := points t; omega⟩ l) := by
  blk_ext! [iblk, V, idx t]

/-- The weights. -/
theorem weights (c : Dev nD) (t : Fin cfg0.N) (k : Fin 3) (l : Fin 512) :
    iblk m c 4 t (ix2 k l) = m ((c : Thread nD τ).loc main_arg2) (ix2 k l) := by
  blk_ext! [iblk, V, idx t]

/-- The padded block at grid point `t` read at a tap. -/
theorem pad_tap (c : Dev nD) (t : Fin cfg0.N) (r : Fin 256) (l : Fin 512) (s : ℕ) (Q : Fin 288) (hQ : Q.val + 1 = 16 + r.val + s) :
    View.canon (pieces (k0_pay3 (grid0.coords t) (iblk m c 0 t)) (k0_pay4 (iblk m c 1 t))
      (k0_pay1 (k0_pay5 (grid0.coords t) (iblk m c 2 t)))) (ix2 Q l)
      = Taps.tap (fun a => m ((c : Thread nD τ).loc main_arg0) (ix2 a l)) (t.val * 256 + r.val) 1 s := by
  have hx : ∀ a : Fin 256, k0_pay4 (iblk m c 1 t) (ix2 a l) = iblk m c 1 t (ix2 a l) := fun a => by
    pointwise [k0_pay4]
  rw [pieces_apply, ← Taps.padded_tap (fun a => m ((c : Thread nD τ).loc main_arg0) (ix2 a l)) t.val (points t) 1 s (by omega) r Q hQ]
  simp only [head, tail, hx, rows, before, after]

/-- The result array as a function of the arguments. -/
def result (c : Dev nD) : FVec Ideal S16384x512 .bf16 := fun j =>
  G (m ((c : Thread nD τ).loc main_arg0)) (m ((c : Thread nD τ).loc main_arg1)) (m ((c : Thread nD τ).loc main_arg2))
    (j 0) (j 1)

/-- The output block at grid point `t` is the block of rows `256 t …` of the result. -/
theorem block (c : Dev nD) (t : Fin cfg0.N) (r : Fin 256) (l : Fin 512) :
    outsAt0 m c t (ix2 r l) = result m c (((cfg0.win 5).blk t).view.emb (ix2 r l)) := by
  have ht := points t
  have e : ((cfg0.win 5).blk t).view.emb (ix2 r l) = (ix2 ⟨t.val * 256 + r.val, by omega⟩ l : S16384x512.Idx) := by
    blk_ext! [idx t]
  rw [e]
  unfold outsAt0
  rw [out]
  pointwise [k0_pay2]
  rw [pad_tap m c t r l 0 _ (by show 15 + r.val + 1 = 16 + r.val + 0; omega),
    pad_tap m c t r l 1 _ (by show 16 + r.val + 1 = 16 + r.val + 1; omega),
    pad_tap m c t r l 2 _ (by show 17 + r.val + 1 = 16 + r.val + 2; omega), gates m c t r l,
    weights m c t 0 l, weights m c t 1 l, weights m c t 2 l]
  rfl

/-- The result array after the run. -/
theorem final (c : Dev nD) : (dats m 0 c).arrAt 5 (cfgs 0).N = result m c := by
  refine (dats m 0 c).arrAt_eq_of_covers 5 _ (by decide +kernel) fun t _ y => ?_
  blk_simp
  rw [after0_5]
  have h := block m c t (y 0) (y 1)
  rw [show (ix2 (y 0) (y 1) : S256x512.Idx) = y from by funext a; fin_cases a <;> rfl] at h
  exact h

end Cert.Kernel9Ideal.ShortConv

namespace Cert.Reference9Ideal.ShortConv

open Cert.Reference9Ideal Cert.Reference9Ideal.Read
open Cert.Kernel9Ideal.ShortConv (G)

/-- The padded context sequences at tap `s`. -/
theorem pad_ctx (x : FVec Ideal S16384x512 .f32) (b : Fin 32) (t : Fin 256) (l : Fin 512) (s : ℕ) (hs : s < 3) :
    val_main_v4 (F := Ideal) x (ix3 b ⟨s + t.val, by omega⟩ l) = Taps.tap (fun a => x (ix2 a l)) (b.val * 256 + t.val) 1 s := by
  rw [Taps.tap_context]
  pointwise [val_main_v4, val_main_v1, val_main_v0, val_main_call0_v0, val_main_c]
  have z : FloatOps.sitofp (F := Ideal) FTy.f32 (0#32) = 0 := by
    show (((0#32 : BitVec 32).toInt : ℝ) : EReal) = 0
    simp
  by_cases p : 1 ≤ t.val + s ∧ t.val + s < 257
  · rw [dif_pos p, dif_pos (by omega)]
    exact congrArg (fun a => x (ix2 a l)) (Fin.ext (by show b.val * 256 + (s + t.val - 1) = b.val * 256 + (t.val + s - 1); omega))
  · rw [dif_neg p, dif_neg (by omega), z]

/-- The padded latent sequences at tap `s`. -/
theorem pad_lat (x : FVec Ideal S16384x512 .f32) (b : Fin 2) (t : Fin 4096) (l : Fin 512) (s : ℕ) (hs : s < 3) :
    val_main_v32 (F := Ideal) x (ix3 b ⟨s + t.val, by omega⟩ l)
      = Taps.tap (fun a => x (ix2 a l)) (8192 + (b.val * 4096 + t.val)) 1 s := by
  rw [Taps.tap_latent]
  pointwise [val_main_v32, val_main_v29, val_main_v28, val_main_call1_v0, val_main_c_0]
  have z : FloatOps.sitofp (F := Ideal) FTy.f32 (0#32) = 0 := by
    show (((0#32 : BitVec 32).toInt : ℝ) : EReal) = 0
    simp
  by_cases p : 1 ≤ t.val + s ∧ t.val + s < 4097
  · rw [dif_pos p, dif_pos (by omega)]
    exact congrArg (fun a => x (ix2 a l)) (Fin.ext (by
      show 8192 + (b.val * 4096 + (s + t.val - 1)) = 8192 + (b.val * 4096 + (t.val + s - 1)); omega))
  · rw [dif_neg p, dif_neg (by omega), z]

/-- A context row. -/
theorem ctx (x g : FVec Ideal S16384x512 .f32) (w : FVec Ideal S3x512 .f32) (b : Fin 32) (t : Fin 256) (l : Fin 512) :
    val_main_v27 (F := Ideal) x g w (ix3 b t l) = G x g w ⟨b.val * 256 + t.val, by omega⟩ l := by
  pointwise [val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v3, val_main_v2, val_main_cst]
  have h0 := pad_ctx x b t l 0 (by omega)
  simp only [Nat.zero_add] at h0
  rw [h0, pad_ctx x b t l 1 (by omega), pad_ctx x b t l 2 (by omega)]
  rfl

/-- A latent row. -/
theorem lat (x g : FVec Ideal S16384x512 .f32) (w : FVec Ideal S3x512 .f32) (b : Fin 2) (t : Fin 4096) (l : Fin 512) :
    val_main_v55 (F := Ideal) x g w (ix3 b t l) = G x g w ⟨8192 + (b.val * 4096 + t.val), by omega⟩ l := by
  pointwise [val_main_v55, val_main_v54, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_v36, val_main_v35, val_main_v34, val_main_v33,
    val_main_v31, val_main_v30, val_main_cst_1]
  have h0 := pad_lat x b t l 0 (by omega)
  simp only [Nat.zero_add] at h0
  rw [h0, pad_lat x b t l 1 (by omega), pad_lat x b t l 2 (by omega)]
  rfl

/-- The reference's result array is the same formula. -/
theorem array (x g : FVec Ideal S16384x512 .f32) (w : FVec Ideal S3x512 .f32) :
    val_main_v59 (F := Ideal) x g w = fun j => G x g w (j 0) (j 1) := by
  funext j
  idx_vars j
  pointwise [val_main_v59, val_main_v58, val_main_v57, val_main_v56]
  by_cases e : j0.val < 8192
  · rw [dif_pos e]
    simp only [ctx, show j0.val / 256 * 256 + j0.val % 256 = j0.val by omega]
  · rw [dif_neg e]
    simp only [lat, show 8192 + ((j0.val - 8192) / 4096 * 4096 + (j0.val - 8192) % 4096) = j0.val by omega]

end Cert.Reference9Ideal.ShortConv

end
-- ==== Proof.Modulation.lean ====
/- The modulation: the kernel's result array after the run and the reference's, one formula. -/
module

public import proofs.«01_k».proof.Proof.Rows
public import proofs.«01_k».proof.Proof.Gen.Kernel10Ideal.Value
public import proofs.«01_k».proof.Proof.Gen.Reference10Ideal.Read

@[expose] public section

set_option maxRecDepth 16384

noncomputable section

open Idealize.ShloMosaic Idealize.ShloMosaic.TcCoe Idealize.SL.Sem

namespace Cert.Kernel10Ideal.Modulation

open Cert.Kernel10Ideal Cert.Kernel10Ideal.Gen

variable (m : (ℓ : Loc nD τ sig) → Buf (Elt Ideal) ℓ)

/-- The windows' block indices at every grid point. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- There are 16 grid points. -/
theorem points (t : Fin cfg0.N) : t.val < 16 := t.isLt

/-- A value times its sigmoid. -/
def silu (a : EReal) : EReal := a * Ideal.div 1 (1 + Ideal.exp (-a))

/-- Layer `L`'s modulation of conditioning `r`, column `l`. -/
def G (x : FVec Ideal S8x1024 .f32) (w : FVec Ideal S4x1024x6144 .f32) (b : FVec Ideal S4x6144 .f32) (L : Fin 4) (r : Fin 8)
    (l : Fin 6144) : EReal :=
  (∑ k : Fin 1024, silu (x (ix2 r k)) * w (ix3 L k l)) + b (ix2 L l)

/-- The body at an index of its block. -/
theorem body (x : FVec Ideal S8x1024 .f32) (w : FVec Ideal S1x1024x1536 .f32) (b : FVec Ideal S1x1x1536 .f32) (r : Fin 8)
    (l : Fin 1536) :
    out0_3 (F := Ideal) x w b (ix3 0 r l)
      = (∑ k : Fin 1024, silu (x (ix2 r k)) * w (ix3 0 k l)) + b (ix3 0 0 l) := by
  unfold out0_3
  rw [View.canon_unit_zero (by decide), View.ld_unit_zero (by decide), View.ld_unit_zero (by decide),
    View.ld_unit_zero (by decide)]
  pointwise [k0_pay1]
  simp only [silu, zero_sub]

/-- The conditionings. -/
theorem conds (c : Dev nD) (t : Fin cfg0.N) (r : Fin 8) (l : Fin 1024) :
    iblk m c 0 t (ix2 r l) = m ((c : Thread nD τ).loc main_arg0) (ix2 r l) := by
  blk_ext! [iblk, V, idx t]

/-- The block of weights at grid point `t`. -/
theorem weight (c : Dev nD) (t : Fin cfg0.N) (k : Fin 1024) (l : Fin 1536) :
    iblk m c 1 t (ix3 0 k l) = m ((c : Thread nD τ).loc main_arg1)
      (ix3 ⟨t.val / 4, by have := points t; omega⟩ k ⟨t.val % 4 * 1536 + l.val, by omega⟩) := by
  blk_ext! [iblk, V, idx t]

/-- The block of biases at grid point `t`. -/
theorem bias (c : Dev nD) (t : Fin cfg0.N) (l : Fin 1536) :
    iblk m c 2 t (ix3 0 0 l) = m ((c : Thread nD τ).loc main_arg2)
      (ix2 ⟨t.val / 4, by have := points t; omega⟩ ⟨t.val % 4 * 1536 + l.val, by omega⟩) := by
  blk_ext! [iblk, V, idx t]

/-- The result array as a function of the arguments. -/
def result (c : Dev nD) : FVec Ideal S4x8x6144 .f32 := fun j =>
  G (m ((c : Thread nD τ).loc main_arg0)) (m ((c : Thread nD τ).loc main_arg1)) (m ((c : Thread nD τ).loc main_arg2))
    (j 0) (j 1) (j 2)

/-- The output block at grid point `t` is layer `t / 4`'s block of columns `1536 (t % 4) …` of the result. -/
theorem block (c : Dev nD) (t : Fin cfg0.N) (r : Fin 8) (l : Fin 1536) :
    out0_3 (F := Ideal) (iblk m c 0 t) (iblk m c 1 t) (iblk m c 2 t) (ix3 0 r l)
      = result m c (((cfg0.win 3).blk t).view.emb (ix3 0 r l)) := by
  have ht := points t
  have e : ((cfg0.win 3).blk t).view.emb (ix3 0 r l)
      = (ix3 ⟨t.val / 4, by omega⟩ r ⟨t.val % 4 * 1536 + l.val, by omega⟩ : S4x8x6144.Idx) := by
    blk_ext! [idx t]
  rw [e, body, bias m c t]
  simp only [conds m c t, weight m c t]
  rfl

/-- The result array after the run. -/
theorem final (c : Dev nD) : (dats m 0 c).arrAt 3 (cfgs 0).N = result m c := by
  refine (dats m 0 c).arrAt_eq_of_covers 3 _ (by decide +kernel) fun t _ y => ?_
  blk_simp
  rw [after0_3]
  have h := block m c t (y 1) (y 2)
  rw [show (ix3 0 (y 1) (y 2) : S1x8x1536.Idx) = y from by
    funext a; fin_cases a
    · exact Subsingleton.elim (α := Fin 1) _ _
    · rfl
    · rfl] at h
  exact h

end Cert.Kernel10Ideal.Modulation

namespace Cert.Reference10Ideal.Modulation

open Cert.Reference10Ideal Cert.Reference10Ideal.Read
open Cert.Kernel10Ideal.Modulation (silu G)

/-- The reference's layer 0. -/
theorem layer0 (x : FVec Ideal S8x1024 .f32) (w : FVec Ideal S4x1024x6144 .f32) (b : FVec Ideal S4x6144 .f32) (r : Fin 8)
    (l : Fin 6144) : val_main_v8 (F := Ideal) x w b (ix2 r l) = G x w b 0 r l := by
  pointwise [val_main_v8, val_main_v7, val_main_v6, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]
  simp only [G, silu]

/-- The reference's layer 1. -/
theorem layer1 (x : FVec Ideal S8x1024 .f32) (w : FVec Ideal S4x1024x6144 .f32) (b : FVec Ideal S4x6144 .f32) (r : Fin 8)
    (l : Fin 6144) : val_main_v17 (F := Ideal) x w b (ix2 r l) = G x w b 1 r l := by
  pointwise [val_main_v17, val_main_v16, val_main_v15, val_main_v14, val_main_v13, val_main_v12, val_main_v11, val_main_v10, val_main_v9,
    val_main_call1_v5, val_main_call1_v4, val_main_call1_v3, val_main_call1_v2, val_main_call1_v1, val_main_call1_v0, val_main_call1_cst, val_main_call1_cst_0]
  simp only [G, silu]

/-- The reference's layer 2. -/
theorem layer2 (x : FVec Ideal S8x1024 .f32) (w : FVec Ideal S4x1024x6144 .f32) (b : FVec Ideal S4x6144 .f32) (r : Fin 8)
    (l : Fin 6144) : val_main_v26 (F := Ideal) x w b (ix2 r l) = G x w b 2 r l := by
  pointwise [val_main_v26, val_main_v25, val_main_v24, val_main_v23, val_main_v22, val_main_v21, val_main_v20, val_main_v19, val_main_v18,
    val_main_call2_v5, val_main_call2_v4, val_main_call2_v3, val_main_call2_v2, val_main_call2_v1, val_main_call2_v0, val_main_call2_cst, val_main_call2_cst_0]
  simp only [G, silu]

/-- The reference's layer 3. -/
theorem layer3 (x : FVec Ideal S8x1024 .f32) (w : FVec Ideal S4x1024x6144 .f32) (b : FVec Ideal S4x6144 .f32) (r : Fin 8)
    (l : Fin 6144) : val_main_v35 (F := Ideal) x w b (ix2 r l) = G x w b 3 r l := by
  pointwise [val_main_v35, val_main_v34, val_main_v33, val_main_v32, val_main_v31, val_main_v30, val_main_v29, val_main_v28, val_main_v27,
    val_main_call3_v5, val_main_call3_v4, val_main_call3_v3, val_main_call3_v2, val_main_call3_v1, val_main_call3_v0, val_main_call3_cst, val_main_call3_cst_0]
  simp only [G, silu]

/-- The reference's layers, stacked, are the same formula. -/
theorem array (x : FVec Ideal S8x1024 .f32) (w : FVec Ideal S4x1024x6144 .f32) (b : FVec Ideal S4x6144 .f32) :
    val_main_v40 (F := Ideal) x w b = fun j => G x w b (j 0) (j 1) (j 2) := by
  funext j
  idx_vars j
  pointwise [val_main_v40, val_main_v36, val_main_v37, val_main_v38, val_main_v39]
  simp only [layer0, layer1, layer2, layer3]
  fin_cases j0 <;> rfl

end Cert.Reference10Ideal.Modulation

end
-- ==== Proof.Fourier.lean ====
/- The Fourier mixing's channel transform: four groups of 128 columns, one table down the diagonal. -/
module

public import proofs.«01_k».proof.Proof.Rows

@[expose] public section

set_option maxRecDepth 16384

noncomputable section

open Idealize.ShloMosaic

namespace Fourier

/-- The table `c` at the places of one group, zero elsewhere. -/
def diag (c : Fin 128 → Fin 128 → EReal) (a b : Fin 512) : EReal :=
  (if a.val / 128 = b.val / 128 then 1 else 0) * c ⟨a.val % 128, by omega⟩ ⟨b.val % 128, by omega⟩

/-- Column `l` of a row's channel transform: the sum over the columns of `l`'s group. -/
def chan (x : Fin 512 → EReal) (c : Fin 128 → Fin 128 → EReal) (l : Fin 512) : EReal :=
  ∑ d : Fin 128, x ⟨l.val / 128 * 128 + d.val, by omega⟩ * c d ⟨l.val % 128, by omega⟩

/-- A sum against the table down the diagonal is the sum over one group. -/
theorem sum_diag (x : Fin 512 → EReal) (c : Fin 128 → Fin 128 → EReal) (l : Fin 512) :
    ∑ k, x k * diag c k l = chan x c l := by
  have e : ∀ k : Fin 512, x k * diag c k l
      = if k.val / 128 = l.val / 128 then x k * c ⟨k.val % 128, by omega⟩ ⟨l.val % 128, by omega⟩ else 0 := by
    intro k
    unfold diag
    by_cases h : k.val / 128 = l.val / 128
    · rw [if_pos h, if_pos h, one_mul]
    · rw [if_neg h, if_neg h, zero_mul, mul_zero]
  simp only [e]
  rw [← Finset.sum_filter]
  unfold chan
  refine Finset.sum_bij' (fun x _ => (⟨x.val % 128, by omega⟩ : Fin 128)) (fun x _ => ⟨l.val / 128 * 128 + x.val, by omega⟩) ?_ ?_ ?_ ?_ ?_
  · intro a _; exact Finset.mem_univ _
  · intro a _; simp only [Finset.mem_filter, Finset.mem_univ, true_and]; omega
  · intro a ha
    have h := (Finset.mem_filter.1 ha).2
    exact Fin.ext (by show l.val / 128 * 128 + a.val % 128 = a.val; omega)
  · intro a _; exact Fin.ext (by show (l.val / 128 * 128 + a.val) % 128 = a.val; omega)
  · intro a ha
    have h := (Finset.mem_filter.1 ha).2
    exact congrArg (fun b => x b * c ⟨a.val % 128, by omega⟩ ⟨l.val % 128, by omega⟩)
      (Fin.ext (by show a.val = l.val / 128 * 128 + a.val % 128; omega))

/-- A truth value of two equal groups, as a number. -/
theorem same_group (a b : Fin 512) : FloatOps.uitofp (F := Ideal) FTy.f32
    (IntOp.cmpi CmpIPredicate.eq (IntOp.addi (BitVec.ofNat 32 (a.val / 128)) 0#32) (BitVec.ofNat 32 (b.val / 128)))
      = if a.val / 128 = b.val / 128 then 1 else 0 := by
  have e : ∀ u v : Fin 4, IntOp.cmpi CmpIPredicate.eq (IntOp.addi (BitVec.ofNat 32 u.val) 0#32) (BitVec.ofNat 32 v.val)
      = if u.val = v.val then 1#1 else 0#1 := by decide
  have h := e ⟨a.val / 128, by omega⟩ ⟨b.val / 128, by omega⟩
  dsimp only at h
  rw [h]
  by_cases h' : a.val / 128 = b.val / 128
  · rw [if_pos h', if_pos h']
    show (((1#1 : BitVec 1).toNat : ℝ) : EReal) = 1
    simp
  · rw [if_neg h', if_neg h']
    show (((0#1 : BitVec 1).toNat : ℝ) : EReal) = 0
    simp

/-- Row `u` of the tokens' transform of the channel transforms, real part, scaled: `x t` the sequence's rows. -/
def mix {n : ℕ} (x : Fin n → Fin 512 → EReal) (c s : Fin 128 → Fin 128 → EReal) (ct st : Fin n → EReal) (w : BitVec 32)
    (l : Fin 512) : EReal :=
  (∑ t, ct t * chan (x t) c l - ∑ t, st t * chan (x t) s l) * Ideal.ofBits FTy.f32 w

end Fourier

end
-- ==== Proof.FourierCtx.lean ====
/- The Fourier mixing of the context: the kernel's result array after the run and the reference's, one formula. -/
module

public import proofs.«01_k».proof.Proof.Fourier
public import proofs.«01_k».proof.Proof.Gen.Kernel11Ideal.Value
public import proofs.«01_k».proof.Proof.Gen.Reference11Ideal.Read

@[expose] public section

set_option maxRecDepth 16384

noncomputable section

open Idealize.ShloMosaic Idealize.ShloMosaic.TcCoe Idealize.SL.Sem

namespace Cert.Kernel11Ideal.FourierCtx

open Cert.Kernel11Ideal Cert.Kernel11Ideal.Gen

variable (m : (ℓ : Loc nD τ sig) → Buf (Elt Ideal) ℓ)

/-- The windows' block indices at every grid point. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![t.val, 0] :=
  (by decide +kernel : ∀ t : Fin grid0.N, _)

/-- There are 32 grid points. -/
theorem points (t : Fin cfg0.N) : t.val < 32 := t.isLt

/-- The mixed row `R` of the context, column `l`. -/
def G (f : FVec Ideal S16384x512 .bf16) (c s : FVec Ideal S128x128 .f32) (ct st : FVec Ideal S256x256 .f32) (R : Fin 8192)
    (l : Fin 512) : EReal :=
  Fourier.mix (fun t : Fin 256 => fun k => f (ix2 ⟨R.val / 256 * 256 + t.val, by omega⟩ k)) (fun a b => c (ix2 a b))
    (fun a b => s (ix2 a b)) (fun t => ct (ix2 ⟨R.val % 256, by omega⟩ t)) (fun t => st (ix2 ⟨R.val % 256, by omega⟩ t))
    0x3BB504F3#32 l

/-- The body at an index of its block. -/
theorem body (f : FVec Ideal S256x512 .bf16) (cb sb : FVec Ideal S512x512 .bf16) (ct st : FVec Ideal S256x256 .bf16)
    (c s : Fin 128 → Fin 128 → EReal) (hc : ∀ a b, cb (ix2 a b) = Fourier.diag c a b)
    (hs : ∀ a b, sb (ix2 a b) = Fourier.diag s a b) (r : Fin 256) (l : Fin 512) :
    out0_5 (F := Ideal) f cb sb ct st (ix2 r l)
      = Fourier.mix (fun t : Fin 256 => fun k => f (ix2 t k)) c s (fun t => ct (ix2 r t)) (fun t => st (ix2 r t)) 0x3BB504F3#32 l := by
  unfold out0_5
  rw [View.canon_unit_zero (by decide)]
  rw [View.ld_unit_zero (by decide), View.ld_unit_zero (by decide), View.ld_unit_zero (by decide),
    View.ld_unit_zero (by decide), View.ld_unit_zero (by decide)]
  pointwise [k0_pay1]
  simp only [hc, hs, Fourier.sum_diag]
  rfl

/-- The context's rows at grid point `t`. -/
theorem rows (c : Dev nD) (t : Fin cfg0.N) (r : Fin 256) (l : Fin 512) :
    iblk m c 0 t (ix2 r l) = m ((c : Thread nD τ).loc main_arg0) (ix2 ⟨t.val * 256 + r.val, by have := points t; omega⟩ l) := by
  blk_ext! [iblk, V, idx t]

/-- The cosines' table down the diagonal. -/
theorem cosDiag (c : Dev nD) (t : Fin cfg0.N) (a b : Fin 512) : iblk m c 1 t (ix2 a b)
    = Fourier.diag (fun a b => m ((c : Thread nD τ).loc main_arg1) (ix2 a b)) a b := by
  have e : (win0_1.blk t).view.emb (ix2 a b) = ix2 a b := by blk_ext! [idx t]
  unfold Fourier.diag
  rw [← Fourier.same_group]
  simp only [iblk]
  blk_simp [V]
  rw [e]
  entry_read
  pointwise

/-- The sines' table down the diagonal. -/
theorem sinDiag (c : Dev nD) (t : Fin cfg0.N) (a b : Fin 512) : iblk m c 2 t (ix2 a b)
    = Fourier.diag (fun a b => m ((c : Thread nD τ).loc main_arg2) (ix2 a b)) a b := by
  have e : (win0_2.blk t).view.emb (ix2 a b) = ix2 a b := by blk_ext! [idx t]
  unfold Fourier.diag
  rw [← Fourier.same_group]
  simp only [iblk]
  blk_simp [V]
  rw [e]
  entry_read
  pointwise

/-- The tokens' cosines. -/
theorem cosTok (c : Dev nD) (t : Fin cfg0.N) (a b : Fin 256) :
    iblk m c 3 t (ix2 a b) = m ((c : Thread nD τ).loc main_arg3) (ix2 a b) := by
  blk_ext! [iblk, V, idx t]

/-- The tokens' sines. -/
theorem sinTok (c : Dev nD) (t : Fin cfg0.N) (a b : Fin 256) :
    iblk m c 4 t (ix2 a b) = m ((c : Thread nD τ).loc main_arg4) (ix2 a b) := by
  blk_ext! [iblk, V, idx t]

/-- The result array as a function of the arguments. -/
def result (c : Dev nD) : FVec Ideal S8192x512 .bf16 := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1)

/-- The output block at grid point `t` is context `t`'s rows of the result. -/
theorem block (c : Dev nD) (t : Fin cfg0.N) (r : Fin 256) (l : Fin 512) :
    out0_5 (F := Ideal) (iblk m c 0 t) (iblk m c 1 t) (iblk m c 2 t) (iblk m c 3 t) (iblk m c 4 t) (ix2 r l)
      = result m c (((cfg0.win 5).blk t).view.emb (ix2 r l)) := by
  have ht := points t
  have e : ((cfg0.win 5).blk t).view.emb (ix2 r l) = (ix2 ⟨t.val * 256 + r.val, by omega⟩ l : S8192x512.Idx) := by
    blk_ext! [idx t]
  rw [e, body _ _ _ _ _ _ _ (cosDiag m c t) (sinDiag m c t)]
  simp only [rows m c t, cosTok m c t, sinTok m c t]
  show _ = G _ _ _ _ _ ⟨t.val * 256 + r.val, by omega⟩ l
  unfold G
  have h1 : (t.val * 256 + r.val) / 256 = t.val := by omega
  have h2 : (t.val * 256 + r.val) % 256 = r.val := by omega
  simp only [h1, h2]

/-- The result array after the run. -/
theorem final (c : Dev nD) : (dats m 0 c).arrAt 5 (cfgs 0).N = result m c := by
  refine (dats m 0 c).arrAt_eq_of_covers 5 _ (by decide +kernel) fun t _ y => ?_
  blk_simp
  rw [after0_5]
  have h := block m c t (y 0) (y 1)
  rw [show (ix2 (y 0) (y 1) : S256x512.Idx) = y from by funext a; fin_cases a <;> rfl] at h
  exact h

end Cert.Kernel11Ideal.FourierCtx

namespace Cert.Reference11Ideal.FourierCtx

open Cert.Reference11Ideal Cert.Reference11Ideal.Read
open Cert.Kernel11Ideal.FourierCtx (G)

/-- The reference's rows, by context, row, group and column. -/
theorem rows (f : FVec Ideal S16384x512 .bf16) (b : Fin 32) (t : Fin 256) (g : Fin 4) (k : Fin 128) :
    val_main_v3 (F := Ideal) f (ix4 b t g k) = f (ix2 ⟨b.val * 256 + t.val, by omega⟩ ⟨g.val * 128 + k.val, by omega⟩) := by
  pointwise [val_main_v3, val_main_v2, val_main_v1, val_main_v0]

/-- The reference's mixed rows. -/
theorem mixed (f : FVec Ideal S16384x512 .bf16) (c s : FVec Ideal S128x128 .f32) (ct st : FVec Ideal S256x256 .f32)
    (b : Fin 32) (u : Fin 256) (g : Fin 4) (e : Fin 128) :
    val_main_v10 (F := Ideal) f c s ct st (ix4 b u g e)
      = ∑ t : Fin 256, ct (ix2 u t) * (∑ k : Fin 128, f (ix2 ⟨b.val * 256 + t.val, by omega⟩ ⟨g.val * 128 + k.val, by omega⟩) * c (ix2 k e))
        - ∑ t : Fin 256, st (ix2 u t) * (∑ k : Fin 128, f (ix2 ⟨b.val * 256 + t.val, by omega⟩ ⟨g.val * 128 + k.val, by omega⟩) * s (ix2 k e)) := by
  pointwise [val_main_v10, val_main_v9, val_main_v8, val_main_v7, val_main_v6, val_main_v5, val_main_v4]
  simp only [rows]
  congr 1 <;> exact Finset.sum_congr rfl fun t _ => mul_comm _ _

/-- The reference's array is the same formula. -/
theorem array (f : FVec Ideal S16384x512 .bf16) (c s : FVec Ideal S128x128 .f32) (ct st : FVec Ideal S256x256 .f32) :
    val_main_v14 (F := Ideal) f c s ct st = fun j => G f c s ct st (j 0) (j 1) := by
  funext j
  idx_vars j
  pointwise [val_main_v14, val_main_v13, val_main_v12, val_main_v11, val_main_cst]
  simp only [mixed]
  rfl

end Cert.Reference11Ideal.FourierCtx

end
-- ==== Proof.FourierLat.lean ====
/- The Fourier mixing of the latents: the kernel's result array after the run and the reference's, one formula. -/
module

public import proofs.«01_k».proof.Proof.Fourier
public import proofs.«01_k».proof.Proof.Gen.Kernel12Ideal.Value
public import proofs.«01_k».proof.Proof.Gen.Reference12Ideal.Read

@[expose] public section

set_option maxRecDepth 16384

noncomputable section

open Idealize.ShloMosaic Idealize.ShloMosaic.TcCoe Idealize.SL.Sem Idealize.ShloMosaic.Tactic

namespace Cert.Kernel12Ideal.FourierLat

open Cert.Kernel12Ideal Cert.Kernel12Ideal.Gen

section Runs

/-- A whole block loads as itself. -/
theorem whole0 (x : Vec Ideal S4096x512 .bf16) : View.ld x (Rect.unit ![0, 0] ![4096, 512] inb_S4096x512_S4096x512_0_0) = x := by
  rw [View.ld_unit_zero (by decide)]

/-- A whole block loads as itself. -/
theorem whole1 (x : Vec Ideal S512x512 .bf16) : View.ld x (Rect.unit ![0, 0] ![512, 512] inb_S512x512_S512x512_0_0) = x := by
  rw [View.ld_unit_zero (by decide)]

/-- A whole block loads as itself. -/
theorem whole3 (x : Vec Ideal S256x4096 .bf16) : View.ld x (Rect.unit ![0, 0] ![256, 4096] inb_S256x4096_S256x4096_0_0) = x := by
  rw [View.ld_unit_zero (by decide)]

/-- A block stored whole reads back as what was stored. -/
theorem back (x : Vec Ideal S4096x512 .bf16) :
    (fun j => View.canon [⟨Rect.unit ![0, 0] ![4096, 512] inb_S4096x512_S4096x512_0_0, x⟩]
      ((Rect.unit (s := S4096x512) ![0, 0] ![4096, 512] inb_S4096x512_S4096x512_0_0).idx j)) = x := by
  funext j
  rw [View.canon_unit_zero (by decide)]
  refine congrArg x (funext fun a => Fin.ext ?_)
  rw [Rect.idx_unit_val]
  fin_cases a <;> exact Nat.zero_add _

variable (c : Dev nD) (i : grid0.Coords) (a2 : Memref sig .tc .vmem S4096x512 .bf16) (h2 : a2.IsWhole) (a3 : Memref sig .tc
  .vmem S512x512 .bf16) (h3 : a3.IsWhole) (a4 : Memref sig .tc .vmem S512x512 .bf16) (h4 : a4.IsWhole) (a5 : Memref sig .tc
  .vmem S256x4096 .bf16) (h5 : a5.IsWhole) (a6 : Memref sig .tc .vmem S256x4096 .bf16) (h6 : a6.IsWhole) (a7 : Memref sig .tc
  .vmem S256x512 .bf16) (h7 : a7.IsWhole) (a8 : Memref sig .tc .vmem S4096x512 .bf16) (h8 : a8.IsWhole) (a9 : Memref sig .tc
  .vmem S4096x512 .bf16) (h9 : a9.IsWhole) (x0 : Vec Ideal S4096x512 .bf16) (x1 : Vec Ideal S512x512 .bf16) (x2 : Vec Ideal
  S512x512 .bf16) (x3 : Vec Ideal S256x4096 .bf16) (x4 : Vec Ideal S256x4096 .bf16) (y0 : Vec Ideal S4096x512 .bf16) (y1 : Vec
  Ideal S4096x512 .bf16)

/-- The first scratch after a batch's first point. -/
theorem first (p : cond0_0 i) :
    sout0_A_0 c i a2 h2 a3 h3 a4 h4 a5 h5 a6 h6 a7 h7 a8 h8 a9 h9 p x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 p x0 x1 x2 x3 x4)]
  unfold kernelRun0_A
  dsimp only
  sl_unfold_words
  simp only [View.readAt_eq_ld, h2.read_unread, h3.read_unread]
  rw [View.canon_unit_zero (by decide)]
  simp only [whole0, whole1]

/-- The second scratch after a batch's first point. -/
theorem second (p : cond0_0 i) :
    sout0_A_1 c i a2 h2 a3 h3 a4 h4 a5 h5 a6 h6 a7 h7 a8 h8 a9 h9 p x0 x1 x2 x3 x4 = k0_pay2 x0 x2 := by
  unfold sout0_A_1
  rw [View.read_writes_eq_canon _ _ _ (scover0_A_1 c i a2 h2 a3 h3 a4 h4 a5 h5 a6 h6 a7 h7 a8 h8 a9 h9 p x0 x1 x2 x3 x4)]
  unfold kernelRun0_A
  dsimp only
  sl_unfold_words
  simp only [View.readAt_eq_ld, h2.read_unread, h4.read_unread]
  rw [View.canon_unit_zero (by decide)]
  simp only [whole0, whole1]

/-- The output block of a batch's first point, from the scratch it wrote. -/
theorem outA (p : cond0_0 i) :
    out0_A_5 c i a2 h2 a3 h3 a4 h4 a5 h5 a6 h6 a7 h7 a8 h8 a9 h9 p x0 x1 x2 x3 x4
      = k0_pay3 x3 (k0_pay1 x0 x1) x4 (k0_pay2 x0 x2) := by
  unfold out0_A_5
  rw [View.read_writes_eq_canon _ _ _ (cover0_A_5 c i a2 h2 a3 h3 a4 h4 a5 h5 a6 h6 a7 h7 a8 h8 a9 h9 p x0 x1 x2 x3 x4)]
  unfold kernelRun0_A
  dsimp only
  sl_unfold_words
  simp only [View.readAt_eq_ld, h2.read_unread, h3.read_unread, h4.read_unread, h5.read_unread, h6.read_unread]
  rw [View.canon_unit_zero (by decide)]
  simp only [whole0, whole1, whole3, View.readCov_eq_canon', back]

/-- The output block of a later point, from the scratch carried to it. -/
theorem outB (p : ¬cond0_0 i) :
    out0_B_5 c i a2 h2 a3 h3 a4 h4 a5 h5 a6 h6 a7 h7 a8 h8 a9 h9 p x0 x1 x2 x3 x4 y0 y1 = k0_pay3 x3 y0 x4 y1 := by
  unfold out0_B_5
  rw [View.read_writes_eq_canon _ _ _ (cover0_B_5 c i a2 h2 a3 h3 a4 h4 a5 h5 a6 h6 a7 h7 a8 h8 a9 h9 p x0 x1 x2 x3 x4 y0 y1)]
  unfold kernelRun0_B
  dsimp only
  sl_unfold_words
  simp only [View.readAt_eq_ld, h5.read_unread, h6.read_unread, h8.read_unread, h9.read_unread]
  rw [View.canon_unit_zero (by decide)]
  simp only [whole0, whole3]

end Runs

variable (m : (ℓ : Loc nD τ sig) → Buf (Elt Ideal) ℓ)

/-- The windows' block indices at every grid point. -/
theorem idx : ∀ t : Fin cfg0.N, win0_0.index t = ![t.val / 16 + 2, 0] ∧ win0_1.index t = ![0, 0]
    ∧ win0_2.index t = ![0, 0] ∧ win0_3.index t = ![t.val % 16, 0] ∧ win0_4.index t = ![t.val % 16, 0]
    ∧ win0_5.index t = ![t.val, 0] :=
  (by decide +kernel : ∀ t : Fin grid0.N, _)

/-- There are 32 grid points. -/
theorem points (t : Fin cfg0.N) : t.val < 32 := t.isLt

/-- The mixed row `R` of the latents, column `l`. -/
def G (f : FVec Ideal S16384x512 .bf16) (c s : FVec Ideal S128x128 .f32) (ct st : FVec Ideal S4096x4096 .bf16) (R : Fin 8192)
    (l : Fin 512) : EReal :=
  Fourier.mix (fun t : Fin 4096 => fun k => f (ix2 ⟨8192 + R.val / 4096 * 4096 + t.val, by omega⟩ k)) (fun a b => c (ix2 a b))
    (fun a b => s (ix2 a b)) (fun t => ct (ix2 ⟨R.val % 4096, by omega⟩ t)) (fun t => st (ix2 ⟨R.val % 4096, by omega⟩ t))
    0x3AB504F3#32 l

/-- The first scratch's payload at an index. -/
theorem cosPay (f : FVec Ideal S4096x512 .bf16) (cb : FVec Ideal S512x512 .bf16) (c : Fin 128 → Fin 128 → EReal)
    (hc : ∀ a b, cb (ix2 a b) = Fourier.diag c a b) (r : Fin 4096) (l : Fin 512) :
    k0_pay1 (F := Ideal) f cb (ix2 r l) = Fourier.chan (fun k => f (ix2 r k)) c l := by
  pointwise [k0_pay1]
  simp only [hc]
  exact Fourier.sum_diag (fun k => f (ix2 r k)) c l

/-- The second scratch's payload at an index. -/
theorem sinPay (f : FVec Ideal S4096x512 .bf16) (cb : FVec Ideal S512x512 .bf16) (c : Fin 128 → Fin 128 → EReal)
    (hc : ∀ a b, cb (ix2 a b) = Fourier.diag c a b) (r : Fin 4096) (l : Fin 512) :
    k0_pay2 (F := Ideal) f cb (ix2 r l) = Fourier.chan (fun k => f (ix2 r k)) c l := by
  pointwise [k0_pay2]
  simp only [hc]
  exact Fourier.sum_diag (fun k => f (ix2 r k)) c l

/-- The output's payload at an index. -/
theorem outPay (ct st : FVec Ideal S256x4096 .bf16) (xc xs : FVec Ideal S4096x512 .bf16) (r : Fin 256) (l : Fin 512) :
    k0_pay3 (F := Ideal) ct xc st xs (ix2 r l)
      = (∑ t : Fin 4096, ct (ix2 r t) * xc (ix2 t l) - ∑ t : Fin 4096, st (ix2 r t) * xs (ix2 t l)) * Ideal.ofBits FTy.f32 0x3AB504F3#32 := by
  pointwise [k0_pay3]

/-- The latents' rows at grid point `t`. -/
theorem rows (c : Dev nD) (t : Fin cfg0.N) (r : Fin 4096) (l : Fin 512) :
    iblk m c 0 t (ix2 r l) = m ((c : Thread nD τ).loc main_arg0)
      (ix2 ⟨8192 + t.val / 16 * 4096 + r.val, by have := points t; omega⟩ l) := by
  rw [show (⟨8192 + t.val / 16 * 4096 + r.val, by have := points t; omega⟩ : Fin 16384)
    = ⟨(t.val / 16 + 2) * 4096 + r.val, by have := points t; omega⟩ from Fin.ext (by
      show 8192 + t.val / 16 * 4096 + r.val = (t.val / 16 + 2) * 4096 + r.val; omega)]
  blk_ext! [iblk, V, idx t]

/-- The cosines' table down the diagonal. -/
theorem cosDiag (c : Dev nD) (t : Fin cfg0.N) (a b : Fin 512) : iblk m c 1 t (ix2 a b)
    = Fourier.diag (fun a b => m ((c : Thread nD τ).loc main_arg1) (ix2 a b)) a b := by
  have e : (win0_1.blk t).view.emb (ix2 a b) = ix2 a b := by blk_ext! [idx t]
  unfold Fourier.diag
  rw [← Fourier.same_group]
  simp only [iblk]
  blk_simp [V]
  rw [e]
  entry_read
  pointwise

/-- The sines' table down the diagonal. -/
theorem sinDiag (c : Dev nD) (t : Fin cfg0.N) (a b : Fin 512) : iblk m c 2 t (ix2 a b)
    = Fourier.diag (fun a b => m ((c : Thread nD τ).loc main_arg2) (ix2 a b)) a b := by
  have e : (win0_2.blk t).view.emb (ix2 a b) = ix2 a b := by blk_ext! [idx t]
  unfold Fourier.diag
  rw [← Fourier.same_group]
  simp only [iblk]
  blk_simp [V]
  rw [e]
  entry_read
  pointwise

/-- The tokens' cosines. -/
theorem cosTok (c : Dev nD) (t : Fin cfg0.N) (a : Fin 256) (b : Fin 4096) :
    iblk m c 3 t (ix2 a b) = m ((c : Thread nD τ).loc main_arg3) (ix2 ⟨t.val % 16 * 256 + a.val, by omega⟩ b) := by
  blk_ext! [iblk, V, idx t]

/-- The tokens' sines. -/
theorem sinTok (c : Dev nD) (t : Fin cfg0.N) (a : Fin 256) (b : Fin 4096) :
    iblk m c 4 t (ix2 a b) = m ((c : Thread nD τ).loc main_arg4) (ix2 ⟨t.val % 16 * 256 + a.val, by omega⟩ b) := by
  blk_ext! [iblk, V, idx t]

/-- What the first scratch holds during batch `b`: the channels' cosine transform of the batch's rows. -/
def cosines (c : Dev nD) (b : ℕ) (hb : b < 2) (r : Fin 4096) (l : Fin 512) : EReal :=
  Fourier.chan (fun k => m ((c : Thread nD τ).loc main_arg0) (ix2 ⟨8192 + b * 4096 + r.val, by omega⟩ k))
    (fun a b => m ((c : Thread nD τ).loc main_arg1) (ix2 a b)) l

/-- What the second scratch holds during batch `b`: the channels' sine transform of the batch's rows. -/
def sines (c : Dev nD) (b : ℕ) (hb : b < 2) (r : Fin 4096) (l : Fin 512) : EReal :=
  Fourier.chan (fun k => m ((c : Thread nD τ).loc main_arg0) (ix2 ⟨8192 + b * 4096 + r.val, by omega⟩ k))
    (fun a b => m ((c : Thread nD τ).loc main_arg2) (ix2 a b)) l

/-- Both scratches after every point: a batch's first point fills them, its later points leave them. -/
theorem carried (c : Dev nD) : ∀ (n : ℕ) (hn : n < cfg0.N) (r : Fin 4096) (l : Fin 512),
    (outsAt0 m c n hn).2.1 (ix2 r l) = cosines m c (n / 16) (by have : n < 32 := points ⟨n, hn⟩; omega) r l
      ∧ (outsAt0 m c n hn).2.2 (ix2 r l) = sines m c (n / 16) (by have : n < 32 := points ⟨n, hn⟩; omega) r l := by
  intro n
  induction n with
  | zero =>
    intro hn r l
    rw [outsAt0_A m c ⟨0, hn⟩ (Nat.zero_mod _)]
    dsimp only
    rw [first, second, cosPay _ _ _ (cosDiag m c _), sinPay _ _ _ (sinDiag m c _)]
    simp only [rows m c]
    exact ⟨rfl, rfl⟩
  | succ n ih =>
    intro hn r l
    by_cases h : (n + 1) % 16 = 0
    · rw [outsAt0_A m c ⟨n + 1, hn⟩ h]
      dsimp only
      rw [first, second, cosPay _ _ _ (cosDiag m c _), sinPay _ _ _ (sinDiag m c _)]
      simp only [rows m c]
      exact ⟨rfl, rfl⟩
    · rw [outsAt0_B m c ⟨n + 1, hn⟩ h]
      have e : (n + 1) / 16 = n / 16 := by omega
      have := ih (Nat.lt_of_succ_lt hn) r l
      simp only [e]
      exact this

/-- The result array as a function of the arguments. -/
def result (c : Dev nD) : FVec Ideal S8192x512 .bf16 := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1)

/-- The output block is the output's payload of the tokens' tables and both scratches as the point leaves them. -/
theorem written (c : Dev nD) (t : Fin cfg0.N) : (outsAt0 m c t.val t.isLt).1
    = k0_pay3 (iblk m c 3 t) (outsAt0 m c t.val t.isLt).2.1 (iblk m c 4 t) (outsAt0 m c t.val t.isLt).2.2 := by
  by_cases h : t.val % 16 = 0
  · rw [outsAt0_A m c t h]
    dsimp only
    rw [outA, first, second]
  · rw [outsAt0_B m c t h]
    dsimp only
    rw [outB]
    rfl

/-- The output block at grid point `t` is rows `256 t …` of the result. -/
theorem block (c : Dev nD) (t : Fin cfg0.N) (r : Fin 256) (l : Fin 512) :
    (outsAt0 m c t.val t.isLt).1 (ix2 r l) = result m c (((cfg0.win 5).blk t).view.emb (ix2 r l)) := by
  have ht := points t
  have e : ((cfg0.win 5).blk t).view.emb (ix2 r l) = (ix2 ⟨t.val * 256 + r.val, by omega⟩ l : S8192x512.Idx) := by
    blk_ext! [idx t]
  rw [e, written, outPay]
  have hc := fun x => (carried m c t.val t.isLt x l).1
  have hs := fun x => (carried m c t.val t.isLt x l).2
  simp only [hc, hs, cosTok m c t, sinTok m c t]
  show _ = G _ _ _ _ _ ⟨t.val * 256 + r.val, by omega⟩ l
  unfold G Fourier.mix cosines sines
  have h1 : (t.val * 256 + r.val) / 4096 = t.val / 16 := by omega
  have h2 : (t.val * 256 + r.val) % 4096 = t.val % 16 * 256 + r.val := by omega
  simp only [h1, h2]

/-- The result array after the run. -/
theorem final (c : Dev nD) : (dats m 0 c).arrAt 5 (cfgs 0).N = result m c := by
  refine (dats m 0 c).arrAt_eq_of_covers 5 _ (by decide +kernel) fun t _ y => ?_
  blk_simp
  rw [after0_5]
  have h := block m c t (y 0) (y 1)
  rw [show (ix2 (y 0) (y 1) : S256x512.Idx) = y from by funext a; fin_cases a <;> rfl] at h
  exact h

end Cert.Kernel12Ideal.FourierLat

namespace Cert.Reference12Ideal.FourierLat

open Cert.Reference12Ideal Cert.Reference12Ideal.Read
open Cert.Kernel12Ideal.FourierLat (G)

/-- The reference's rows, by batch, row, group and column. -/
theorem rows (f : FVec Ideal S16384x512 .bf16) (b : Fin 2) (t : Fin 4096) (g : Fin 4) (k : Fin 128) :
    val_main_v3 (F := Ideal) f (ix4 b t g k)
      = f (ix2 ⟨8192 + (b.val * 4096 + t.val), by omega⟩ ⟨g.val * 128 + k.val, by omega⟩) := by
  pointwise [val_main_v3, val_main_v2, val_main_v1, val_main_v0]

/-- The reference's mixed rows. -/
theorem mixed (f : FVec Ideal S16384x512 .bf16) (c s : FVec Ideal S128x128 .f32) (ct st : FVec Ideal S4096x4096 .bf16)
    (b : Fin 2) (u : Fin 4096) (g : Fin 4) (e : Fin 128) :
    val_main_v10 (F := Ideal) f c s ct st (ix4 b u g e)
      = ∑ t : Fin 4096, ct (ix2 u t) * (∑ k : Fin 128, f (ix2 ⟨8192 + b.val * 4096 + t.val, by omega⟩ ⟨g.val * 128 + k.val, by omega⟩) * c (ix2 k e))
        - ∑ t : Fin 4096, st (ix2 u t) * (∑ k : Fin 128, f (ix2 ⟨8192 + b.val * 4096 + t.val, by omega⟩ ⟨g.val * 128 + k.val, by omega⟩) * s (ix2 k e)) := by
  pointwise [val_main_v10, val_main_v9, val_main_v8, val_main_v7, val_main_v6, val_main_v5, val_main_v4]
  simp only [rows, ← Nat.add_assoc]
  congr 1 <;> exact Finset.sum_congr rfl fun t _ => mul_comm _ _

/-- The reference's array is the same formula. -/
theorem array (f : FVec Ideal S16384x512 .bf16) (c s : FVec Ideal S128x128 .f32) (ct st : FVec Ideal S4096x4096 .bf16) :
    val_main_v14 (F := Ideal) f c s ct st = fun j => G f c s ct st (j 0) (j 1) := by
  funext j
  idx_vars j
  pointwise [val_main_v14, val_main_v13, val_main_v12, val_main_v11, val_main_cst]
  simp only [mixed]
  rfl

end Cert.Reference12Ideal.FourierLat

end
-- ==== Proof.ConvModule.lean ====
/- The convolution module: what its body's scratch arrays hold, and its rows as one formula. -/
module

public import proofs.«01_k».proof.Proof.Taps
public import proofs.«01_k».proof.Proof.Gen.Kernel13Ideal.Value

@[expose] public section

set_option maxRecDepth 16384

noncomputable section

open Idealize.ShloMosaic Idealize.ShloMosaic.TcCoe Idealize.SL.Sem Idealize.ShloMosaic.Tactic

namespace Cert.ConvModule

/-- The 31 terms of a convolution, added in the order of the body: by the tap's remainder modulo eight. -/
def acc (f : Fin 31 → EReal) : EReal :=
  f 7 + f 15 + f 23 + f 0 + f 8 + f 16 + f 24 + f 1 + f 9 + f 17 + f 25 + f 2 + f 10 + f 18 + f 26
    + f 3 + f 11 + f 19 + f 27 + f 4 + f 12 + f 20 + f 28 + f 5 + f 13 + f 21 + f 29 + f 6 + f 14 + f 22
    + f 30

/-- The same 31 terms added in order. -/
theorem acc_eq (f : Fin 31 → EReal) : acc f
    = f 0 + f 1 + f 2 + f 3 + f 4 + f 5 + f 6 + f 7 + f 8 + f 9 + f 10 + f 11 + f 12 + f 13 + f 14
    + f 15 + f 16 + f 17 + f 18 + f 19 + f 20 + f 21 + f 22 + f 23 + f 24 + f 25 + f 26 + f 27 + f 28
    + f 29 + f 30 := by
  unfold acc
  abel

/-- A row's entry less the row's mean. -/
def dev (X : Fin 512 → EReal) (l : Fin 512) : EReal := X l - Ideal.div (∑ k, X k) (Ideal.ofBits FTy.f32 1140850688#32)

/-- The layer norm of a row, scaled by `g` and shifted by `b`. -/
def layerNorm (X g b : Fin 512 → EReal) (l : Fin 512) : EReal :=
  dev X l * Ideal.rsqrt (Ideal.div (∑ k, dev X k * dev X k) (Ideal.ofBits FTy.f32 1140850688#32) + Ideal.ofBits FTy.f32 897988541#32)
    * g l + b l

/-- The logistic unit of the layer norm. -/
def row (X g b : Fin 512 → EReal) (l : Fin 512) : EReal := layerNorm X g b l * Ideal.div 1 (1 + Ideal.exp (-layerNorm X g b l))

/-- Four tiles of 128 lanes side by side. -/
def lanes (a b c d : Fin 128 → EReal) (k : Fin 512) : EReal :=
  if h : k.val < 128 then a ⟨k.val, h⟩ else if h : k.val - 128 < 128 then b ⟨k.val - 128, h⟩
    else if h : k.val - 128 - 128 < 128 then c ⟨k.val - 128 - 128, h⟩ else d ⟨k.val - 128 - 128 - 128, by omega⟩

/-- Four tiles are a row when each is the row's tile. -/
theorem lanes_eq (a b c d : Fin 128 → EReal) (F : Fin 512 → EReal) (ha : ∀ x : Fin 128, a x = F ⟨x.val, by omega⟩)
    (hb : ∀ x : Fin 128, b x = F ⟨128 + x.val, by omega⟩) (hc : ∀ x : Fin 128, c x = F ⟨256 + x.val, by omega⟩)
    (hd : ∀ x : Fin 128, d x = F ⟨384 + x.val, by omega⟩) : lanes a b c d = F := by
  funext k
  unfold lanes
  by_cases p : k.val < 128
  · rw [dif_pos p, ha]
  · by_cases q : k.val - 128 < 128
    · rw [dif_neg p, dif_pos q, hb]
      exact congrArg F (Fin.ext (by show 128 + (k.val - 128) = k.val; omega))
    · by_cases r : k.val - 128 - 128 < 128
      · rw [dif_neg p, dif_neg q, dif_pos r, hc]
        exact congrArg F (Fin.ext (by show 256 + (k.val - 128 - 128) = k.val; omega))
      · rw [dif_neg p, dif_neg q, dif_neg r, hd]
        exact congrArg F (Fin.ext (by show 384 + (k.val - 128 - 128 - 128) = k.val; omega))

end Cert.ConvModule

namespace Cert.Kernel13Ideal.ConvModule

open Cert.Kernel13Ideal Cert.Kernel13Ideal.Gen

variable (m : (ℓ : Loc nD τ sig) → Buf (Elt Ideal) ℓ)

/-- The windows' block indices at every grid point. -/
theorem idx : ∀ t : Fin cfg0.N, win0_0.index t = ![t.val * 16 - 1, 0] ∧ win0_1.index t = ![t.val, 0]
    ∧ win0_2.index t = ![min (t.val * 16 + 16) 1023, 0] ∧ win0_3.index t = ![0, 0] ∧ win0_4.index t = ![0, 0]
    ∧ win0_5.index t = ![0, 0] ∧ win0_6.index t = ![0, 0] ∧ win0_7.index t = ![t.val, 0] :=
  (by decide +kernel : ∀ t : Fin grid0.N, _)

/-- There are 64 grid points. -/
theorem points (t : Fin cfg0.N) : t.val < 64 := t.isLt

/-- The word saying that a block starts its sequence, as the body computes it from the grid point. -/
def firstWord (arg0 : BitVec 32) : BitVec 1 :=
  let v0 : BitVec 1 := Scalar.cmpi .slt arg0 32#32
  let v1 : BitVec 32 := Scalar.select v0 1#32 16#32
  let v2 : BitVec 32 := Scalar.subi arg0 32#32
  let v3 : BitVec 32 := Scalar.select v0 arg0 v2
  let v4 : BitVec 1 := Scalar.cmpi .eq v1 0#32
  let v5 : BitVec 32 := Scalar.select v4 1#32 v1
  let v6 : BitVec 32 := Scalar.remsi v3 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  Scalar.cmpi .eq v13 0#32

/-- The word saying that a block ends its sequence, as the body computes it from the grid point. -/
def lastWord (arg0 : BitVec 32) : BitVec 1 :=
  let v0 : BitVec 1 := Scalar.cmpi .slt arg0 32#32
  let v1 : BitVec 32 := Scalar.select v0 1#32 16#32
  let v2 : BitVec 32 := Scalar.subi arg0 32#32
  let v3 : BitVec 32 := Scalar.select v0 arg0 v2
  let v4 : BitVec 1 := Scalar.cmpi .eq v1 0#32
  let v5 : BitVec 32 := Scalar.select v4 1#32 v1
  let v6 : BitVec 32 := Scalar.remsi v3 v5
  let v7 : BitVec 1 := Scalar.cmpi .ne v6 0#32
  let v8 : BitVec 1 := Scalar.cmpi .slt v6 0#32
  let v9 : BitVec 1 := Scalar.cmpi .slt v5 0#32
  let v10 : BitVec 1 := Scalar.xori v8 v9
  let v11 : BitVec 1 := Scalar.andi v10 v7
  let v12 : BitVec 32 := Scalar.addi v6 v5
  let v13 : BitVec 32 := Scalar.select v11 v12 v6
  Scalar.cmpi .eq v13 (Scalar.subi v1 1#32)

/-- The blocks that start a sequence: every context block, every sixteenth latent one. -/
theorem firstWord_eq : ∀ t : Fin cfg0.N, firstWord (BitVec.ofNat 32 (grid0.coords t 0).val)
    = if t.val < 32 ∨ t.val % 16 = 0 then 1#1 else 0#1 :=
  (by decide +kernel : ∀ t : Fin grid0.N, _)

/-- The blocks that end a sequence. -/
theorem lastWord_eq : ∀ t : Fin cfg0.N, lastWord (BitVec.ofNat 32 (grid0.coords t 0).val)
    = if t.val < 32 ∨ t.val % 16 = 15 then 1#1 else 0#1 :=
  (by decide +kernel : ∀ t : Fin grid0.N, _)

/-- The halo before a block: zero where the block starts its sequence. -/
theorem head (t : Fin cfg0.N) (x : FVec Ideal S16x512 .f32) (r : Fin 16) (l : Fin 512) :
    k0_pay2 (grid0.coords t) x (ix2 r l) = if t.val < 32 ∨ t.val % 16 = 0 then 0 else x (ix2 r l) := by
  have h : k0_pay2 (grid0.coords t) x = shapeCast S16x512 (Scalar.select (firstWord (BitVec.ofNat 32 (grid0.coords t 0).val))
      (broadcast S16x512 (Scalar.ofBits (F := Ideal) .f32 0x00000000#32)) x) shapeCasts_S16x512_S16x512 := rfl
  rw [h, firstWord_eq t]
  by_cases p : t.val < 32 ∨ t.val % 16 = 0
  · rw [if_pos p, if_pos p]
    pointwise []
  · rw [if_neg p, if_neg p]
    pointwise []

/-- The halo after a block: zero where the block ends its sequence. -/
theorem tail (t : Fin cfg0.N) (x : FVec Ideal S16x512 .f32) (r : Fin 16) (l : Fin 512) :
    k0_pay5 (k0_pay4 (grid0.coords t) x) (ix2 r l) = if t.val < 32 ∨ t.val % 16 = 15 then 0 else x (ix2 r l) := by
  have h : k0_pay5 (k0_pay4 (grid0.coords t) x) = shapeCast S16x512 (Scalar.select (lastWord (BitVec.ofNat 32 (grid0.coords t 0).val))
      (broadcast S16x512 (Scalar.ofBits (F := Ideal) .f32 0x00000000#32)) x) shapeCasts_S16x512_S16x512 := rfl
  rw [h, lastWord_eq t]
  by_cases p : t.val < 32 ∨ t.val % 16 = 15
  · rw [if_pos p, if_pos p]
    pointwise []
  · rw [if_neg p, if_neg p]
    pointwise []

/-- The padded block as the body stores it, last piece first. -/
def pieces (p : Vec Ideal S16x512 .f32) (x : Vec Ideal S256x512 .f32) (n : Vec Ideal S16x512 .f32) :
    List (View.Piece (Elt Ideal) S288x512 .f32) :=
  [⟨Rect.unit ![272, 0] ![16, 512] inb_S288x512_S16x512_272_0, n⟩,
    ⟨Rect.unit ![16, 0] ![256, 512] inb_S288x512_S256x512_16_0, x⟩,
    ⟨Rect.unit ![0, 0] ![16, 512] inb_S288x512_S16x512_0_0, p⟩]

/-- The padded block at an index. -/
theorem pieces_apply (p : Vec Ideal S16x512 .f32) (x : Vec Ideal S256x512 .f32) (n : Vec Ideal S16x512 .f32) (Q : Fin 288)
    (l : Fin 512) :
    View.canon (pieces p x n) (ix2 Q l)
      = Taps.padded (fun a => p (ix2 a l)) (fun a => x (ix2 a l)) (fun a => n (ix2 a l)) Q := by
  unfold pieces Taps.padded
  by_cases a : Q.val < 16
  · rw [dif_pos a, View.canon_cons_of_not_mem _ _ (by
        show ix2 Q l ∉ (Rect.unit (s := S288x512) ![272, 0] ![16, 512] inb_S288x512_S16x512_272_0).set
        rw [Rect.mem_set_unit]; intro h; have := (h 0).1; change 272 ≤ Q.val at this; omega),
      View.canon_cons_of_not_mem _ _ (by
        show ix2 Q l ∉ (Rect.unit (s := S288x512) ![16, 0] ![256, 512] inb_S288x512_S256x512_16_0).set
        rw [Rect.mem_set_unit]; intro h; have := (h 0).1; change 16 ≤ Q.val at this; omega)]
    have e : (Rect.unit ![0, 0] ![16, 512] inb_S288x512_S16x512_0_0).emb (ix2 ⟨Q.val, by omega⟩ l : S16x512.Idx)
        = (ix2 Q l : S288x512.Idx) := by
      funext d; fin_cases d
      · exact Fin.ext ((Rect.idx_unit_val _ _ _ _ _).trans (by show 0 + (Q.val) = Q.val; omega))
      · exact Fin.ext ((Rect.idx_unit_val _ _ _ _ _).trans (by show 0 + l.val = l.val; omega))
    rw [← e]
    exact View.canon_cons_emb _ _ _ _
  · rw [dif_neg a]
    by_cases b : Q.val < 272
    · rw [dif_pos b, View.canon_cons_of_not_mem _ _ (by
        show ix2 Q l ∉ (Rect.unit (s := S288x512) ![272, 0] ![16, 512] inb_S288x512_S16x512_272_0).set
        rw [Rect.mem_set_unit]; intro h; have := (h 0).1; change 272 ≤ Q.val at this; omega)]
      have e : (Rect.unit ![16, 0] ![256, 512] inb_S288x512_S256x512_16_0).emb (ix2 ⟨Q.val - 16, by omega⟩ l : S256x512.Idx)
          = (ix2 Q l : S288x512.Idx) := by
        funext d; fin_cases d
        · exact Fin.ext ((Rect.idx_unit_val _ _ _ _ _).trans (by show 16 + (Q.val - 16) = Q.val; omega))
        · exact Fin.ext ((Rect.idx_unit_val _ _ _ _ _).trans (by show 0 + l.val = l.val; omega))
      rw [← e]
      exact View.canon_cons_emb _ _ _ _
    · rw [dif_neg b]
      have e : (Rect.unit ![272, 0] ![16, 512] inb_S288x512_S16x512_272_0).emb (ix2 ⟨Q.val - 272, by omega⟩ l : S16x512.Idx)
          = (ix2 Q l : S288x512.Idx) := by
        funext d; fin_cases d
        · exact Fin.ext ((Rect.idx_unit_val _ _ _ _ _).trans (by show 272 + (Q.val - 272) = Q.val; omega))
        · exact Fin.ext ((Rect.idx_unit_val _ _ _ _ _).trans (by show 0 + l.val = l.val; omega))
      rw [← e]
      exact View.canon_cons_emb _ _ _ _

/-- A block loads as itself. -/
theorem whole0 (x : Vec Ideal S16x512 .f32) : View.ld x (Rect.unit ![0, 0] ![16, 512] inb_S16x512_S16x512_0_0) = x := by
  rw [View.ld_unit_zero (by decide)]

/-- A block loads as itself. -/
theorem whole1 (x : Vec Ideal S256x512 .f32) : View.ld x (Rect.unit ![0, 0] ![256, 512] inb_S256x512_S256x512_0_0) = x := by
  rw [View.ld_unit_zero (by decide)]

/-- A block loads as itself. -/
theorem whole2 (x : Vec Ideal S1x512 .f32) : View.ld x (Rect.unit ![0, 0] ![1, 512] inb_S1x512_S1x512_0_0) = x := by
  rw [View.ld_unit_zero (by decide)]

/-- The shift array as the body stores it, last piece first: the padded block from row `ρ` on, eight times. -/
def shifts (P : Vec Ideal S288x512 .f32) : List (View.Piece (Elt Ideal) S8x280x512 .f32) :=
  [⟨Rect.unit ![7, 0, 0] ![1, 280, 512] inb_S8x280x512_S1x280x512_7_0_0,
      k0_pay13 (View.ld P (Rect.unit ![7, 0] ![280, 512] inb_S288x512_S280x512_7_0))⟩,
    ⟨Rect.unit ![6, 0, 0] ![1, 280, 512] inb_S8x280x512_S1x280x512_6_0_0,
      k0_pay12 (View.ld P (Rect.unit ![6, 0] ![280, 512] inb_S288x512_S280x512_6_0))⟩,
    ⟨Rect.unit ![5, 0, 0] ![1, 280, 512] inb_S8x280x512_S1x280x512_5_0_0,
      k0_pay11 (View.ld P (Rect.unit ![5, 0] ![280, 512] inb_S288x512_S280x512_5_0))⟩,
    ⟨Rect.unit ![4, 0, 0] ![1, 280, 512] inb_S8x280x512_S1x280x512_4_0_0,
      k0_pay10 (View.ld P (Rect.unit ![4, 0] ![280, 512] inb_S288x512_S280x512_4_0))⟩,
    ⟨Rect.unit ![3, 0, 0] ![1, 280, 512] inb_S8x280x512_S1x280x512_3_0_0,
      k0_pay9 (View.ld P (Rect.unit ![3, 0] ![280, 512] inb_S288x512_S280x512_3_0))⟩,
    ⟨Rect.unit ![2, 0, 0] ![1, 280, 512] inb_S8x280x512_S1x280x512_2_0_0,
      k0_pay8 (View.ld P (Rect.unit ![2, 0] ![280, 512] inb_S288x512_S280x512_2_0))⟩,
    ⟨Rect.unit ![1, 0, 0] ![1, 280, 512] inb_S8x280x512_S1x280x512_1_0_0,
      k0_pay7 (View.ld P (Rect.unit ![1, 0] ![280, 512] inb_S288x512_S280x512_1_0))⟩,
    ⟨Rect.unit ![0, 0, 0] ![1, 280, 512] inb_S8x280x512_S1x280x512_0_0_0,
      k0_pay6 (View.ld P (Rect.unit ![0, 0] ![280, 512] inb_S288x512_S280x512_0_0))⟩]

/-- The shift array as the body's loads find it. -/
theorem shifts_form (P : Vec Ideal S288x512 .f32) :
    View.canon (Val := Elt Ideal) (s := S8x280x512) (e := .f32)
      [⟨Rect.unit ![7, 0, 0] ![1, 280, 512] inb_S8x280x512_S1x280x512_7_0_0,
        k0_pay13 (fun j => P ((Rect.unit (s := S288x512) ![7, 0] ![280, 512] inb_S288x512_S280x512_7_0).idx j))⟩,
      ⟨Rect.unit ![6, 0, 0] ![1, 280, 512] inb_S8x280x512_S1x280x512_6_0_0,
        k0_pay12 (fun j => P ((Rect.unit (s := S288x512) ![6, 0] ![280, 512] inb_S288x512_S280x512_6_0).idx j))⟩,
      ⟨Rect.unit ![5, 0, 0] ![1, 280, 512] inb_S8x280x512_S1x280x512_5_0_0,
        k0_pay11 (fun j => P ((Rect.unit (s := S288x512) ![5, 0] ![280, 512] inb_S288x512_S280x512_5_0).idx j))⟩,
      ⟨Rect.unit ![4, 0, 0] ![1, 280, 512] inb_S8x280x512_S1x280x512_4_0_0,
        shapeCast S1x280x512 (fun j => P ((Rect.unit (s := S288x512) ![4, 0] ![280, 512] inb_S288x512_S280x512_4_0).idx j)) shapeCasts_S280x512_S1x280x512⟩,
      ⟨Rect.unit ![3, 0, 0] ![1, 280, 512] inb_S8x280x512_S1x280x512_3_0_0,
        shapeCast S1x280x512 (fun j => P ((Rect.unit (s := S288x512) ![3, 0] ![280, 512] inb_S288x512_S280x512_3_0).idx j)) shapeCasts_S280x512_S1x280x512⟩,
      ⟨Rect.unit ![2, 0, 0] ![1, 280, 512] inb_S8x280x512_S1x280x512_2_0_0,
        shapeCast S1x280x512 (fun j => P ((Rect.unit (s := S288x512) ![2, 0] ![280, 512] inb_S288x512_S280x512_2_0).idx j)) shapeCasts_S280x512_S1x280x512⟩,
      ⟨Rect.unit ![1, 0, 0] ![1, 280, 512] inb_S8x280x512_S1x280x512_1_0_0,
        shapeCast S1x280x512 (fun j => P ((Rect.unit (s := S288x512) ![1, 0] ![280, 512] inb_S288x512_S280x512_1_0).idx j)) shapeCasts_S280x512_S1x280x512⟩,
      ⟨Rect.unit ![0, 0, 0] ![1, 280, 512] inb_S8x280x512_S1x280x512_0_0_0,
        shapeCast S1x280x512 (fun j => P ((Rect.unit (s := S288x512) ![0, 0] ![280, 512] inb_S288x512_S280x512_0_0).idx j)) shapeCasts_S280x512_S1x280x512⟩] = View.canon (shifts P) := rfl

/-- The shift array at shift 0. -/
theorem shift0 (P : Vec Ideal S288x512 .f32) (a : Fin 280) (l : Fin 512) :
    View.canon (shifts P) (ix3 0 a l) = P (ix2 ⟨0 + a.val, by omega⟩ l) := by
  unfold shifts
  rw [View.canon_cons_of_not_mem _ _ (by
      show ix3 0 a l ∉ (Rect.unit (s := S8x280x512) ![7, 0, 0] ![1, 280, 512] inb_S8x280x512_S1x280x512_7_0_0).set
      rw [Rect.mem_set_unit]; intro h; have := (h 0).1; change 7 ≤ 0 at this; omega),
    View.canon_cons_of_not_mem _ _ (by
      show ix3 0 a l ∉ (Rect.unit (s := S8x280x512) ![6, 0, 0] ![1, 280, 512] inb_S8x280x512_S1x280x512_6_0_0).set
      rw [Rect.mem_set_unit]; intro h; have := (h 0).1; change 6 ≤ 0 at this; omega),
    View.canon_cons_of_not_mem _ _ (by
      show ix3 0 a l ∉ (Rect.unit (s := S8x280x512) ![5, 0, 0] ![1, 280, 512] inb_S8x280x512_S1x280x512_5_0_0).set
      rw [Rect.mem_set_unit]; intro h; have := (h 0).1; change 5 ≤ 0 at this; omega),
    View.canon_cons_of_not_mem _ _ (by
      show ix3 0 a l ∉ (Rect.unit (s := S8x280x512) ![4, 0, 0] ![1, 280, 512] inb_S8x280x512_S1x280x512_4_0_0).set
      rw [Rect.mem_set_unit]; intro h; have := (h 0).1; change 4 ≤ 0 at this; omega),
    View.canon_cons_of_not_mem _ _ (by
      show ix3 0 a l ∉ (Rect.unit (s := S8x280x512) ![3, 0, 0] ![1, 280, 512] inb_S8x280x512_S1x280x512_3_0_0).set
      rw [Rect.mem_set_unit]; intro h; have := (h 0).1; change 3 ≤ 0 at this; omega),
    View.canon_cons_of_not_mem _ _ (by
      show ix3 0 a l ∉ (Rect.unit (s := S8x280x512) ![2, 0, 0] ![1, 280, 512] inb_S8x280x512_S1x280x512_2_0_0).set
      rw [Rect.mem_set_unit]; intro h; have := (h 0).1; change 2 ≤ 0 at this; omega),
    View.canon_cons_of_not_mem _ _ (by
      show ix3 0 a l ∉ (Rect.unit (s := S8x280x512) ![1, 0, 0] ![1, 280, 512] inb_S8x280x512_S1x280x512_1_0_0).set
      rw [Rect.mem_set_unit]; intro h; have := (h 0).1; change 1 ≤ 0 at this; omega)]
  have e : (Rect.unit ![0, 0, 0] ![1, 280, 512] inb_S8x280x512_S1x280x512_0_0_0).emb (ix3 0 a l : S1x280x512.Idx)
      = (ix3 0 a l : S8x280x512.Idx) := by
    funext d; fin_cases d
    · exact Fin.ext ((Rect.idx_unit_val _ _ _ _ _).trans (by show 0 + 0 = 0; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay6]

/-- The shift array at shift 1. -/
theorem shift1 (P : Vec Ideal S288x512 .f32) (a : Fin 280) (l : Fin 512) :
    View.canon (shifts P) (ix3 1 a l) = P (ix2 ⟨1 + a.val, by omega⟩ l) := by
  unfold shifts
  rw [View.canon_cons_of_not_mem _ _ (by
      show ix3 1 a l ∉ (Rect.unit (s := S8x280x512) ![7, 0, 0] ![1, 280, 512] inb_S8x280x512_S1x280x512_7_0_0).set
      rw [Rect.mem_set_unit]; intro h; have := (h 0).1; change 7 ≤ 1 at this; omega),
    View.canon_cons_of_not_mem _ _ (by
      show ix3 1 a l ∉ (Rect.unit (s := S8x280x512) ![6, 0, 0] ![1, 280, 512] inb_S8x280x512_S1x280x512_6_0_0).set
      rw [Rect.mem_set_unit]; intro h; have := (h 0).1; change 6 ≤ 1 at this; omega),
    View.canon_cons_of_not_mem _ _ (by
      show ix3 1 a l ∉ (Rect.unit (s := S8x280x512) ![5, 0, 0] ![1, 280, 512] inb_S8x280x512_S1x280x512_5_0_0).set
      rw [Rect.mem_set_unit]; intro h; have := (h 0).1; change 5 ≤ 1 at this; omega),
    View.canon_cons_of_not_mem _ _ (by
      show ix3 1 a l ∉ (Rect.unit (s := S8x280x512) ![4, 0, 0] ![1, 280, 512] inb_S8x280x512_S1x280x512_4_0_0).set
      rw [Rect.mem_set_unit]; intro h; have := (h 0).1; change 4 ≤ 1 at this; omega),
    View.canon_cons_of_not_mem _ _ (by
      show ix3 1 a l ∉ (Rect.unit (s := S8x280x512) ![3, 0, 0] ![1, 280, 512] inb_S8x280x512_S1x280x512_3_0_0).set
      rw [Rect.mem_set_unit]; intro h; have := (h 0).1; change 3 ≤ 1 at this; omega),
    View.canon_cons_of_not_mem _ _ (by
      show ix3 1 a l ∉ (Rect.unit (s := S8x280x512) ![2, 0, 0] ![1, 280, 512] inb_S8x280x512_S1x280x512_2_0_0).set
      rw [Rect.mem_set_unit]; intro h; have := (h 0).1; change 2 ≤ 1 at this; omega)]
  have e : (Rect.unit ![1, 0, 0] ![1, 280, 512] inb_S8x280x512_S1x280x512_1_0_0).emb (ix3 0 a l : S1x280x512.Idx)
      = (ix3 1 a l : S8x280x512.Idx) := by
    funext d; fin_cases d
    · exact Fin.ext ((Rect.idx_unit_val _ _ _ _ _).trans (by show 1 + 0 = 1; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay7]

/-- The shift array at shift 2. -/
theorem shift2 (P : Vec Ideal S288x512 .f32) (a : Fin 280) (l : Fin 512) :
    View.canon (shifts P) (ix3 2 a l) = P (ix2 ⟨2 + a.val, by omega⟩ l) := by
  unfold shifts
  rw [View.canon_cons_of_not_mem _ _ (by
      show ix3 2 a l ∉ (Rect.unit (s := S8x280x512) ![7, 0, 0] ![1, 280, 512] inb_S8x280x512_S1x280x512_7_0_0).set
      rw [Rect.mem_set_unit]; intro h; have := (h 0).1; change 7 ≤ 2 at this; omega),
    View.canon_cons_of_not_mem _ _ (by
      show ix3 2 a l ∉ (Rect.unit (s := S8x280x512) ![6, 0, 0] ![1, 280, 512] inb_S8x280x512_S1x280x512_6_0_0).set
      rw [Rect.mem_set_unit]; intro h; have := (h 0).1; change 6 ≤ 2 at this; omega),
    View.canon_cons_of_not_mem _ _ (by
      show ix3 2 a l ∉ (Rect.unit (s := S8x280x512) ![5, 0, 0] ![1, 280, 512] inb_S8x280x512_S1x280x512_5_0_0).set
      rw [Rect.mem_set_unit]; intro h; have := (h 0).1; change 5 ≤ 2 at this; omega),
    View.canon_cons_of_not_mem _ _ (by
      show ix3 2 a l ∉ (Rect.unit (s := S8x280x512) ![4, 0, 0] ![1, 280, 512] inb_S8x280x512_S1x280x512_4_0_0).set
      rw [Rect.mem_set_unit]; intro h; have := (h 0).1; change 4 ≤ 2 at this; omega),
    View.canon_cons_of_not_mem _ _ (by
      show ix3 2 a l ∉ (Rect.unit (s := S8x280x512) ![3, 0, 0] ![1, 280, 512] inb_S8x280x512_S1x280x512_3_0_0).set
      rw [Rect.mem_set_unit]; intro h; have := (h 0).1; change 3 ≤ 2 at this; omega)]
  have e : (Rect.unit ![2, 0, 0] ![1, 280, 512] inb_S8x280x512_S1x280x512_2_0_0).emb (ix3 0 a l : S1x280x512.Idx)
      = (ix3 2 a l : S8x280x512.Idx) := by
    funext d; fin_cases d
    · exact Fin.ext ((Rect.idx_unit_val _ _ _ _ _).trans (by show 2 + 0 = 2; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay8]

/-- The shift array at shift 3. -/
theorem shift3 (P : Vec Ideal S288x512 .f32) (a : Fin 280) (l : Fin 512) :
    View.canon (shifts P) (ix3 3 a l) = P (ix2 ⟨3 + a.val, by omega⟩ l) := by
  unfold shifts
  rw [View.canon_cons_of_not_mem _ _ (by
      show ix3 3 a l ∉ (Rect.unit (s := S8x280x512) ![7, 0, 0] ![1, 280, 512] inb_S8x280x512_S1x280x512_7_0_0).set
      rw [Rect.mem_set_unit]; intro h; have := (h 0).1; change 7 ≤ 3 at this; omega),
    View.canon_cons_of_not_mem _ _ (by
      show ix3 3 a l ∉ (Rect.unit (s := S8x280x512) ![6, 0, 0] ![1, 280, 512] inb_S8x280x512_S1x280x512_6_0_0).set
      rw [Rect.mem_set_unit]; intro h; have := (h 0).1; change 6 ≤ 3 at this; omega),
    View.canon_cons_of_not_mem _ _ (by
      show ix3 3 a l ∉ (Rect.unit (s := S8x280x512) ![5, 0, 0] ![1, 280, 512] inb_S8x280x512_S1x280x512_5_0_0).set
      rw [Rect.mem_set_unit]; intro h; have := (h 0).1; change 5 ≤ 3 at this; omega),
    View.canon_cons_of_not_mem _ _ (by
      show ix3 3 a l ∉ (Rect.unit (s := S8x280x512) ![4, 0, 0] ![1, 280, 512] inb_S8x280x512_S1x280x512_4_0_0).set
      rw [Rect.mem_set_unit]; intro h; have := (h 0).1; change 4 ≤ 3 at this; omega)]
  have e : (Rect.unit ![3, 0, 0] ![1, 280, 512] inb_S8x280x512_S1x280x512_3_0_0).emb (ix3 0 a l : S1x280x512.Idx)
      = (ix3 3 a l : S8x280x512.Idx) := by
    funext d; fin_cases d
    · exact Fin.ext ((Rect.idx_unit_val _ _ _ _ _).trans (by show 3 + 0 = 3; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay9]

/-- The shift array at shift 4. -/
theorem shift4 (P : Vec Ideal S288x512 .f32) (a : Fin 280) (l : Fin 512) :
    View.canon (shifts P) (ix3 4 a l) = P (ix2 ⟨4 + a.val, by omega⟩ l) := by
  unfold shifts
  rw [View.canon_cons_of_not_mem _ _ (by
      show ix3 4 a l ∉ (Rect.unit (s := S8x280x512) ![7, 0, 0] ![1, 280, 512] inb_S8x280x512_S1x280x512_7_0_0).set
      rw [Rect.mem_set_unit]; intro h; have := (h 0).1; change 7 ≤ 4 at this; omega),
    View.canon_cons_of_not_mem _ _ (by
      show ix3 4 a l ∉ (Rect.unit (s := S8x280x512) ![6, 0, 0] ![1, 280, 512] inb_S8x280x512_S1x280x512_6_0_0).set
      rw [Rect.mem_set_unit]; intro h; have := (h 0).1; change 6 ≤ 4 at this; omega),
    View.canon_cons_of_not_mem _ _ (by
      show ix3 4 a l ∉ (Rect.unit (s := S8x280x512) ![5, 0, 0] ![1, 280, 512] inb_S8x280x512_S1x280x512_5_0_0).set
      rw [Rect.mem_set_unit]; intro h; have := (h 0).1; change 5 ≤ 4 at this; omega)]
  have e : (Rect.unit ![4, 0, 0] ![1, 280, 512] inb_S8x280x512_S1x280x512_4_0_0).emb (ix3 0 a l : S1x280x512.Idx)
      = (ix3 4 a l : S8x280x512.Idx) := by
    funext d; fin_cases d
    · exact Fin.ext ((Rect.idx_unit_val _ _ _ _ _).trans (by show 4 + 0 = 4; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay10]

/-- The shift array at shift 5. -/
theorem shift5 (P : Vec Ideal S288x512 .f32) (a : Fin 280) (l : Fin 512) :
    View.canon (shifts P) (ix3 5 a l) = P (ix2 ⟨5 + a.val, by omega⟩ l) := by
  unfold shifts
  rw [View.canon_cons_of_not_mem _ _ (by
      show ix3 5 a l ∉ (Rect.unit (s := S8x280x512) ![7, 0, 0] ![1, 280, 512] inb_S8x280x512_S1x280x512_7_0_0).set
      rw [Rect.mem_set_unit]; intro h; have := (h 0).1; change 7 ≤ 5 at this; omega),
    View.canon_cons_of_not_mem _ _ (by
      show ix3 5 a l ∉ (Rect.unit (s := S8x280x512) ![6, 0, 0] ![1, 280, 512] inb_S8x280x512_S1x280x512_6_0_0).set
      rw [Rect.mem_set_unit]; intro h; have := (h 0).1; change 6 ≤ 5 at this; omega)]
  have e : (Rect.unit ![5, 0, 0] ![1, 280, 512] inb_S8x280x512_S1x280x512_5_0_0).emb (ix3 0 a l : S1x280x512.Idx)
      = (ix3 5 a l : S8x280x512.Idx) := by
    funext d; fin_cases d
    · exact Fin.ext ((Rect.idx_unit_val _ _ _ _ _).trans (by show 5 + 0 = 5; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay11]

/-- The shift array at shift 6. -/
theorem shift6 (P : Vec Ideal S288x512 .f32) (a : Fin 280) (l : Fin 512) :
    View.canon (shifts P) (ix3 6 a l) = P (ix2 ⟨6 + a.val, by omega⟩ l) := by
  unfold shifts
  rw [View.canon_cons_of_not_mem _ _ (by
      show ix3 6 a l ∉ (Rect.unit (s := S8x280x512) ![7, 0, 0] ![1, 280, 512] inb_S8x280x512_S1x280x512_7_0_0).set
      rw [Rect.mem_set_unit]; intro h; have := (h 0).1; change 7 ≤ 6 at this; omega)]
  have e : (Rect.unit ![6, 0, 0] ![1, 280, 512] inb_S8x280x512_S1x280x512_6_0_0).emb (ix3 0 a l : S1x280x512.Idx)
      = (ix3 6 a l : S8x280x512.Idx) := by
    funext d; fin_cases d
    · exact Fin.ext ((Rect.idx_unit_val _ _ _ _ _).trans (by show 6 + 0 = 6; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay12]

/-- The shift array at shift 7. -/
theorem shift7 (P : Vec Ideal S288x512 .f32) (a : Fin 280) (l : Fin 512) :
    View.canon (shifts P) (ix3 7 a l) = P (ix2 ⟨7 + a.val, by omega⟩ l) := by
  unfold shifts
  have e : (Rect.unit ![7, 0, 0] ![1, 280, 512] inb_S8x280x512_S1x280x512_7_0_0).emb (ix3 0 a l : S1x280x512.Idx)
      = (ix3 7 a l : S8x280x512.Idx) := by
    funext d; fin_cases d
    · exact Fin.ext ((Rect.idx_unit_val _ _ _ _ _).trans (by show 7 + 0 = 7; omega))
    · exact Fin.ext ((Rect.idx_unit_val _ _ _ _ _).trans (by show 0 + a.val = a.val; omega))
    · exact Fin.ext ((Rect.idx_unit_val _ _ _ _ _).trans (by show 0 + l.val = l.val; omega))
  rw [← e]
  refine (View.canon_cons_emb _ _ _ _).trans ?_
  pointwise [k0_pay13]

/-- The norm and the logistic unit of 64 rows, as the body computes them. -/
def chain (a : FVec Ideal S64x512 .f32) (g b : FVec Ideal S1x512 .f32) : FVec Ideal S64x512 .bf16 :=
  have v1605 : FVec Ideal S64 .f32 := multiReduction .add [1] S64 a 0x00000000#32 reduces_S64x512_S64 (.inl rfl) rfl
  have v1606 : FVec Ideal S64x1 .f32 := shapeCast S64x1 v1605 shapeCasts_S64_S64x1
  have cst_1288  := Scalar.ofBits (F := Ideal) .f32 0x44000000#32
  have v1607 : FVec Ideal S64x1 .f32 := broadcast S64x1 cst_1288
  have v1608 : FVec Ideal S64x1 .f32 := divf v1606 v1607
  have v1609 : FVec Ideal S64x512 .f32 := broadcastTo S64x512 v1608 broadcasts_S64x1_S64x512
  have v1610 : FVec Ideal S64x512 .f32 := subf a v1609
  have v1611 : FVec Ideal S64x512 .f32 := mulf v1610 v1610
  have v1612 : FVec Ideal S64 .f32 := multiReduction .add [1] S64 v1611 0x00000000#32 reduces_S64x512_S64 (.inl rfl) rfl
  have v1613 : FVec Ideal S64x1 .f32 := shapeCast S64x1 v1612 shapeCasts_S64_S64x1
  have cst_1290  := Scalar.ofBits (F := Ideal) .f32 0x44000000#32
  have v1614 : FVec Ideal S64x1 .f32 := broadcast S64x1 cst_1290
  have v1615 : FVec Ideal S64x1 .f32 := divf v1613 v1614
  have cst_1291  := Scalar.ofBits (F := Ideal) .f32 0x358637BD#32
  have v1616 : FVec Ideal S64x1 .f32 := broadcast S64x1 cst_1291
  have v1617 : FVec Ideal S64x1 .f32 := addf v1615 v1616
  have v1618 : FVec Ideal S64x1 .f32 := rsqrt v1617
  have v1619 : FVec Ideal S64x512 .f32 := broadcastTo S64x512 v1618 broadcasts_S64x1_S64x512
  have v1620 : FVec Ideal S64x512 .f32 := mulf v1610 v1619
  have v1622 : FVec Ideal S1x512 .f32 := shapeCast S1x512 g shapeCasts_S1x512_S1x512
  have v1623 : FVec Ideal S64x512 .f32 := broadcastTo S64x512 v1622 broadcasts_S1x512_S64x512
  have v1624 : FVec Ideal S64x512 .f32 := mulf v1620 v1623
  have v1626 : FVec Ideal S1x512 .f32 := shapeCast S1x512 b shapeCasts_S1x512_S1x512
  have v1627 : FVec Ideal S64x512 .f32 := broadcastTo S64x512 v1626 broadcasts_S1x512_S64x512
  have v1628 : FVec Ideal S64x512 .f32 := addf v1624 v1627
  have cst_1296  := Scalar.ofBits (F := Ideal) .f32 0x00000000#32
  have v1629 : FVec Ideal S64x512 .f32 := broadcast S64x512 cst_1296
  have v1630 : FVec Ideal S64x512 .f32 := subf v1629 v1628
  have v1631 : FVec Ideal S64x512 .f32 := exp v1630
  have cst_1297  := Scalar.ofBits (F := Ideal) .f32 0x3F800000#32
  have v1632 : FVec Ideal S64x512 .f32 := broadcast S64x512 cst_1297
  have v1633 : FVec Ideal S64x512 .f32 := addf v1632 v1631
  have cst_1298  := Scalar.ofBits (F := Ideal) .f32 0x3F800000#32
  have v1634 : FVec Ideal S64x512 .f32 := broadcast S64x512 cst_1298
  have v1635 : FVec Ideal S64x512 .f32 := divf v1634 v1633
  have v1636 : FVec Ideal S64x512 .f32 := mulf v1628 v1635
  have v1637 : FVec Ideal S64x512 .bf16 := truncf .bf16 v1636 bitsLt_bf16_f32
  v1637

/-- Four tiles of 128 lanes side by side and the bias, as the body adds them. -/
def tiles (a b c d : FVec Ideal S64x128 .f32) (z : FVec Ideal S1x512 .f32) : FVec Ideal S64x512 .f32 :=
  addf (concatenate S64x512 1 [⟨S64x128, a⟩, ⟨S64x128, b⟩, ⟨S64x128, c⟩, ⟨S64x128, d⟩]
      concatenates_S64x128_S64x128_S64x128_S64x128_S64x512_d1)
    (broadcastTo S64x512 (shapeCast S1x512 z shapeCasts_S1x512_S1x512) broadcasts_S1x512_S64x512)

/-- The norm and the logistic unit at an index. -/
theorem chain_apply (a : FVec Ideal S64x512 .f32) (g b : FVec Ideal S1x512 .f32) (r : Fin 64) (l : Fin 512) :
    chain a g b (ix2 r l)
      = Cert.ConvModule.row (fun k => a (ix2 r k)) (fun k => g (ix2 0 k)) (fun k => b (ix2 0 k)) l := by
  unfold Cert.ConvModule.row Cert.ConvModule.layerNorm Cert.ConvModule.dev
  pointwise [chain]
  simp only [zero_sub]

/-- The tiles at an index. -/
theorem tiles_apply (a b c d : FVec Ideal S64x128 .f32) (z : FVec Ideal S1x512 .f32) (r : Fin 64) (k : Fin 512) :
    tiles a b c d z (ix2 r k) = Cert.ConvModule.lanes (fun x => a (ix2 r x)) (fun x => b (ix2 r x))
      (fun x => c (ix2 r x)) (fun x => d (ix2 r x)) k + z (ix2 0 k) := by
  unfold Cert.ConvModule.lanes
  pointwise [tiles]

end Cert.Kernel13Ideal.ConvModule

end
-- ==== Proof.ConvRows0.lean ====
/- The convolution module: rows 0 to 63 of the body's output block. -/
module

public import proofs.«01_k».proof.Proof.ConvModule

@[expose] public section

set_option maxRecDepth 65536

noncomputable section

open Idealize.ShloMosaic Idealize.ShloMosaic.TcCoe Idealize.SL.Sem Idealize.ShloMosaic.Tactic

namespace Cert.Kernel13Ideal.ConvModule.Rows0

open Cert.Kernel13Ideal Cert.Kernel13Ideal.Gen Cert.ConvModule Cert.Kernel13Ideal.ConvModule

/-- The norm of these rows, of four tiles of 128 lanes. -/
theorem normed (v251 : FVec Ideal S64x128 .f32) (v438 : FVec Ideal S64x128 .f32) (v625 : FVec Ideal S64x128 .f32)
    (v800 : FVec Ideal S64x128 .f32) (v801 : Vec Ideal S1x128 .f32) (v803 : FVec Ideal S64x128 .f32)
    (v807 : Vec Ideal S1x128 .f32) (v808 : Vec Ideal S1x64x128 .f32) (v814 : Vec Ideal S1x512 .f32)
    (v834 : Vec Ideal S1x512 .f32) (v838 : Vec Ideal S1x512 .f32)
    : k0_pay55 (k0_pay52 v251 v438 v625 v800 v801 v803 v807 v808 v814 v834 v838) (k0_pay53 v251 v438 v625 v800 v801 v803 v807 v808 v814 v834 v838) k0_pay54
      = chain (tiles v251 v438 v625
        (addf (addf (v800) (mulf (broadcastTo S64x128 v801 broadcasts_S1x128_S64x128) (v803))) (mulf (broadcastTo S64x128 v807 broadcasts_S1x128_S64x128) (shapeCast S64x128 v808 shapeCasts_S1x64x128_S64x128))) v814)
        v834 v838 := rfl

set_option maxHeartbeats 4000000 in
/-- Rows 0 to 63 of the output block: the taps of the padded block, the norm and the logistic unit. -/
theorem out (c : Dev nD) (i : grid0.Coords) (a1 : Memref sig .tc .vmem S16x512 .f32) (h1 : a1.IsWhole)
    (a2 : Memref sig .tc .vmem S256x512 .f32) (h2 : a2.IsWhole) (a3 : Memref sig .tc .vmem S16x512 .f32)
    (h3 : a3.IsWhole) (a4 : Memref sig .tc .vmem S31x512 .f32) (h4 : a4.IsWhole)
    (a5 : Memref sig .tc .vmem S1x512 .f32) (h5 : a5.IsWhole) (a6 : Memref sig .tc .vmem S1x512 .f32)
    (h6 : a6.IsWhole) (a7 : Memref sig .tc .vmem S1x512 .f32) (h7 : a7.IsWhole)
    (a8 : Memref sig .tc .vmem S256x512 .bf16) (h8 : a8.IsWhole) (a9 : Memref sig .tc .vmem S288x512 .f32)
    (h9 : a9.IsWhole) (a10 : Memref sig .tc .vmem S8x280x512 .f32) (h10 : a10.IsWhole) (x0 : Vec Ideal S16x512 .f32)
    (x1 : Vec Ideal S256x512 .f32) (x2 : Vec Ideal S16x512 .f32) (x3 : Vec Ideal S31x512 .f32)
    (x4 : Vec Ideal S1x512 .f32) (x5 : Vec Ideal S1x512 .f32) (x6 : Vec Ideal S1x512 .f32)
    (r : Fin 64) (l : Fin 512) :
    out0_A_7 c i a1 h1 a2 h2 a3 h3 a4 h4 a5 h5 a6 h6 a7 h7 a8 h8 a9 h9 a10 h10 x0 x1 x2 x3 x4 x5 x6
      (ix2 ⟨0 + r.val, by omega⟩ l)
      = row (fun k => acc (fun s => x3 (ix2 s k) * View.canon (pieces (k0_pay2 i x0) (k0_pay3 x1) (k0_pay5 (k0_pay4 i x2)))
          (ix2 ⟨(1 + s.val) + r.val, by omega⟩ k)) + x4 (ix2 0 k)) (fun k => x5 (ix2 0 k)) (fun k => x6 (ix2 0 k)) l := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_cons_of_not_mem _ _ (by
      show ix2 ⟨0 + r.val, _⟩ l ∉ (Rect.unit (s := S256x512) ![192, 0] ![64, 512] inb_S256x512_S64x512_192_0).set
      rw [Rect.mem_set_unit]; intro h; have := (h 0).1; change 192 ≤ 0 + r.val at this; omega),
    View.canon_cons_of_not_mem _ _ (by
      show ix2 ⟨0 + r.val, _⟩ l ∉ (Rect.unit (s := S256x512) ![128, 0] ![64, 512] inb_S256x512_S64x512_128_0).set
      rw [Rect.mem_set_unit]; intro h; have := (h 0).1; change 128 ≤ 0 + r.val at this; omega),
    View.canon_cons_of_not_mem _ _ (by
      show ix2 ⟨0 + r.val, _⟩ l ∉ (Rect.unit (s := S256x512) ![64, 0] ![64, 512] inb_S256x512_S64x512_64_0).set
      rw [Rect.mem_set_unit]; intro h; have := (h 0).1; change 64 ≤ 0 + r.val at this; omega)]
  have e : (Rect.unit ![0, 0] ![64, 512] inb_S256x512_S64x512_0_0).emb (ix2 r l : S64x512.Idx)
      = (ix2 ⟨0 + r.val, by omega⟩ l : S256x512.Idx) := by
    funext d; fin_cases d
    · exact Fin.ext ((Rect.idx_unit_val _ _ _ _ _).trans (by show 0 + r.val = 0 + r.val; omega))
    · exact Fin.ext ((Rect.idx_unit_val _ _ _ _ _).trans (by show 0 + l.val = l.val; omega))
  rw [← e]
  refine (View.canon_cons_emb _ _ _ _).trans ?_
  simp only [View.readAt_eq_ld, h1.read_unread, h2.read_unread, h3.read_unread, h4.read_unread, h5.read_unread,
    h6.read_unread, h7.read_unread, whole0, whole1, whole2, View.readCov_eq_canon']
  erw [shifts_form (View.canon (pieces (k0_pay2 i x0) (k0_pay3 x1) (k0_pay5 (k0_pay4 i x2))))]
  rw [normed, chain_apply]
  refine congrArg (fun X => row X _ _ l) (funext fun k => ?_)
  rw [tiles_apply, lanes_eq _ _ _ _ (fun k => acc (fun s => x3 (ix2 s k)
    * View.canon (pieces (k0_pay2 i x0) (k0_pay3 x1) (k0_pay5 (k0_pay4 i x2))) (ix2 ⟨(1 + s.val) + r.val, by omega⟩ k)))
    ?_ ?_ ?_ ?_]
  · intro x
    pointwise [k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51]
    simp only [shift0, shift1, shift2, shift3, shift4, shift5, shift6, shift7, ← Nat.add_assoc, Nat.reduceAdd]
    rfl
  · intro x
    pointwise [k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51]
    simp only [shift0, shift1, shift2, shift3, shift4, shift5, shift6, shift7, ← Nat.add_assoc, Nat.reduceAdd]
    rfl
  · intro x
    pointwise [k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51]
    simp only [shift0, shift1, shift2, shift3, shift4, shift5, shift6, shift7, ← Nat.add_assoc, Nat.reduceAdd]
    rfl
  · intro x
    pointwise [k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51]
    simp only [shift0, shift1, shift2, shift3, shift4, shift5, shift6, shift7, ← Nat.add_assoc, Nat.reduceAdd]
    rfl

end Cert.Kernel13Ideal.ConvModule.Rows0

end
-- ==== Proof.ConvRows64.lean ====
/- The convolution module: rows 64 to 127 of the body's output block. -/
module

public import proofs.«01_k».proof.Proof.ConvModule

@[expose] public section

set_option maxRecDepth 65536

noncomputable section

open Idealize.ShloMosaic Idealize.ShloMosaic.TcCoe Idealize.SL.Sem Idealize.ShloMosaic.Tactic

namespace Cert.Kernel13Ideal.ConvModule.Rows64

open Cert.Kernel13Ideal Cert.Kernel13Ideal.Gen Cert.ConvModule Cert.Kernel13Ideal.ConvModule

/-- The norm of these rows, of four tiles of 128 lanes. -/
theorem normed (v1038 : FVec Ideal S64x128 .f32) (v1225 : FVec Ideal S64x128 .f32) (v1412 : FVec Ideal S64x128 .f32)
    (v1593 : FVec Ideal S64x128 .f32) (v1596 : FVec Ideal S64x128 .f32) (v1597 : FVec Ideal S64x128 .f32)
    (v1601 : Vec Ideal S1x512 .f32) (v1621 : Vec Ideal S1x512 .f32) (v1625 : Vec Ideal S1x512 .f32)
    : k0_pay95 v1038 v1225 v1412 v1593 v1596 v1597 v1601 v1621 v1625
      = chain (tiles v1038 v1225 v1412
        (addf (v1593) (mulf (v1597) (v1596))) v1601)
        v1621 v1625 := rfl

set_option maxHeartbeats 4000000 in
/-- Rows 64 to 127 of the output block: the taps of the padded block, the norm and the logistic unit. -/
theorem out (c : Dev nD) (i : grid0.Coords) (a1 : Memref sig .tc .vmem S16x512 .f32) (h1 : a1.IsWhole)
    (a2 : Memref sig .tc .vmem S256x512 .f32) (h2 : a2.IsWhole) (a3 : Memref sig .tc .vmem S16x512 .f32)
    (h3 : a3.IsWhole) (a4 : Memref sig .tc .vmem S31x512 .f32) (h4 : a4.IsWhole)
    (a5 : Memref sig .tc .vmem S1x512 .f32) (h5 : a5.IsWhole) (a6 : Memref sig .tc .vmem S1x512 .f32)
    (h6 : a6.IsWhole) (a7 : Memref sig .tc .vmem S1x512 .f32) (h7 : a7.IsWhole)
    (a8 : Memref sig .tc .vmem S256x512 .bf16) (h8 : a8.IsWhole) (a9 : Memref sig .tc .vmem S288x512 .f32)
    (h9 : a9.IsWhole) (a10 : Memref sig .tc .vmem S8x280x512 .f32) (h10 : a10.IsWhole) (x0 : Vec Ideal S16x512 .f32)
    (x1 : Vec Ideal S256x512 .f32) (x2 : Vec Ideal S16x512 .f32) (x3 : Vec Ideal S31x512 .f32)
    (x4 : Vec Ideal S1x512 .f32) (x5 : Vec Ideal S1x512 .f32) (x6 : Vec Ideal S1x512 .f32)
    (r : Fin 64) (l : Fin 512) :
    out0_A_7 c i a1 h1 a2 h2 a3 h3 a4 h4 a5 h5 a6 h6 a7 h7 a8 h8 a9 h9 a10 h10 x0 x1 x2 x3 x4 x5 x6
      (ix2 ⟨64 + r.val, by omega⟩ l)
      = row (fun k => acc (fun s => x3 (ix2 s k) * View.canon (pieces (k0_pay2 i x0) (k0_pay3 x1) (k0_pay5 (k0_pay4 i x2)))
          (ix2 ⟨(65 + s.val) + r.val, by omega⟩ k)) + x4 (ix2 0 k)) (fun k => x5 (ix2 0 k)) (fun k => x6 (ix2 0 k)) l := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_cons_of_not_mem _ _ (by
      show ix2 ⟨64 + r.val, _⟩ l ∉ (Rect.unit (s := S256x512) ![192, 0] ![64, 512] inb_S256x512_S64x512_192_0).set
      rw [Rect.mem_set_unit]; intro h; have := (h 0).1; change 192 ≤ 64 + r.val at this; omega),
    View.canon_cons_of_not_mem _ _ (by
      show ix2 ⟨64 + r.val, _⟩ l ∉ (Rect.unit (s := S256x512) ![128, 0] ![64, 512] inb_S256x512_S64x512_128_0).set
      rw [Rect.mem_set_unit]; intro h; have := (h 0).1; change 128 ≤ 64 + r.val at this; omega)]
  have e : (Rect.unit ![64, 0] ![64, 512] inb_S256x512_S64x512_64_0).emb (ix2 r l : S64x512.Idx)
      = (ix2 ⟨64 + r.val, by omega⟩ l : S256x512.Idx) := by
    funext d; fin_cases d
    · exact Fin.ext ((Rect.idx_unit_val _ _ _ _ _).trans (by show 64 + r.val = 64 + r.val; omega))
    · exact Fin.ext ((Rect.idx_unit_val _ _ _ _ _).trans (by show 0 + l.val = l.val; omega))
  rw [← e]
  refine (View.canon_cons_emb _ _ _ _).trans ?_
  simp only [View.readAt_eq_ld, h1.read_unread, h2.read_unread, h3.read_unread, h4.read_unread, h5.read_unread,
    h6.read_unread, h7.read_unread, whole0, whole1, whole2, View.readCov_eq_canon']
  erw [shifts_form (View.canon (pieces (k0_pay2 i x0) (k0_pay3 x1) (k0_pay5 (k0_pay4 i x2))))]
  rw [normed, chain_apply]
  refine congrArg (fun X => row X _ _ l) (funext fun k => ?_)
  rw [tiles_apply, lanes_eq _ _ _ _ (fun k => acc (fun s => x3 (ix2 s k)
    * View.canon (pieces (k0_pay2 i x0) (k0_pay3 x1) (k0_pay5 (k0_pay4 i x2))) (ix2 ⟨(65 + s.val) + r.val, by omega⟩ k)))
    ?_ ?_ ?_ ?_]
  · intro x
    pointwise [k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77,
      k0_pay78, k0_pay79, k0_pay80, k0_pay81, k0_pay82, k0_pay83, k0_pay84, k0_pay85, k0_pay86, k0_pay87, k0_pay88,
      k0_pay89, k0_pay90, k0_pay91, k0_pay92, k0_pay93, k0_pay94]
    simp only [shift0, shift1, shift2, shift3, shift4, shift5, shift6, shift7, ← Nat.add_assoc, Nat.reduceAdd]
    rfl
  · intro x
    pointwise [k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77,
      k0_pay78, k0_pay79, k0_pay80, k0_pay81, k0_pay82, k0_pay83, k0_pay84, k0_pay85, k0_pay86, k0_pay87, k0_pay88,
      k0_pay89, k0_pay90, k0_pay91, k0_pay92, k0_pay93, k0_pay94]
    simp only [shift0, shift1, shift2, shift3, shift4, shift5, shift6, shift7, ← Nat.add_assoc, Nat.reduceAdd]
    rfl
  · intro x
    pointwise [k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77,
      k0_pay78, k0_pay79, k0_pay80, k0_pay81, k0_pay82, k0_pay83, k0_pay84, k0_pay85, k0_pay86, k0_pay87, k0_pay88,
      k0_pay89, k0_pay90, k0_pay91, k0_pay92, k0_pay93, k0_pay94]
    simp only [shift0, shift1, shift2, shift3, shift4, shift5, shift6, shift7, ← Nat.add_assoc, Nat.reduceAdd]
    rfl
  · intro x
    pointwise [k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77,
      k0_pay78, k0_pay79, k0_pay80, k0_pay81, k0_pay82, k0_pay83, k0_pay84, k0_pay85, k0_pay86, k0_pay87, k0_pay88,
      k0_pay89, k0_pay90, k0_pay91, k0_pay92, k0_pay93, k0_pay94]
    simp only [shift0, shift1, shift2, shift3, shift4, shift5, shift6, shift7, ← Nat.add_assoc, Nat.reduceAdd]
    rfl

end Cert.Kernel13Ideal.ConvModule.Rows64

end
-- ==== Proof.ConvRows128.lean ====
/- The convolution module: rows 128 to 191 of the body's output block. -/
module

public import proofs.«01_k».proof.Proof.ConvModule

@[expose] public section

set_option maxRecDepth 65536

noncomputable section

open Idealize.ShloMosaic Idealize.ShloMosaic.TcCoe Idealize.SL.Sem Idealize.ShloMosaic.Tactic

namespace Cert.Kernel13Ideal.ConvModule.Rows128

open Cert.Kernel13Ideal Cert.Kernel13Ideal.Gen Cert.ConvModule Cert.Kernel13Ideal.ConvModule

/-- The norm of these rows, of four tiles of 128 lanes. -/
theorem normed (v1825 : FVec Ideal S64x128 .f32) (v2012 : FVec Ideal S64x128 .f32) (v2199 : FVec Ideal S64x128 .f32)
    (v2356 : FVec Ideal S64x128 .f32) (v2357 : Vec Ideal S1x128 .f32) (v2358 : Vec Ideal S1x64x128 .f32)
    (v2363 : Vec Ideal S1x128 .f32) (v2364 : Vec Ideal S1x64x128 .f32) (v2369 : Vec Ideal S1x128 .f32)
    (v2370 : Vec Ideal S1x64x128 .f32) (v2375 : Vec Ideal S1x128 .f32) (v2376 : Vec Ideal S1x64x128 .f32)
    (v2381 : Vec Ideal S1x128 .f32) (v2382 : Vec Ideal S1x64x128 .f32) (v2388 : Vec Ideal S1x512 .f32)
    (v2408 : Vec Ideal S1x512 .f32) (v2412 : Vec Ideal S1x512 .f32)
    : k0_pay131 (k0_pay129 v1825 v2012 v2199 v2356 v2357 v2358 v2363 v2364 v2369 v2370 v2375 v2376 v2381 v2382 v2388) (k0_pay130 v1825 v2012 v2199 v2356 v2357 v2358 v2363 v2364 v2369 v2370 v2375 v2376 v2381 v2382 v2388) v2408 v2412
      = chain (tiles v1825 v2012 v2199
        (addf (addf (addf (addf (addf (v2356) (mulf (broadcastTo S64x128 v2357 broadcasts_S1x128_S64x128) (shapeCast S64x128 v2358 shapeCasts_S1x64x128_S64x128))) (mulf (broadcastTo S64x128 v2363 broadcasts_S1x128_S64x128) (shapeCast S64x128 v2364 shapeCasts_S1x64x128_S64x128))) (mulf (broadcastTo S64x128 v2369 broadcasts_S1x128_S64x128) (shapeCast S64x128 v2370 shapeCasts_S1x64x128_S64x128))) (mulf (broadcastTo S64x128 v2375 broadcasts_S1x128_S64x128) (shapeCast S64x128 v2376 shapeCasts_S1x64x128_S64x128))) (mulf (broadcastTo S64x128 v2381 broadcasts_S1x128_S64x128) (shapeCast S64x128 v2382 shapeCasts_S1x64x128_S64x128))) v2388)
        v2408 v2412 := rfl

set_option maxHeartbeats 4000000 in
/-- Rows 128 to 191 of the output block: the taps of the padded block, the norm and the logistic unit. -/
theorem out (c : Dev nD) (i : grid0.Coords) (a1 : Memref sig .tc .vmem S16x512 .f32) (h1 : a1.IsWhole)
    (a2 : Memref sig .tc .vmem S256x512 .f32) (h2 : a2.IsWhole) (a3 : Memref sig .tc .vmem S16x512 .f32)
    (h3 : a3.IsWhole) (a4 : Memref sig .tc .vmem S31x512 .f32) (h4 : a4.IsWhole)
    (a5 : Memref sig .tc .vmem S1x512 .f32) (h5 : a5.IsWhole) (a6 : Memref sig .tc .vmem S1x512 .f32)
    (h6 : a6.IsWhole) (a7 : Memref sig .tc .vmem S1x512 .f32) (h7 : a7.IsWhole)
    (a8 : Memref sig .tc .vmem S256x512 .bf16) (h8 : a8.IsWhole) (a9 : Memref sig .tc .vmem S288x512 .f32)
    (h9 : a9.IsWhole) (a10 : Memref sig .tc .vmem S8x280x512 .f32) (h10 : a10.IsWhole) (x0 : Vec Ideal S16x512 .f32)
    (x1 : Vec Ideal S256x512 .f32) (x2 : Vec Ideal S16x512 .f32) (x3 : Vec Ideal S31x512 .f32)
    (x4 : Vec Ideal S1x512 .f32) (x5 : Vec Ideal S1x512 .f32) (x6 : Vec Ideal S1x512 .f32)
    (r : Fin 64) (l : Fin 512) :
    out0_A_7 c i a1 h1 a2 h2 a3 h3 a4 h4 a5 h5 a6 h6 a7 h7 a8 h8 a9 h9 a10 h10 x0 x1 x2 x3 x4 x5 x6
      (ix2 ⟨128 + r.val, by omega⟩ l)
      = row (fun k => acc (fun s => x3 (ix2 s k) * View.canon (pieces (k0_pay2 i x0) (k0_pay3 x1) (k0_pay5 (k0_pay4 i x2)))
          (ix2 ⟨(129 + s.val) + r.val, by omega⟩ k)) + x4 (ix2 0 k)) (fun k => x5 (ix2 0 k)) (fun k => x6 (ix2 0 k)) l := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_cons_of_not_mem _ _ (by
      show ix2 ⟨128 + r.val, _⟩ l ∉ (Rect.unit (s := S256x512) ![192, 0] ![64, 512] inb_S256x512_S64x512_192_0).set
      rw [Rect.mem_set_unit]; intro h; have := (h 0).1; change 192 ≤ 128 + r.val at this; omega)]
  have e : (Rect.unit ![128, 0] ![64, 512] inb_S256x512_S64x512_128_0).emb (ix2 r l : S64x512.Idx)
      = (ix2 ⟨128 + r.val, by omega⟩ l : S256x512.Idx) := by
    funext d; fin_cases d
    · exact Fin.ext ((Rect.idx_unit_val _ _ _ _ _).trans (by show 128 + r.val = 128 + r.val; omega))
    · exact Fin.ext ((Rect.idx_unit_val _ _ _ _ _).trans (by show 0 + l.val = l.val; omega))
  rw [← e]
  refine (View.canon_cons_emb _ _ _ _).trans ?_
  simp only [View.readAt_eq_ld, h1.read_unread, h2.read_unread, h3.read_unread, h4.read_unread, h5.read_unread,
    h6.read_unread, h7.read_unread, whole0, whole1, whole2, View.readCov_eq_canon']
  erw [shifts_form (View.canon (pieces (k0_pay2 i x0) (k0_pay3 x1) (k0_pay5 (k0_pay4 i x2))))]
  rw [normed, chain_apply]
  refine congrArg (fun X => row X _ _ l) (funext fun k => ?_)
  rw [tiles_apply, lanes_eq _ _ _ _ (fun k => acc (fun s => x3 (ix2 s k)
    * View.canon (pieces (k0_pay2 i x0) (k0_pay3 x1) (k0_pay5 (k0_pay4 i x2))) (ix2 ⟨(129 + s.val) + r.val, by omega⟩ k)))
    ?_ ?_ ?_ ?_]
  · intro x
    pointwise [k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124, k0_pay125,
      k0_pay126, k0_pay127, k0_pay128]
    simp only [shift0, shift1, shift2, shift3, shift4, shift5, shift6, shift7, ← Nat.add_assoc, Nat.reduceAdd]
    rfl
  · intro x
    pointwise [k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124, k0_pay125,
      k0_pay126, k0_pay127, k0_pay128]
    simp only [shift0, shift1, shift2, shift3, shift4, shift5, shift6, shift7, ← Nat.add_assoc, Nat.reduceAdd]
    rfl
  · intro x
    pointwise [k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124, k0_pay125,
      k0_pay126, k0_pay127, k0_pay128]
    simp only [shift0, shift1, shift2, shift3, shift4, shift5, shift6, shift7, ← Nat.add_assoc, Nat.reduceAdd]
    rfl
  · intro x
    pointwise [k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124, k0_pay125,
      k0_pay126, k0_pay127, k0_pay128]
    simp only [shift0, shift1, shift2, shift3, shift4, shift5, shift6, shift7, ← Nat.add_assoc, Nat.reduceAdd]
    rfl

end Cert.Kernel13Ideal.ConvModule.Rows128

end
-- ==== Proof.ConvRows192.lean ====
/- The convolution module: rows 192 to 255 of the body's output block. -/
module

public import proofs.«01_k».proof.Proof.ConvModule

@[expose] public section

set_option maxRecDepth 65536

noncomputable section

open Idealize.ShloMosaic Idealize.ShloMosaic.TcCoe Idealize.SL.Sem Idealize.ShloMosaic.Tactic

namespace Cert.Kernel13Ideal.ConvModule.Rows192

open Cert.Kernel13Ideal Cert.Kernel13Ideal.Gen Cert.ConvModule Cert.Kernel13Ideal.ConvModule

/-- The norm of these rows, of four tiles of 128 lanes. -/
theorem normed (v2612 : FVec Ideal S64x128 .f32) (v2799 : FVec Ideal S64x128 .f32) (v2986 : FVec Ideal S64x128 .f32)
    (v3149 : FVec Ideal S64x128 .f32) (v3150 : Vec Ideal S1x128 .f32) (v3151 : Vec Ideal S1x64x128 .f32)
    (v3156 : Vec Ideal S1x128 .f32) (v3157 : Vec Ideal S1x64x128 .f32) (v3162 : Vec Ideal S1x128 .f32)
    (v3163 : Vec Ideal S1x64x128 .f32) (v3168 : Vec Ideal S1x128 .f32) (v3169 : Vec Ideal S1x64x128 .f32)
    (v3175 : Vec Ideal S1x512 .f32) (v3195 : Vec Ideal S1x512 .f32) (v3199 : Vec Ideal S1x512 .f32)
    : k0_pay1 (k0_pay163 (k0_pay161 v2612 v2799 v2986 v3149 v3150 v3151 v3156 v3157 v3162 v3163 v3168 v3169 v3175) (k0_pay162 v2612 v2799 v2986 v3149 v3150 v3151 v3156 v3157 v3162 v3163 v3168 v3169 v3175) v3195 v3199) (k0_pay164 (k0_pay161 v2612 v2799 v2986 v3149 v3150 v3151 v3156 v3157 v3162 v3163 v3168 v3169 v3175) (k0_pay162 v2612 v2799 v2986 v3149 v3150 v3151 v3156 v3157 v3162 v3163 v3168 v3169 v3175) v3195 v3199)
      (Scalar.ofBits .f32 0x3F800000#32)
      = chain (tiles v2612 v2799 v2986
        (addf (addf (addf (addf (v3149) (mulf (broadcastTo S64x128 v3150 broadcasts_S1x128_S64x128) (shapeCast S64x128 v3151 shapeCasts_S1x64x128_S64x128))) (mulf (broadcastTo S64x128 v3156 broadcasts_S1x128_S64x128) (shapeCast S64x128 v3157 shapeCasts_S1x64x128_S64x128))) (mulf (broadcastTo S64x128 v3162 broadcasts_S1x128_S64x128) (shapeCast S64x128 v3163 shapeCasts_S1x64x128_S64x128))) (mulf (broadcastTo S64x128 v3168 broadcasts_S1x128_S64x128) (shapeCast S64x128 v3169 shapeCasts_S1x64x128_S64x128))) v3175)
        v3195 v3199 := rfl

set_option maxHeartbeats 4000000 in
/-- Rows 192 to 255 of the output block: the taps of the padded block, the norm and the logistic unit. -/
theorem out (c : Dev nD) (i : grid0.Coords) (a1 : Memref sig .tc .vmem S16x512 .f32) (h1 : a1.IsWhole)
    (a2 : Memref sig .tc .vmem S256x512 .f32) (h2 : a2.IsWhole) (a3 : Memref sig .tc .vmem S16x512 .f32)
    (h3 : a3.IsWhole) (a4 : Memref sig .tc .vmem S31x512 .f32) (h4 : a4.IsWhole)
    (a5 : Memref sig .tc .vmem S1x512 .f32) (h5 : a5.IsWhole) (a6 : Memref sig .tc .vmem S1x512 .f32)
    (h6 : a6.IsWhole) (a7 : Memref sig .tc .vmem S1x512 .f32) (h7 : a7.IsWhole)
    (a8 : Memref sig .tc .vmem S256x512 .bf16) (h8 : a8.IsWhole) (a9 : Memref sig .tc .vmem S288x512 .f32)
    (h9 : a9.IsWhole) (a10 : Memref sig .tc .vmem S8x280x512 .f32) (h10 : a10.IsWhole) (x0 : Vec Ideal S16x512 .f32)
    (x1 : Vec Ideal S256x512 .f32) (x2 : Vec Ideal S16x512 .f32) (x3 : Vec Ideal S31x512 .f32)
    (x4 : Vec Ideal S1x512 .f32) (x5 : Vec Ideal S1x512 .f32) (x6 : Vec Ideal S1x512 .f32)
    (r : Fin 64) (l : Fin 512) :
    out0_A_7 c i a1 h1 a2 h2 a3 h3 a4 h4 a5 h5 a6 h6 a7 h7 a8 h8 a9 h9 a10 h10 x0 x1 x2 x3 x4 x5 x6
      (ix2 ⟨192 + r.val, by omega⟩ l)
      = row (fun k => acc (fun s => x3 (ix2 s k) * View.canon (pieces (k0_pay2 i x0) (k0_pay3 x1) (k0_pay5 (k0_pay4 i x2)))
          (ix2 ⟨(193 + s.val) + r.val, by omega⟩ k)) + x4 (ix2 0 k)) (fun k => x5 (ix2 0 k)) (fun k => x6 (ix2 0 k)) l := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  have e : (Rect.unit ![192, 0] ![64, 512] inb_S256x512_S64x512_192_0).emb (ix2 r l : S64x512.Idx)
      = (ix2 ⟨192 + r.val, by omega⟩ l : S256x512.Idx) := by
    funext d; fin_cases d
    · exact Fin.ext ((Rect.idx_unit_val _ _ _ _ _).trans (by show 192 + r.val = 192 + r.val; omega))
    · exact Fin.ext ((Rect.idx_unit_val _ _ _ _ _).trans (by show 0 + l.val = l.val; omega))
  rw [← e]
  refine (View.canon_cons_emb _ _ _ _).trans ?_
  simp only [View.readAt_eq_ld, h1.read_unread, h2.read_unread, h3.read_unread, h4.read_unread, h5.read_unread,
    h6.read_unread, h7.read_unread, whole0, whole1, whole2, View.readCov_eq_canon']
  erw [shifts_form (View.canon (pieces (k0_pay2 i x0) (k0_pay3 x1) (k0_pay5 (k0_pay4 i x2))))]
  rw [normed, chain_apply]
  refine congrArg (fun X => row X _ _ l) (funext fun k => ?_)
  rw [tiles_apply, lanes_eq _ _ _ _ (fun k => acc (fun s => x3 (ix2 s k)
    * View.canon (pieces (k0_pay2 i x0) (k0_pay3 x1) (k0_pay5 (k0_pay4 i x2))) (ix2 ⟨(193 + s.val) + r.val, by omega⟩ k)))
    ?_ ?_ ?_ ?_]
  · intro x
    pointwise [k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160]
    simp only [shift0, shift1, shift2, shift3, shift4, shift5, shift6, shift7, ← Nat.add_assoc, Nat.reduceAdd]
    rfl
  · intro x
    pointwise [k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160]
    simp only [shift0, shift1, shift2, shift3, shift4, shift5, shift6, shift7, ← Nat.add_assoc, Nat.reduceAdd]
    rfl
  · intro x
    pointwise [k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160]
    simp only [shift0, shift1, shift2, shift3, shift4, shift5, shift6, shift7, ← Nat.add_assoc, Nat.reduceAdd]
    rfl
  · intro x
    pointwise [k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160]
    simp only [shift0, shift1, shift2, shift3, shift4, shift5, shift6, shift7, ← Nat.add_assoc, Nat.reduceAdd]
    rfl

end Cert.Kernel13Ideal.ConvModule.Rows192

end
-- ==== Proof.ConvKernel.lean ====
/- The convolution module's result array after the run as one formula. -/
module

public import proofs.«01_k».proof.Proof.ConvRows0
public import proofs.«01_k».proof.Proof.ConvRows64
public import proofs.«01_k».proof.Proof.ConvRows128
public import proofs.«01_k».proof.Proof.ConvRows192

@[expose] public section

set_option maxRecDepth 16384

noncomputable section

open Idealize.ShloMosaic Idealize.ShloMosaic.TcCoe Idealize.SL.Sem Idealize.ShloMosaic.Tactic

namespace Cert.Kernel13Ideal.ConvModule

open Cert.Kernel13Ideal Cert.Kernel13Ideal.Gen Cert.ConvModule

variable (m : (ℓ : Loc nD τ sig) → Buf (Elt Ideal) ℓ)

/-- Row `R` of the convolution over its sequence, and the bias. -/
def taps (x : FVec Ideal S16384x512 .f32) (w : FVec Ideal S31x512 .f32) (z : FVec Ideal S512 .f32) (R : Fin 16384) (k : Fin 512) :
    EReal :=
  acc (fun s => w (ix2 s k) * Taps.tap (fun a => x (ix2 a k)) R.val 15 s.val) + z (ix1 k)

/-- Row `R` of the result: the convolution and its bias, the layer norm, the logistic unit. -/
def G (x : FVec Ideal S16384x512 .f32) (w : FVec Ideal S31x512 .f32) (z g e : FVec Ideal S512 .f32) (R : Fin 16384)
    (l : Fin 512) : EReal :=
  row (taps x w z R) (fun k => g (ix1 k)) (fun k => e (ix1 k)) l

/-- The block of rows at grid point `t`. -/
theorem rows (c : Dev nD) (t : Fin cfg0.N) (r : Fin 256) (l : Fin 512) :
    iblk m c 1 t (ix2 r l) = m ((c : Thread nD τ).loc main_arg0) (ix2 ⟨t.val * 256 + r.val, by have := points t; omega⟩ l) := by
  blk_ext! [iblk, V, idx t]

/-- The sixteen rows before the block. -/
theorem before (c : Dev nD) (t : Fin cfg0.N) (r : Fin 16) (l : Fin 512) :
    iblk m c 0 t (ix2 r l) = m ((c : Thread nD τ).loc main_arg0)
      (ix2 ⟨(t.val * 16 - 1) * 16 + r.val, by have := points t; omega⟩ l) := by
  blk_ext! [iblk, V, idx t]

/-- The sixteen rows after the block. -/
theorem after (c : Dev nD) (t : Fin cfg0.N) (r : Fin 16) (l : Fin 512) :
    iblk m c 2 t (ix2 r l) = m ((c : Thread nD τ).loc main_arg0)
      (ix2 ⟨min (t.val * 16 + 16) 1023 * 16 + r.val, by have := points t; omega⟩ l) := by
  blk_ext! [iblk, V, idx t]

/-- The weights. -/
theorem weights (c : Dev nD) (t : Fin cfg0.N) (k : Fin 31) (l : Fin 512) :
    iblk m c 3 t (ix2 k l) = m ((c : Thread nD τ).loc main_arg1) (ix2 k l) := by
  blk_ext! [iblk, V, idx t]

/-- The bias vector. -/
theorem biasVec (c : Dev nD) (t : Fin cfg0.N) (l : Fin 512) :
    iblk m c 4 t (ix2 0 l) = m ((c : Thread nD τ).loc main_arg2) (ix1 l) := by
  have e : (win0_4.blk t).view.emb (ix2 0 l) = ix2 0 l := by blk_ext! [idx t]
  simp only [iblk]
  blk_simp [V]
  rw [e]
  entry_read
  pointwise

/-- The scale vector. -/
theorem scaleVec (c : Dev nD) (t : Fin cfg0.N) (l : Fin 512) :
    iblk m c 5 t (ix2 0 l) = m ((c : Thread nD τ).loc main_arg3) (ix1 l) := by
  have e : (win0_5.blk t).view.emb (ix2 0 l) = ix2 0 l := by blk_ext! [idx t]
  simp only [iblk]
  blk_simp [V]
  rw [e]
  entry_read
  pointwise

/-- The shift vector. -/
theorem shiftVec (c : Dev nD) (t : Fin cfg0.N) (l : Fin 512) :
    iblk m c 6 t (ix2 0 l) = m ((c : Thread nD τ).loc main_arg4) (ix1 l) := by
  have e : (win0_6.blk t).view.emb (ix2 0 l) = ix2 0 l := by blk_ext! [idx t]
  simp only [iblk]
  blk_simp [V]
  rw [e]
  entry_read
  pointwise

/-- The padded block at grid point `t` read at a tap. -/
theorem pad_tap (c : Dev nD) (t : Fin cfg0.N) (r : Fin 256) (l : Fin 512) (s : ℕ) (Q : Fin 288) (hQ : Q.val + 15 = 16 + r.val + s) :
    View.canon (pieces (k0_pay2 (grid0.coords t) (iblk m c 0 t)) (k0_pay3 (iblk m c 1 t))
      (k0_pay5 (k0_pay4 (grid0.coords t) (iblk m c 2 t)))) (ix2 Q l)
      = Taps.tap (fun a => m ((c : Thread nD τ).loc main_arg0) (ix2 a l)) (t.val * 256 + r.val) 15 s := by
  have hx : ∀ a : Fin 256, k0_pay3 (iblk m c 1 t) (ix2 a l) = iblk m c 1 t (ix2 a l) := fun a => by
    pointwise [k0_pay3]
  rw [pieces_apply, ← Taps.padded_tap (fun a => m ((c : Thread nD τ).loc main_arg0) (ix2 a l)) t.val (points t) 15 s (by omega) r Q hQ]
  simp only [head, tail, hx, rows, before, after]

/-- A row of the output block, read over the padded block, is a row of the formula. -/
theorem row_eq (c : Dev nD) (t : Fin cfg0.N) (x3 : Vec Ideal S31x512 .f32) (x4 x5 x6 : Vec Ideal S1x512 .f32)
    (h3 : ∀ (s : Fin 31) (k : Fin 512), x3 (ix2 s k) = m ((c : Thread nD τ).loc main_arg1) (ix2 s k))
    (h4 : ∀ k : Fin 512, x4 (ix2 0 k) = m ((c : Thread nD τ).loc main_arg2) (ix1 k))
    (h5 : ∀ k : Fin 512, x5 (ix2 0 k) = m ((c : Thread nD τ).loc main_arg3) (ix1 k))
    (h6 : ∀ k : Fin 512, x6 (ix2 0 k) = m ((c : Thread nD τ).loc main_arg4) (ix1 k)) (q : ℕ) (r : Fin 64) (hq : q + r.val < 256) (l : Fin 512) (n : ℕ) (hn : n = q + 1) :
    row (fun k => acc (fun s => x3 (ix2 s k)
          * View.canon (pieces (k0_pay2 (grid0.coords t) (iblk m c 0 t)) (k0_pay3 (iblk m c 1 t))
              (k0_pay5 (k0_pay4 (grid0.coords t) (iblk m c 2 t)))) (ix2 ⟨(n + s.val) + r.val, by omega⟩ k))
        + x4 (ix2 0 k)) (fun k => x5 (ix2 0 k)) (fun k => x6 (ix2 0 k)) l
      = G (m ((c : Thread nD τ).loc main_arg0)) (m ((c : Thread nD τ).loc main_arg1)) (m ((c : Thread nD τ).loc main_arg2))
          (m ((c : Thread nD τ).loc main_arg3)) (m ((c : Thread nD τ).loc main_arg4))
          ⟨t.val * 256 + (q + r.val), by have := points t; omega⟩ l := by
  have p : ∀ (s : Fin 31) (k : Fin 512), _ := fun s k =>
    pad_tap m c t ⟨q + r.val, hq⟩ k s.val ⟨(n + s.val) + r.val, by omega⟩ (by show n + s.val + r.val + 15 = 16 + (q + r.val) + s.val; omega)
  simp only [p, h3, h4, h5, h6]
  rfl

/-- The result array as a function of the arguments. -/
def result (c : Dev nD) : FVec Ideal S16384x512 .bf16 := fun j =>
  G (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1)

/-- The output block at grid point `t` is the block of rows `256 t …` of the result. -/
theorem block (c : Dev nD) (t : Fin cfg0.N) (r : Fin 256) (l : Fin 512) :
    outsAt0 m c t (ix2 r l) = result m c (((cfg0.win 7).blk t).view.emb (ix2 r l)) := by
  have ht := points t
  have e : ((cfg0.win 7).blk t).view.emb (ix2 r l) = (ix2 ⟨t.val * 256 + r.val, by omega⟩ l : S16384x512.Idx) := by
    blk_ext! [idx t]
  rw [e]
  unfold outsAt0
  by_cases p0 : r.val < 64
  · obtain ⟨y, rfl⟩ : ∃ y : Fin 64, r = ⟨0 + y.val, Nat.lt_of_lt_of_le (Nat.add_lt_add_left y.isLt 0) (by decide)⟩ :=
      ⟨⟨r.val, by omega⟩, Fin.ext (by show r.val = 0 + (r.val); omega)⟩
    rw [Rows0.out]
    exact row_eq m c t _ _ _ _ (weights m c t) (biasVec m c t) (scaleVec m c t) (shiftVec m c t) 0 y (by omega) l 1 rfl
  by_cases p1 : r.val < 128
  · obtain ⟨y, rfl⟩ : ∃ y : Fin 64, r = ⟨64 + y.val, Nat.lt_of_lt_of_le (Nat.add_lt_add_left y.isLt 64) (by decide)⟩ :=
      ⟨⟨r.val - 64, by omega⟩, Fin.ext (by show r.val = 64 + (r.val - 64); omega)⟩
    rw [Rows64.out]
    exact row_eq m c t _ _ _ _ (weights m c t) (biasVec m c t) (scaleVec m c t) (shiftVec m c t) 64 y (by omega) l 65 rfl
  by_cases p2 : r.val < 192
  · obtain ⟨y, rfl⟩ : ∃ y : Fin 64, r = ⟨128 + y.val, Nat.lt_of_lt_of_le (Nat.add_lt_add_left y.isLt 128) (by decide)⟩ :=
      ⟨⟨r.val - 128, by omega⟩, Fin.ext (by show r.val = 128 + (r.val - 128); omega)⟩
    rw [Rows128.out]
    exact row_eq m c t _ _ _ _ (weights m c t) (biasVec m c t) (scaleVec m c t) (shiftVec m c t) 128 y (by omega) l 129 rfl
  · obtain ⟨y, rfl⟩ : ∃ y : Fin 64, r = ⟨192 + y.val, Nat.lt_of_lt_of_le (Nat.add_lt_add_left y.isLt 192) (by decide)⟩ :=
      ⟨⟨r.val - 192, by omega⟩, Fin.ext (by show r.val = 192 + (r.val - 192); omega)⟩
    rw [Rows192.out]
    exact row_eq m c t _ _ _ _ (weights m c t) (biasVec m c t) (scaleVec m c t) (shiftVec m c t) 192 y (by omega) l 193 rfl

/-- The result array after the run. -/
theorem final (c : Dev nD) : (dats m 0 c).arrAt 7 (cfgs 0).N = result m c := by
  refine (dats m 0 c).arrAt_eq_of_covers 7 _ (by decide +kernel) fun t _ y => ?_
  blk_simp
  rw [after0_7]
  have h := block m c t (y 0) (y 1)
  rw [show (ix2 (y 0) (y 1) : S256x512.Idx) = y from by funext a; fin_cases a <;> rfl] at h
  exact h

end Cert.Kernel13Ideal.ConvModule

end
-- ==== Proof.ConvRef.lean ====
/- The convolution module's reference: its result array as the formula of the kernel's. -/
module

public import proofs.«01_k».proof.Proof.ConvKernel
public import proofs.«01_k».proof.Proof.Gen.Reference13Ideal.Read

@[expose] public section

set_option maxRecDepth 16384

noncomputable section

open Idealize.ShloMosaic Idealize.ShloMosaic.TcCoe Idealize.SL.Sem Idealize.ShloMosaic.Tactic

namespace Cert.Reference13Ideal.ConvModule

open Cert.Reference13Ideal Cert.Reference13Ideal.Read Cert.ConvModule
open Cert.Kernel13Ideal.ConvModule (G taps)

/-- The padded context sequences at tap `s`. -/
theorem pad_ctx (x : FVec Ideal S16384x512 .f32) (b : Fin 32) (t : Fin 256) (l : Fin 512) (s : ℕ) (hs : s < 31) :
    val_main_v2 (F := Ideal) x (ix3 b ⟨s + t.val, by omega⟩ l) = Taps.tap (fun a => x (ix2 a l)) (b.val * 256 + t.val) 15 s := by
  rw [Taps.tap_context]
  pointwise [val_main_v2, val_main_v1, val_main_v0, val_main_call0_v0, val_main_c]
  have z : FloatOps.sitofp (F := Ideal) FTy.f32 (0#32) = 0 := by
    show (((0#32 : BitVec 32).toInt : ℝ) : EReal) = 0
    simp
  by_cases p : 15 ≤ t.val + s ∧ t.val + s < 271
  · rw [dif_pos p, dif_pos (by omega)]
    exact congrArg (fun a => x (ix2 a l)) (Fin.ext (by
      show b.val * 256 + (s + t.val - 15) = b.val * 256 + (t.val + s - 15); omega))
  · rw [dif_neg p, dif_neg (by omega), z]

/-- The convolution of a context row and the bias. -/
theorem conv_ctx (x : FVec Ideal S16384x512 .f32) (w : FVec Ideal S31x512 .f32) (z : FVec Ideal S512 .f32) (b : Fin 32)
    (t : Fin 256) (l : Fin 512) :
    val_main_v223 (F := Ideal) x w z (ix3 b t l) = taps x w z ⟨b.val * 256 + t.val, by omega⟩ l := by
  pointwise [val_main_v223, val_main_v222, val_main_v221,
    val_main_v220, val_main_v219, val_main_v218, val_main_v217, val_main_v216, val_main_v215, val_main_v214,
    val_main_v213, val_main_v212, val_main_v211, val_main_v210, val_main_v209, val_main_v208, val_main_v207,
    val_main_v206, val_main_v205, val_main_v204, val_main_v203, val_main_v202, val_main_v201, val_main_v200,
    val_main_v199, val_main_v198, val_main_v197, val_main_v196, val_main_v195, val_main_v194, val_main_v193,
    val_main_v192, val_main_v191, val_main_v190, val_main_v189, val_main_v188, val_main_v187, val_main_v186,
    val_main_v185, val_main_v184, val_main_v183, val_main_v182, val_main_v181, val_main_v180, val_main_v179,
    val_main_v178, val_main_v177, val_main_v176, val_main_v175, val_main_v174, val_main_v173, val_main_v172,
    val_main_v171, val_main_v170, val_main_v169, val_main_v168, val_main_v167, val_main_v166, val_main_v165,
    val_main_v164, val_main_v163, val_main_v162, val_main_v161, val_main_v160, val_main_v159, val_main_v158,
    val_main_v157, val_main_v156, val_main_v155, val_main_v154, val_main_v153, val_main_v152, val_main_v151,
    val_main_v150, val_main_v149, val_main_v148, val_main_v147, val_main_v146, val_main_v145, val_main_v144,
    val_main_v143, val_main_v142, val_main_v141, val_main_v140, val_main_v139, val_main_v138, val_main_v137,
    val_main_v136, val_main_v135, val_main_v134, val_main_v133, val_main_v132, val_main_v131, val_main_v130,
    val_main_v129, val_main_v128, val_main_v127, val_main_v126, val_main_v125, val_main_v124, val_main_v123,
    val_main_v122, val_main_v121, val_main_v120, val_main_v119, val_main_v118, val_main_v117, val_main_v116,
    val_main_v115, val_main_v114, val_main_v113, val_main_v112, val_main_v111, val_main_v110, val_main_v109,
    val_main_v108, val_main_v107, val_main_v106, val_main_v105, val_main_v104, val_main_v103, val_main_v102,
    val_main_v101, val_main_v100, val_main_v99, val_main_v98, val_main_v97, val_main_v96, val_main_v95, val_main_v94,
    val_main_v93, val_main_v92, val_main_v91, val_main_v90, val_main_v89, val_main_v88, val_main_v87, val_main_v86,
    val_main_v85, val_main_v84, val_main_v83, val_main_v82, val_main_v81, val_main_v80, val_main_v79, val_main_v78,
    val_main_v77, val_main_v76, val_main_v75, val_main_v74, val_main_v73, val_main_v72, val_main_v71, val_main_v70,
    val_main_v69, val_main_v68, val_main_v67, val_main_v66, val_main_v65, val_main_v64, val_main_v63, val_main_v62,
    val_main_v61, val_main_v60, val_main_v59, val_main_v58, val_main_v57, val_main_v56, val_main_v55, val_main_v54,
    val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_cst]
  have h0 := pad_ctx x b t l 0 (by omega)
  simp only [Nat.zero_add] at h0
  rw [h0, pad_ctx x b t l 1 (by omega), pad_ctx x b t l 2 (by omega), pad_ctx x b t l 3 (by omega),
    pad_ctx x b t l 4 (by omega), pad_ctx x b t l 5 (by omega), pad_ctx x b t l 6 (by omega),
    pad_ctx x b t l 7 (by omega), pad_ctx x b t l 8 (by omega), pad_ctx x b t l 9 (by omega),
    pad_ctx x b t l 10 (by omega), pad_ctx x b t l 11 (by omega), pad_ctx x b t l 12 (by omega),
    pad_ctx x b t l 13 (by omega), pad_ctx x b t l 14 (by omega), pad_ctx x b t l 15 (by omega),
    pad_ctx x b t l 16 (by omega), pad_ctx x b t l 17 (by omega), pad_ctx x b t l 18 (by omega),
    pad_ctx x b t l 19 (by omega), pad_ctx x b t l 20 (by omega), pad_ctx x b t l 21 (by omega),
    pad_ctx x b t l 22 (by omega), pad_ctx x b t l 23 (by omega), pad_ctx x b t l 24 (by omega),
    pad_ctx x b t l 25 (by omega), pad_ctx x b t l 26 (by omega), pad_ctx x b t l 27 (by omega),
    pad_ctx x b t l 28 (by omega), pad_ctx x b t l 29 (by omega), pad_ctx x b t l 30 (by omega)]
  unfold taps
  rw [acc_eq]
  rfl

/-- A context row. -/
theorem ctx (x : FVec Ideal S16384x512 .f32) (w : FVec Ideal S31x512 .f32) (z g e : FVec Ideal S512 .f32) (b : Fin 32)
    (t : Fin 256) (l : Fin 512) :
    val_main_v246 (F := Ideal) x w z g e (ix3 b t l) = G x w z g e ⟨b.val * 256 + t.val, by omega⟩ l := by
  have h : ∀ k, taps x w z ⟨b.val * 256 + t.val, by omega⟩ k = val_main_v223 (F := Ideal) x w z (ix3 b t k) :=
    fun k => (conv_ctx x w z b t k).symm
  unfold G row layerNorm dev
  simp only [h]
  pointwise [val_main_v246, val_main_call1_v5, val_main_call1_cst_0, val_main_call1_v4, val_main_call1_v3, val_main_call1_cst,
    val_main_call1_v2, val_main_call1_v1, val_main_call1_v0, val_main_v245, val_main_v244, val_main_v243,
    val_main_v242, val_main_v241, val_main_v240, val_main_v239, val_main_v238, val_main_v237, val_main_v236,
    val_main_v235, val_main_v234, val_main_v233, val_main_v232, val_main_v231, val_main_v230, val_main_v229,
    val_main_v228, val_main_v227, val_main_v226, val_main_v225, val_main_v224, val_main_cst_0, val_main_cst_1,
    val_main_cst_2, val_main_cst_3, val_main_cst_4]

/-- The padded latent sequences at tap `s`. -/
theorem pad_lat (x : FVec Ideal S16384x512 .f32) (b : Fin 2) (t : Fin 4096) (l : Fin 512) (s : ℕ) (hs : s < 31) :
    val_main_v249 (F := Ideal) x (ix3 b ⟨s + t.val, by omega⟩ l) = Taps.tap (fun a => x (ix2 a l)) (8192 + (b.val * 4096 + t.val)) 15 s := by
  rw [Taps.tap_latent]
  pointwise [val_main_v249, val_main_v248, val_main_v247, val_main_call2_v0, val_main_c_5]
  have z : FloatOps.sitofp (F := Ideal) FTy.f32 (0#32) = 0 := by
    show (((0#32 : BitVec 32).toInt : ℝ) : EReal) = 0
    simp
  by_cases p : 15 ≤ t.val + s ∧ t.val + s < 4111
  · rw [dif_pos p, dif_pos (by omega)]
    exact congrArg (fun a => x (ix2 a l)) (Fin.ext (by
      show 8192 + (b.val * 4096 + (s + t.val - 15)) = 8192 + (b.val * 4096 + (t.val + s - 15)); omega))
  · rw [dif_neg p, dif_neg (by omega), z]

/-- The convolution of a latent row and the bias. -/
theorem conv_lat (x : FVec Ideal S16384x512 .f32) (w : FVec Ideal S31x512 .f32) (z : FVec Ideal S512 .f32) (b : Fin 2)
    (t : Fin 4096) (l : Fin 512) :
    val_main_v470 (F := Ideal) x w z (ix3 b t l) = taps x w z ⟨8192 + (b.val * 4096 + t.val), by omega⟩ l := by
  pointwise [val_main_v470, val_main_v469, val_main_v468,
    val_main_v467, val_main_v466, val_main_v465, val_main_v464, val_main_v463, val_main_v462, val_main_v461,
    val_main_v460, val_main_v459, val_main_v458, val_main_v457, val_main_v456, val_main_v455, val_main_v454,
    val_main_v453, val_main_v452, val_main_v451, val_main_v450, val_main_v449, val_main_v448, val_main_v447,
    val_main_v446, val_main_v445, val_main_v444, val_main_v443, val_main_v442, val_main_v441, val_main_v440,
    val_main_v439, val_main_v438, val_main_v437, val_main_v436, val_main_v435, val_main_v434, val_main_v433,
    val_main_v432, val_main_v431, val_main_v430, val_main_v429, val_main_v428, val_main_v427, val_main_v426,
    val_main_v425, val_main_v424, val_main_v423, val_main_v422, val_main_v421, val_main_v420, val_main_v419,
    val_main_v418, val_main_v417, val_main_v416, val_main_v415, val_main_v414, val_main_v413, val_main_v412,
    val_main_v411, val_main_v410, val_main_v409, val_main_v408, val_main_v407, val_main_v406, val_main_v405,
    val_main_v404, val_main_v403, val_main_v402, val_main_v401, val_main_v400, val_main_v399, val_main_v398,
    val_main_v397, val_main_v396, val_main_v395, val_main_v394, val_main_v393, val_main_v392, val_main_v391,
    val_main_v390, val_main_v389, val_main_v388, val_main_v387, val_main_v386, val_main_v385, val_main_v384,
    val_main_v383, val_main_v382, val_main_v381, val_main_v380, val_main_v379, val_main_v378, val_main_v377,
    val_main_v376, val_main_v375, val_main_v374, val_main_v373, val_main_v372, val_main_v371, val_main_v370,
    val_main_v369, val_main_v368, val_main_v367, val_main_v366, val_main_v365, val_main_v364, val_main_v363,
    val_main_v362, val_main_v361, val_main_v360, val_main_v359, val_main_v358, val_main_v357, val_main_v356,
    val_main_v355, val_main_v354, val_main_v353, val_main_v352, val_main_v351, val_main_v350, val_main_v349,
    val_main_v348, val_main_v347, val_main_v346, val_main_v345, val_main_v344, val_main_v343, val_main_v342,
    val_main_v341, val_main_v340, val_main_v339, val_main_v338, val_main_v337, val_main_v336, val_main_v335,
    val_main_v334, val_main_v333, val_main_v332, val_main_v331, val_main_v330, val_main_v329, val_main_v328,
    val_main_v327, val_main_v326, val_main_v325, val_main_v324, val_main_v323, val_main_v322, val_main_v321,
    val_main_v320, val_main_v319, val_main_v318, val_main_v317, val_main_v316, val_main_v315, val_main_v314,
    val_main_v313, val_main_v312, val_main_v311, val_main_v310, val_main_v309, val_main_v308, val_main_v307,
    val_main_v306, val_main_v305, val_main_v304, val_main_v303, val_main_v302, val_main_v301, val_main_v300,
    val_main_v299, val_main_v298, val_main_v297, val_main_v296, val_main_v295, val_main_v294, val_main_v293,
    val_main_v292, val_main_v291, val_main_v290, val_main_v289, val_main_v288, val_main_v287, val_main_v286,
    val_main_v285, val_main_v284, val_main_v283, val_main_v282, val_main_v281, val_main_v280, val_main_v279,
    val_main_v278, val_main_v277, val_main_v276, val_main_v275, val_main_v274, val_main_v273, val_main_v272,
    val_main_v271, val_main_v270, val_main_v269, val_main_v268, val_main_v267, val_main_v266, val_main_v265,
    val_main_v264, val_main_v263, val_main_v262, val_main_v261, val_main_v260, val_main_v259, val_main_v258,
    val_main_v257, val_main_v256, val_main_v255, val_main_v254, val_main_v253, val_main_v252, val_main_v251,
    val_main_v250, val_main_cst_6]
  have h0 := pad_lat x b t l 0 (by omega)
  simp only [Nat.zero_add] at h0
  rw [h0, pad_lat x b t l 1 (by omega), pad_lat x b t l 2 (by omega), pad_lat x b t l 3 (by omega),
    pad_lat x b t l 4 (by omega), pad_lat x b t l 5 (by omega), pad_lat x b t l 6 (by omega),
    pad_lat x b t l 7 (by omega), pad_lat x b t l 8 (by omega), pad_lat x b t l 9 (by omega),
    pad_lat x b t l 10 (by omega), pad_lat x b t l 11 (by omega), pad_lat x b t l 12 (by omega),
    pad_lat x b t l 13 (by omega), pad_lat x b t l 14 (by omega), pad_lat x b t l 15 (by omega),
    pad_lat x b t l 16 (by omega), pad_lat x b t l 17 (by omega), pad_lat x b t l 18 (by omega),
    pad_lat x b t l 19 (by omega), pad_lat x b t l 20 (by omega), pad_lat x b t l 21 (by omega),
    pad_lat x b t l 22 (by omega), pad_lat x b t l 23 (by omega), pad_lat x b t l 24 (by omega),
    pad_lat x b t l 25 (by omega), pad_lat x b t l 26 (by omega), pad_lat x b t l 27 (by omega),
    pad_lat x b t l 28 (by omega), pad_lat x b t l 29 (by omega), pad_lat x b t l 30 (by omega)]
  unfold taps
  rw [acc_eq]
  rfl

/-- A latent row. -/
theorem lat (x : FVec Ideal S16384x512 .f32) (w : FVec Ideal S31x512 .f32) (z g e : FVec Ideal S512 .f32) (b : Fin 2)
    (t : Fin 4096) (l : Fin 512) :
    val_main_v493 (F := Ideal) x w z g e (ix3 b t l) = G x w z g e ⟨8192 + (b.val * 4096 + t.val), by omega⟩ l := by
  have h : ∀ k, taps x w z ⟨8192 + (b.val * 4096 + t.val), by omega⟩ k = val_main_v470 (F := Ideal) x w z (ix3 b t k) :=
    fun k => (conv_lat x w z b t k).symm
  unfold G row layerNorm dev
  simp only [h]
  pointwise [val_main_v493, val_main_call3_v5, val_main_call3_cst_0, val_main_call3_v4, val_main_call3_v3, val_main_call3_cst,
    val_main_call3_v2, val_main_call3_v1, val_main_call3_v0, val_main_v492, val_main_v491, val_main_v490,
    val_main_v489, val_main_v488, val_main_v487, val_main_v486, val_main_v485, val_main_v484, val_main_v483,
    val_main_v482, val_main_v481, val_main_v480, val_main_v479, val_main_v478, val_main_v477, val_main_v476,
    val_main_v475, val_main_v474, val_main_v473, val_main_v472, val_main_v471, val_main_cst_7, val_main_cst_8,
    val_main_cst_9, val_main_cst_10, val_main_cst_11]

/-- The reference's result array is the same formula. -/
theorem array (x : FVec Ideal S16384x512 .f32) (w : FVec Ideal S31x512 .f32) (z g e : FVec Ideal S512 .f32) :
    val_main_v497 (F := Ideal) x w z g e = fun j => G x w z g e (j 0) (j 1) := by
  funext j
  idx_vars j
  pointwise [val_main_v497, val_main_v496, val_main_v495, val_main_v494]
  by_cases p : j0.val < 8192
  · rw [dif_pos p]
    simp only [ctx, show j0.val / 256 * 256 + j0.val % 256 = j0.val by omega]
  · rw [dif_neg p]
    simp only [lat, show 8192 + ((j0.val - 8192) / 4096 * 4096 + (j0.val - 8192) % 4096) = j0.val by omega]

end Cert.Reference13Ideal.ConvModule

end
-- ==== Proof.FiniteAngles.lean ====
/- What the precondition on the Fourier tables says. -/
module

public import proofs.«01_k».proof.Proof.Finite
public import proofs.«01_k».proof.Proof.Gen.Pre_finite_angles

@[expose] public section

noncomputable section

open Idealize.ShloMosaic

namespace Cert.Pre_finite_angles

/-- The side conditions of the predicate's operations. -/
theorem facts : Facts := Gen.facts

/-- What the precondition on the Fourier tables says: every angle is a real number. -/
theorem decode [Facts] (a b : FVec Ideal S64x4096 .f32) (h : fn (F := Ideal) a b = fun _ => 1#1) :
    (∃ r : S64x4096.Idx → ℝ, a = fun i => (r i : EReal)) ∧ ∃ r : S64x4096.Idx → ℝ, b = fun i => (r i : EReal) := by
  have e := congrFun h (fun k => k.elim0)
  unfold fn at e
  obtain ⟨e₁, e₂⟩ := IntOp.andi_eq_one.1 e
  exact ⟨Cert.Pre_finite_scores.reals a _ _ _ _ e₁, Cert.Pre_finite_scores.reals b _ _ _ _ e₂⟩

end Cert.Pre_finite_angles

end
-- ==== Proof.DftTables.lean ====
/- The Fourier tables: the kernel's result arrays after the run and the reference's, by the angle addition theorem. -/
module

public import proofs.«01_k».proof.Proof.Rows
public import proofs.«01_k».proof.Proof.FiniteAngles
public import proofs.«01_k».proof.Proof.Gen.Kernel14Ideal.Value
public import proofs.«01_k».proof.Proof.Gen.Reference14Ideal.Read

@[expose] public section

set_option maxRecDepth 16384

noncomputable section

open Idealize.ShloMosaic Idealize.ShloMosaic.TcCoe Idealize.SL.Sem Idealize.ShloMosaic.Tactic

namespace Cert.Kernel14Ideal.DftTables

open Cert.Kernel14Ideal Cert.Kernel14Ideal.Gen

variable (m : (ℓ : Loc nD τ sig) → Buf (Elt Ideal) ℓ)

/-- The windows' block indices at every grid point. -/
theorem idx : ∀ t : Fin cfg0.N, win0_0.index t = ![t.val, 0, 0] ∧ win0_1.index t = ![t.val, 0, 0]
    ∧ win0_2.index t = ![0, 0] ∧ win0_3.index t = ![0, 0] ∧ win0_4.index t = ![t.val, 0] ∧ win0_5.index t = ![t.val, 0] :=
  (by decide +kernel : ∀ t : Fin grid0.N, _)

/-- There are 64 grid points. -/
theorem points (t : Fin cfg0.N) : t.val < 64 := t.isLt

/-- The cosine of a sum from the cosines and sines of the two angles. -/
def cosSum (a b : EReal) : EReal := Ideal.cos a * Ideal.cos b - Ideal.sin a * Ideal.sin b

/-- The sine of a sum from the cosines and sines of the two angles. -/
def sinSum (a b : EReal) : EReal := Ideal.sin a * Ideal.cos b + Ideal.cos a * Ideal.sin b

/-- The cosines' block at an index. -/
theorem body4 (ac an : FVec Ideal S1x1x4096 .f32) (bc bs : FVec Ideal S64x4096 .f32) (r : Fin 64) (l : Fin 4096) :
    out0_4 (F := Ideal) ac an bc bs (ix2 r l) = ac (ix3 0 0 l) * bc (ix2 r l) - an (ix3 0 0 l) * bs (ix2 r l) := by
  unfold out0_4
  rw [View.canon_unit_zero (by decide), View.ld_unit_zero (by decide), View.ld_unit_zero (by decide), View.ld_unit_zero (by decide), View.ld_unit_zero (by decide)]
  pointwise! [k0_pay5, k0_pay1, k0_pay2, k0_pay3, k0_pay4]

/-- The sines' block at an index. -/
theorem body5 (ac an : FVec Ideal S1x1x4096 .f32) (bc bs : FVec Ideal S64x4096 .f32) (r : Fin 64) (l : Fin 4096) :
    out0_5 (F := Ideal) ac an bc bs (ix2 r l) = an (ix3 0 0 l) * bc (ix2 r l) + ac (ix3 0 0 l) * bs (ix2 r l) := by
  unfold out0_5
  rw [View.canon_unit_zero (by decide), View.ld_unit_zero (by decide), View.ld_unit_zero (by decide), View.ld_unit_zero (by decide), View.ld_unit_zero (by decide)]
  pointwise! [k0_pay6, k0_pay1, k0_pay2, k0_pay3, k0_pay4]

/-- The first angles' cosines at grid point `t`. -/
theorem cosA (c : Dev nD) (t : Fin cfg0.N) (l : Fin 4096) : iblk m c 0 t (ix3 0 0 l)
    = Ideal.cos (m ((c : Thread nD τ).loc main_arg0) (ix2 ⟨t.val, points t⟩ l)) := by
  have e : (win0_0.blk t).view.emb (ix3 0 0 l) = ix3 ⟨t.val, points t⟩ 0 l := by blk_ext! [idx t]
  simp only [iblk]
  blk_simp [V]
  rw [e]
  entry_read
  pointwise

/-- The first angles' sines at grid point `t`. -/
theorem sinA (c : Dev nD) (t : Fin cfg0.N) (l : Fin 4096) : iblk m c 1 t (ix3 0 0 l)
    = Ideal.sin (m ((c : Thread nD τ).loc main_arg0) (ix2 ⟨t.val, points t⟩ l)) := by
  have e : (win0_1.blk t).view.emb (ix3 0 0 l) = ix3 ⟨t.val, points t⟩ 0 l := by blk_ext! [idx t]
  simp only [iblk]
  blk_simp [V]
  rw [e]
  entry_read
  pointwise

/-- The second angles' cosines. -/
theorem cosB (c : Dev nD) (t : Fin cfg0.N) (r : Fin 64) (l : Fin 4096) : iblk m c 2 t (ix2 r l)
    = Ideal.cos (m ((c : Thread nD τ).loc main_arg1) (ix2 r l)) := by
  have e : (win0_2.blk t).view.emb (ix2 r l) = ix2 r l := by blk_ext! [idx t]
  simp only [iblk]
  blk_simp [V]
  rw [e]
  entry_read
  pointwise

/-- The second angles' sines. -/
theorem sinB (c : Dev nD) (t : Fin cfg0.N) (r : Fin 64) (l : Fin 4096) : iblk m c 3 t (ix2 r l)
    = Ideal.sin (m ((c : Thread nD τ).loc main_arg1) (ix2 r l)) := by
  have e : (win0_3.blk t).view.emb (ix2 r l) = ix2 r l := by blk_ext! [idx t]
  simp only [iblk]
  blk_simp [V]
  rw [e]
  entry_read
  pointwise

/-- A table whose row `64 a + b` takes row `a` of the first angles and row `b` of the second. -/
def table (f : EReal → EReal → EReal) (x y : FVec Ideal S64x4096 .f32) : FVec Ideal S4096x4096 .bf16 := fun j =>
  f (x (ix2 ⟨(j 0).val / 64, by have : (j 0).val < 4096 := (j 0).isLt; omega⟩ (j 1)))
    (y (ix2 ⟨(j 0).val % 64, by omega⟩ (j 1)))

/-- A table's row `64 a + b`. -/
theorem table_apply (f : EReal → EReal → EReal) (x y : FVec Ideal S64x4096 .f32) (a b : Fin 64) (l : Fin 4096) :
    table f x y (ix2 ⟨a.val * 64 + b.val, by omega⟩ l) = f (x (ix2 a l)) (y (ix2 b l)) := by
  have h1 : (a.val * 64 + b.val) / 64 = a.val := by omega
  have h2 : (a.val * 64 + b.val) % 64 = b.val := by omega
  show f (x (ix2 ⟨(a.val * 64 + b.val) / 64, _⟩ l)) (y (ix2 ⟨(a.val * 64 + b.val) % 64, _⟩ l)) = _
  simp only [h1, h2]

/-- The table of cosines as a function of the arguments. -/
def result4 (c : Dev nD) : FVec Ideal S4096x4096 .bf16 :=
  table cosSum (m ((c : Thread nD τ).loc main_arg0)) (m ((c : Thread nD τ).loc main_arg1))

/-- The table of sines as a function of the arguments. -/
def result5 (c : Dev nD) : FVec Ideal S4096x4096 .bf16 :=
  table sinSum (m ((c : Thread nD τ).loc main_arg0)) (m ((c : Thread nD τ).loc main_arg1))

/-- The cosines' block at grid point `t` is rows `64 t …` of the table. -/
theorem block4 (c : Dev nD) (t : Fin cfg0.N) (r : Fin 64) (l : Fin 4096) :
    out0_4 (F := Ideal) (iblk m c 0 t) (iblk m c 1 t) (iblk m c 2 t) (iblk m c 3 t) (ix2 r l)
      = result4 m c (((cfg0.win 4).blk t).view.emb (ix2 r l)) := by
  have ht := points t
  have e : ((cfg0.win 4).blk t).view.emb (ix2 r l) = (ix2 ⟨t.val * 64 + r.val, by omega⟩ l : S4096x4096.Idx) := by
    blk_ext! [idx t]
  rw [e, body4, cosA, sinA, cosB, sinB]
  exact (table_apply cosSum _ _ ⟨t.val, ht⟩ r l).symm

/-- The sines' block at grid point `t` is rows `64 t …` of the table. -/
theorem block5 (c : Dev nD) (t : Fin cfg0.N) (r : Fin 64) (l : Fin 4096) :
    out0_5 (F := Ideal) (iblk m c 0 t) (iblk m c 1 t) (iblk m c 2 t) (iblk m c 3 t) (ix2 r l)
      = result5 m c (((cfg0.win 5).blk t).view.emb (ix2 r l)) := by
  have ht := points t
  have e : ((cfg0.win 5).blk t).view.emb (ix2 r l) = (ix2 ⟨t.val * 64 + r.val, by omega⟩ l : S4096x4096.Idx) := by
    blk_ext! [idx t]
  rw [e, body5, cosA, sinA, cosB, sinB]
  exact (table_apply sinSum _ _ ⟨t.val, ht⟩ r l).symm

/-- The table of cosines after the run. -/
theorem final4 (c : Dev nD) : (dats m 0 c).arrAt 4 (cfgs 0).N = result4 m c := by
  refine (dats m 0 c).arrAt_eq_of_covers 4 _ (by decide +kernel) fun t _ y => ?_
  blk_simp
  rw [after0_4]
  have h := block4 m c t (y 0) (y 1)
  rw [show (ix2 (y 0) (y 1) : S64x4096.Idx) = y from by funext a; fin_cases a <;> rfl] at h
  exact h

/-- The table of sines after the run. -/
theorem final5 (c : Dev nD) : (dats m 0 c).arrAt 5 (cfgs 0).N = result5 m c := by
  refine (dats m 0 c).arrAt_eq_of_covers 5 _ (by decide +kernel) fun t _ y => ?_
  blk_simp
  rw [after0_5]
  have h := block5 m c t (y 0) (y 1)
  rw [show (ix2 (y 0) (y 1) : S64x4096.Idx) = y from by funext a; fin_cases a <;> rfl] at h
  exact h

/-- The angle addition theorem for the cosine of two real angles. -/
theorem cosSum_eq (a b : ℝ) : cosSum (a : EReal) (b : EReal) = Ideal.cos ((a : EReal) + (b : EReal)) := by
  show ((Real.cos a : ℝ) : EReal) * ((Real.cos b : ℝ) : EReal) - ((Real.sin a : ℝ) : EReal) * ((Real.sin b : ℝ) : EReal) = _
  rw [← EReal.coe_add, ← EReal.coe_mul, ← EReal.coe_mul, ← EReal.coe_sub, ← Real.cos_add]
  rfl

/-- The angle addition theorem for the sine of two real angles. -/
theorem sinSum_eq (a b : ℝ) : sinSum (a : EReal) (b : EReal) = Ideal.sin ((a : EReal) + (b : EReal)) := by
  show ((Real.sin a : ℝ) : EReal) * ((Real.cos b : ℝ) : EReal) + ((Real.cos a : ℝ) : EReal) * ((Real.sin b : ℝ) : EReal) = _
  rw [← EReal.coe_add, ← EReal.coe_mul, ← EReal.coe_mul, ← EReal.coe_add, ← Real.sin_add]
  rfl

end Cert.Kernel14Ideal.DftTables

namespace Cert.Reference14Ideal.DftTables

open Cert.Reference14Ideal Cert.Reference14Ideal.Read
open Cert.Kernel14Ideal.DftTables (table table_apply cosSum sinSum cosSum_eq sinSum_eq)

/-- The reference's angle in row `64 a + b`. -/
theorem angle (x y : FVec Ideal S64x4096 .f32) (a b : Fin 64) (l : Fin 4096) :
    val_main_v5 (F := Ideal) x y (ix2 ⟨a.val * 64 + b.val, by omega⟩ l) = x (ix2 a l) + y (ix2 b l) := by
  pointwise [val_main_v5, val_main_v4, val_main_v3, val_main_v2, val_main_v1, val_main_v0]

/-- Every row of the table is `64 a + b`. -/
theorem split (j : S4096x4096.Idx) : ∃ (a b : Fin 64) (l : Fin 4096), j = ix2 ⟨a.val * 64 + b.val, by omega⟩ l := by
  have h : (j 0).val < 4096 := (j 0).isLt
  refine ⟨⟨(j 0).val / 64, by omega⟩, ⟨(j 0).val % 64, by omega⟩, j 1, ?_⟩
  funext d; fin_cases d
  · exact Fin.ext (by show (j 0).val = (j 0).val / 64 * 64 + (j 0).val % 64; omega)
  · rfl

/-- The reference's table of cosines is the kernel's. -/
theorem array4 [Cert.Pre_finite_angles.Facts] (x y : FVec Ideal S64x4096 .f32)
    (h : Cert.Pre_finite_angles.fn (F := Ideal) x y = fun _ => 1#1) : val_main_v7 (F := Ideal) x y = table cosSum x y := by
  obtain ⟨⟨p, rfl⟩, q, rfl⟩ := Cert.Pre_finite_angles.decode x y h
  funext j
  obtain ⟨a, b, l, rfl⟩ := split j
  rw [table_apply, val_main_v7_apply, val_main_v6_apply, angle, cosSum_eq]
  rfl

/-- The reference's table of sines is the kernel's. -/
theorem array5 [Cert.Pre_finite_angles.Facts] (x y : FVec Ideal S64x4096 .f32)
    (h : Cert.Pre_finite_angles.fn (F := Ideal) x y = fun _ => 1#1) : val_main_v9 (F := Ideal) x y = table sinSum x y := by
  obtain ⟨⟨p, rfl⟩, q, rfl⟩ := Cert.Pre_finite_angles.decode x y h
  funext j
  obtain ⟨a, b, l, rfl⟩ := split j
  rw [table_apply, val_main_v9_apply, val_main_v8_apply, angle, sinSum_eq]
  rfl

end Cert.Reference14Ideal.DftTables

end
-- ==== Proof.lean ====
/- The certificate: that every program runs to its end, the attention's constant, and the value of each call. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Blocks
public import proofs.«01_k».proof.Proof.Plain
public import proofs.«01_k».proof.Proof.Finite
public import Idealize.ShloMosaic.Lib.Quiescent
public import Idealize.ShloMosaic.Adequacy
public import Idealize.ShloMosaic.Init
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Project
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.OddIn
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.EvenRef
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.ContextNorm
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.LatentNorm
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.CtxAttention
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.ProjectOdd
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.ShortConv
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Modulation
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.FourierCtx
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.FourierLat
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.ConvRef
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.DftTables

@[expose] public section

noncomputable section

namespace Cert.Proof

open Idealize.ShloMosaic Idealize.ShloMosaic.TcCoe Idealize.SL.Sem

/-- The frame of the attention kernel as it is. -/
theorem frame_p : Cert.quiescent_Kernel (hKernel := Cert.Kernel.Gen.facts) :=
  fun m ρ _ => Cert.Kernel.Gen.frame m ρ

/-- The frame of its idealized form. -/
theorem frame_pi : Cert.quiescent_KernelIdeal (hKernelIdeal := Cert.KernelIdeal.Gen.facts) :=
  fun m ρ _ => Cert.KernelIdeal.Gen.frame m ρ

/-- The frame of the reference. -/
theorem frame_ri : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's scale constant, named. -/
theorem preserves : Cert.preserves_Kernel_KernelIdeal :=
  IdealRules.named_const.statement Cert.KernelIdeal.κ "q_scale" .f32 0x3E38AA3B#32
    (((Real.sqrt 64)⁻¹ * (Real.log 2)⁻¹ : ℝ) : EReal) rfl

/-- The reference's array is the kernel's, where the queries, the keys and the cached keys are real. -/
theorem array (q : FVec Ideal Cert.KernelIdeal.S16384x512 .f32) (k v : FVec Ideal Cert.KernelIdeal.S16384x128 .f32)
    (ck cv : FVec Ideal Cert.KernelIdeal.S2x2x512x2x64 .f32)
    (h : @Cert.Pre_finite_scores.fn Cert.Pre_finite_scores.facts Ideal _ q k v ck cv = fun _ => 1#1) :
    Cert.ReferenceIdeal.Read.val_main_v30 (F := Ideal) q k v ck cv = fun j => Cert.KernelIdeal.Blocks.G q k v ck cv (j 0) (j 1) := by
  obtain ⟨⟨q, rfl⟩, ⟨k, rfl⟩, ⟨ck, rfl⟩⟩ := @Cert.Pre_finite_scores.decode Cert.Pre_finite_scores.facts _ _ _ _ _ h
  funext j
  have e := Cert.ReferenceIdeal.Plain.result_row q k v ck cv (j 0) (j 1)
  rw [show (ix2 (j 0) (j 1) : Cert.ReferenceIdeal.S8192x512.Idx) = j from by funext a; fin_cases a <;> rfl] at e
  exact e

/-- The value claim. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hagree
  refine ⟨fun c => Cert.KernelIdeal.Blocks.result m c, ?_, ?_⟩
  · exact (θ_run Cert.KernelIdeal.defs _ _).mono (fun _ h c => ⟨(h c).1.trans (Cert.KernelIdeal.Blocks.final m c), (h c).2⟩)
      (Cert.KernelIdeal.Value.run_blocks m g)
  · refine (θ_run Cert.ReferenceIdeal.defs _ _).mono (fun _ h c => ⟨(h c).1.trans ?_, (h c).2⟩)
      (Cert.ReferenceIdeal.Value.run (F := Ideal) m' g')
    obtain ⟨a0, a1, a2, a3, a4⟩ := hagree c
    rw [Cert.ReferenceIdeal.Read.val_main_v30_eq]
    show Cert.ReferenceIdeal.Read.val_main_v30 _ _ _ _ _ = _
    rw [a0, a1, a2, a3, a4]
    exact array _ _ _ _ _ (hpre c)

/-- The frame of the output projection. -/
theorem frame_p2 : Cert.quiescent_Kernel2 (hKernel2 := Cert.Kernel2.Gen.facts) := fun m ρ _ => Cert.Kernel2.Gen.frame m ρ

/-- The frame of its idealized form. -/
theorem frame_pi2 : Cert.quiescent_Kernel2Ideal (hKernel2Ideal := Cert.Kernel2Ideal.Gen.facts) := fun m ρ _ => Cert.Kernel2Ideal.Gen.frame m ρ

/-- The frame of its reference. -/
theorem frame_ri2 : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The value of the output projection. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Project.result m c, ?_, ?_⟩
  · exact (θ_run Cert.Kernel2Ideal.defs _ _).mono (fun _ h c => ⟨(h c).1.trans (Cert.Kernel2Ideal.Project.final m c), (h c).2⟩)
      (Cert.Kernel2Ideal.Value.run_blocks m g)
  · refine (θ_run Cert.Reference2Ideal.defs _ _).mono (fun _ h c => ⟨(h c).1.trans ?_, (h c).2⟩)
      (Cert.Reference2Ideal.Value.run (F := Ideal) m' g')
    obtain ⟨a0, a1, a2, a3, a4, a5⟩ := hagree c
    rw [Cert.Reference2Ideal.Read.val_main_v33_eq, a0, a1, a2, a3, a4, a5]
    exact Cert.Reference2Ideal.Project.array _ _ _ _ _ _

/-- The frame of the odd layers' input projection. -/
theorem frame_p3 : Cert.quiescent_Kernel3 (hKernel3 := Cert.Kernel3.Gen.facts) := fun m ρ _ => Cert.Kernel3.Gen.frame m ρ

/-- The frame of its idealized form. -/
theorem frame_pi3 : Cert.quiescent_Kernel3Ideal (hKernel3Ideal := Cert.Kernel3Ideal.Gen.facts) := fun m ρ _ => Cert.Kernel3Ideal.Gen.frame m ρ

/-- The frame of its reference. -/
theorem frame_ri3 : Cert.quiescent_Reference3Ideal (hReference3Ideal := Cert.Reference3Ideal.Gen.facts) :=
  fun m ρ _ => (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- The value of the odd layers' input projection. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.OddIn.result4 m c, fun c => Cert.Kernel3Ideal.OddIn.result5 m c, fun c => Cert.Kernel3Ideal.OddIn.result6 m c, ?_, ?_⟩
  · exact (θ_run Cert.Kernel3Ideal.defs _ _).mono (fun _ h c => ⟨(h c).1.trans (Cert.Kernel3Ideal.OddIn.final4 m c), (h c).2.1.trans (Cert.Kernel3Ideal.OddIn.final5 m c), (h c).2.2.1.trans (Cert.Kernel3Ideal.OddIn.final6 m c), (h c).2.2.2⟩)
      (Cert.Kernel3Ideal.Value.run_blocks m g)
  · refine (θ_run Cert.Reference3Ideal.defs _ _).mono (fun _ h c => ⟨(h c).1.trans ?_, (h c).2.1.trans ?_, (h c).2.2.1.trans ?_, (h c).2.2.2⟩)
      (Cert.Reference3Ideal.Value.run (F := Ideal) m' g')
    · obtain ⟨a0, a1, a2, a3⟩ := hagree c
      rw [Cert.Reference3Ideal.Read.val_main_v63_eq, a0, a1, a2, a3]
      exact Cert.Reference3Ideal.OddIn.array4 _ _ _ _
    · obtain ⟨a0, a1, a2, a3⟩ := hagree c
      rw [Cert.Reference3Ideal.Read.val_main_v60_eq, a0, a1, a2, a3]
      exact Cert.Reference3Ideal.OddIn.array5 _ _ _ _
    · obtain ⟨a0, a1, a2, a3⟩ := hagree c
      rw [Cert.Reference3Ideal.Read.val_main_v64_eq, a0, a1, a2, a3]
      exact Cert.Reference3Ideal.OddIn.array6 _ _ _ _

/-- The frame of the even layers' input projection. -/
theorem frame_p4 : Cert.quiescent_Kernel4 (hKernel4 := Cert.Kernel4.Gen.facts) := fun m ρ _ => Cert.Kernel4.Gen.frame m ρ

/-- The frame of its idealized form. -/
theorem frame_pi4 : Cert.quiescent_Kernel4Ideal (hKernel4Ideal := Cert.Kernel4Ideal.Gen.facts) := fun m ρ _ => Cert.Kernel4Ideal.Gen.frame m ρ

/-- The frame of its reference. -/
theorem frame_ri4 : Cert.quiescent_Reference4Ideal (hReference4Ideal := Cert.Reference4Ideal.Gen.facts) :=
  fun m ρ _ => (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

/-- The value of the even layers' input projection. -/
theorem algebraic4 : Cert.algebraic_Kernel4Ideal_Reference4Ideal_pre_finite_tokens (hKernel4Ideal := Cert.Kernel4Ideal.Gen.facts)
    (hReference4Ideal := Cert.Reference4Ideal.Gen.facts) (hPre_finite_tokens := Cert.Pre_finite_tokens.facts) := by
  intro m g m' g' hpre hagree
  refine ⟨fun c => Cert.Kernel4Ideal.EvenIn.result9 m c, fun c => Cert.Kernel4Ideal.EvenIn.result10 m c, fun c => Cert.Kernel4Ideal.EvenIn.result11 m c, fun c => Cert.Kernel4Ideal.EvenIn.result12 m c, ?_, ?_⟩
  · exact (θ_run Cert.Kernel4Ideal.defs _ _).mono (fun _ h c => ⟨(h c).1.trans (Cert.Kernel4Ideal.EvenIn.final9 m c), (h c).2.1.trans (Cert.Kernel4Ideal.EvenIn.final10 m c), (h c).2.2.1.trans (Cert.Kernel4Ideal.EvenIn.final11 m c), (h c).2.2.2.1.trans (Cert.Kernel4Ideal.EvenIn.final12 m c), (h c).2.2.2.2⟩)
      (Cert.Kernel4Ideal.Value.run_blocks m g)
  · refine (θ_run Cert.Reference4Ideal.defs _ _).mono (fun _ h c => ⟨(h c).1.trans ?_, (h c).2.1.trans ?_, (h c).2.2.1.trans ?_, (h c).2.2.2.1.trans ?_, (h c).2.2.2.2⟩)
      (Cert.Reference4Ideal.Value.run (F := Ideal) m' g')
    · obtain ⟨a0, a1, a2, a3, a4, a5, a6, a7⟩ := hagree c
      rw [Cert.Reference4Ideal.Read.val_main_v180_eq]
      show Cert.Reference4Ideal.Read.val_main_v180 (F := Ideal) (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) = _
      rw [a0, a1, a2, a3]
      exact Cert.Reference4Ideal.EvenIn.array9 _ _ _ _ _ _ _ _ (hpre c)
    · obtain ⟨a0, a1, a2, a3, a4, a5, a6, a7⟩ := hagree c
      rw [Cert.Reference4Ideal.Read.val_main_v183_eq]
      show Cert.Reference4Ideal.Read.val_main_v183 (F := Ideal) (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) (m' ((c.tc : Thread _ _).loc Cert.Reference4Ideal.main_arg4)) (m' ((c.tc : Thread _ _).loc Cert.Reference4Ideal.main_arg6)) (m' ((c.tc : Thread _ _).loc Cert.Reference4Ideal.main_arg7)) = _
      rw [a0, a1, a2, a3, a4, a6, a7]
      exact Cert.Reference4Ideal.EvenIn.array10 _ _ _ _ _ _ _ _ (hpre c)
    · obtain ⟨a0, a1, a2, a3, a4, a5, a6, a7⟩ := hagree c
      rw [Cert.Reference4Ideal.Read.val_main_v186_eq]
      show Cert.Reference4Ideal.Read.val_main_v186 (F := Ideal) (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) (m' ((c.tc : Thread _ _).loc Cert.Reference4Ideal.main_arg5)) (m' ((c.tc : Thread _ _).loc Cert.Reference4Ideal.main_arg6)) (m' ((c.tc : Thread _ _).loc Cert.Reference4Ideal.main_arg7)) = _
      rw [a0, a1, a2, a3, a5, a6, a7]
      exact Cert.Reference4Ideal.EvenIn.array11 _ _ _ _ _ _ _ _ (hpre c)
    · obtain ⟨a0, a1, a2, a3, a4, a5, a6, a7⟩ := hagree c
      rw [Cert.Reference4Ideal.Read.val_main_v189_eq]
      show Cert.Reference4Ideal.Read.val_main_v189 (F := Ideal) (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) = _
      rw [a0, a1, a2, a3]
      exact Cert.Reference4Ideal.EvenIn.array12 _ _ _ _ _ _ _ _ (hpre c)

/-- The frame of the context rows' last normalisation. -/
theorem frame_p5 : Cert.quiescent_Kernel5 (hKernel5 := Cert.Kernel5.Gen.facts) := fun m ρ _ => Cert.Kernel5.Gen.frame m ρ

/-- The frame of its idealized form. -/
theorem frame_pi5 : Cert.quiescent_Kernel5Ideal (hKernel5Ideal := Cert.Kernel5Ideal.Gen.facts) := fun m ρ _ => Cert.Kernel5Ideal.Gen.frame m ρ

/-- The frame of its reference. -/
theorem frame_ri5 : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The value of the context rows' last normalisation. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.ContextNorm.result m c, ?_, ?_⟩
  · exact (θ_run Cert.Kernel5Ideal.defs _ _).mono (fun _ h c => ⟨(h c).1.trans (Cert.Kernel5Ideal.ContextNorm.final m c), (h c).2⟩)
      (Cert.Kernel5Ideal.Value.run_blocks m g)
  · refine (θ_run Cert.Reference5Ideal.defs _ _).mono (fun _ h c => ⟨(h c).1.trans ?_, (h c).2⟩)
      (Cert.Reference5Ideal.Value.run (F := Ideal) m' g')
    obtain ⟨a0, a1⟩ := hagree c
    rw [Cert.Reference5Ideal.Read.val_main_v13_eq, a0, a1]
    exact Cert.Reference5Ideal.ContextNorm.array _ _

/-- The frame of the latent rows' last normalisation. -/
theorem frame_p6 : Cert.quiescent_Kernel6 (hKernel6 := Cert.Kernel6.Gen.facts) := fun m ρ _ => Cert.Kernel6.Gen.frame m ρ

/-- The frame of its idealized form. -/
theorem frame_pi6 : Cert.quiescent_Kernel6Ideal (hKernel6Ideal := Cert.Kernel6Ideal.Gen.facts) := fun m ρ _ => Cert.Kernel6Ideal.Gen.frame m ρ

/-- The frame of its reference. -/
theorem frame_ri6 : Cert.quiescent_Reference6Ideal (hReference6Ideal := Cert.Reference6Ideal.Gen.facts) :=
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The value of the latent rows' last normalisation. -/
theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.LatentNorm.result m c, ?_, ?_⟩
  · exact (θ_run Cert.Kernel6Ideal.defs _ _).mono (fun _ h c => ⟨(h c).1.trans (Cert.Kernel6Ideal.LatentNorm.final m c), (h c).2⟩)
      (Cert.Kernel6Ideal.Value.run_blocks m g)
  · refine (θ_run Cert.Reference6Ideal.defs _ _).mono (fun _ h c => ⟨(h c).1.trans ?_, (h c).2⟩)
      (Cert.Reference6Ideal.Value.run (F := Ideal) m' g')
    obtain ⟨a0, a1⟩ := hagree c
    rw [Cert.Reference6Ideal.Read.val_main_v13_eq, a0, a1]
    exact Cert.Reference6Ideal.LatentNorm.array _ _

/-- The frame of the context tokens' attention. -/
theorem frame_p7 : Cert.quiescent_Kernel7 (hKernel7 := Cert.Kernel7.Gen.facts) := fun m ρ _ => Cert.Kernel7.Gen.frame m ρ

/-- The frame of its idealized form. -/
theorem frame_pi7 : Cert.quiescent_Kernel7Ideal (hKernel7Ideal := Cert.Kernel7Ideal.Gen.facts) := fun m ρ _ => Cert.Kernel7Ideal.Gen.frame m ρ

/-- The frame of its reference. -/
theorem frame_ri7 : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Its scale constant, named. -/
theorem preserves7 : Cert.preserves_Kernel7_Kernel7Ideal :=
  IdealRules.named_const.statement Cert.Kernel7Ideal.κ "q_scale" .f32 0x3E38AA3B#32
    (((Real.sqrt 64)⁻¹ * (Real.log 2)⁻¹ : ℝ) : EReal) rfl

/-- The value of the context tokens' attention. -/
theorem algebraic7 : Cert.algebraic_Kernel7Ideal_Reference7Ideal_pre_finite_queries (hKernel7Ideal := Cert.Kernel7Ideal.Gen.facts)
    (hReference7Ideal := Cert.Reference7Ideal.Gen.facts) (hPre_finite_queries := Cert.Pre_finite_queries.facts) := by
  intro m g m' g' hpre hagree
  refine ⟨fun c => Cert.Kernel7Ideal.CtxAttention.result m c, ?_, ?_⟩
  · exact (θ_run Cert.Kernel7Ideal.defs _ _).mono (fun _ h c => ⟨(h c).1.trans (Cert.Kernel7Ideal.CtxAttention.final m c), (h c).2⟩)
      (Cert.Kernel7Ideal.Value.run_blocks m g)
  · refine (θ_run Cert.Reference7Ideal.defs _ _).mono (fun _ h c => ⟨(h c).1.trans ?_, (h c).2⟩)
      (Cert.Reference7Ideal.Value.run (F := Ideal) m' g')
    obtain ⟨a0, a1, a2⟩ := hagree c
    rw [Cert.Reference7Ideal.Read.val_main_v24_eq, a0, a1, a2]
    exact Cert.Reference7Ideal.CtxAttention.array _ _ _ (hpre c)

/-- The frame of the odd layers' output projection. -/
theorem frame_p8 : Cert.quiescent_Kernel8 (hKernel8 := Cert.Kernel8.Gen.facts) := fun m ρ _ => Cert.Kernel8.Gen.frame m ρ

/-- The frame of its idealized form. -/
theorem frame_pi8 : Cert.quiescent_Kernel8Ideal (hKernel8Ideal := Cert.Kernel8Ideal.Gen.facts) := fun m ρ _ => Cert.Kernel8Ideal.Gen.frame m ρ

/-- The frame of its reference. -/
theorem frame_ri8 : Cert.quiescent_Reference8Ideal (hReference8Ideal := Cert.Reference8Ideal.Gen.facts) :=
  fun m ρ _ => (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The value of the odd layers' output projection. -/
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Kernel8Ideal.ProjectOdd.result m c, ?_, ?_⟩
  · exact (θ_run Cert.Kernel8Ideal.defs _ _).mono (fun _ h c => ⟨(h c).1.trans (Cert.Kernel8Ideal.ProjectOdd.final m c), (h c).2⟩)
      (Cert.Kernel8Ideal.Value.run_blocks m g)
  · refine (θ_run Cert.Reference8Ideal.defs _ _).mono (fun _ h c => ⟨(h c).1.trans ?_, (h c).2⟩)
      (Cert.Reference8Ideal.Value.run (F := Ideal) m' g')
    obtain ⟨a0, a1, a2, a3, a4, a5⟩ := hagree c
    rw [Cert.Reference8Ideal.Read.val_main_v33_eq, a0, a1, a2, a3, a4, a5]
    exact Cert.Reference8Ideal.ProjectOdd.array _ _ _ _ _ _

/-- The frame of the short convolution. -/
theorem frame_p9 : Cert.quiescent_Kernel9 (hKernel9 := Cert.Kernel9.Gen.facts) := fun m ρ _ => Cert.Kernel9.Gen.frame m ρ

/-- The frame of its idealized form. -/
theorem frame_pi9 : Cert.quiescent_Kernel9Ideal (hKernel9Ideal := Cert.Kernel9Ideal.Gen.facts) := fun m ρ _ => Cert.Kernel9Ideal.Gen.frame m ρ

/-- The frame of its reference. -/
theorem frame_ri9 : Cert.quiescent_Reference9Ideal (hReference9Ideal := Cert.Reference9Ideal.Gen.facts) :=
  fun m ρ _ => (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The value of the short convolution. -/
theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Kernel9Ideal.ShortConv.result m c, ?_, ?_⟩
  · exact (θ_run Cert.Kernel9Ideal.defs _ _).mono (fun _ h c => ⟨(h c).1.trans (Cert.Kernel9Ideal.ShortConv.final m c), (h c).2⟩)
      (Cert.Kernel9Ideal.Value.run_blocks m g)
  · refine (θ_run Cert.Reference9Ideal.defs _ _).mono (fun _ h c => ⟨(h c).1.trans ?_, (h c).2⟩)
      (Cert.Reference9Ideal.Value.run (F := Ideal) m' g')
    obtain ⟨a0, a1, a2⟩ := hagree c
    rw [Cert.Reference9Ideal.Read.val_main_v59_eq, a0, a1, a2]
    exact Cert.Reference9Ideal.ShortConv.array _ _ _

/-- The frame of the modulation. -/
theorem frame_p10 : Cert.quiescent_Kernel10 (hKernel10 := Cert.Kernel10.Gen.facts) := fun m ρ _ => Cert.Kernel10.Gen.frame m ρ

/-- The frame of its idealized form. -/
theorem frame_pi10 : Cert.quiescent_Kernel10Ideal (hKernel10Ideal := Cert.Kernel10Ideal.Gen.facts) := fun m ρ _ => Cert.Kernel10Ideal.Gen.frame m ρ

/-- The frame of its reference. -/
theorem frame_ri10 : Cert.quiescent_Reference10Ideal (hReference10Ideal := Cert.Reference10Ideal.Gen.facts) :=
  fun m ρ _ => (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The value of the modulation. -/
theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Kernel10Ideal.Modulation.result m c, ?_, ?_⟩
  · exact (θ_run Cert.Kernel10Ideal.defs _ _).mono (fun _ h c => ⟨(h c).1.trans (Cert.Kernel10Ideal.Modulation.final m c), (h c).2⟩)
      (Cert.Kernel10Ideal.Value.run_blocks m g)
  · refine (θ_run Cert.Reference10Ideal.defs _ _).mono (fun _ h c => ⟨(h c).1.trans ?_, (h c).2⟩)
      (Cert.Reference10Ideal.Value.run (F := Ideal) m' g')
    obtain ⟨a0, a1, a2⟩ := hagree c
    rw [Cert.Reference10Ideal.Read.val_main_v40_eq, a0, a1, a2]
    exact Cert.Reference10Ideal.Modulation.array _ _ _

/-- The frame of the Fourier mixing of the context. -/
theorem frame_p11 : Cert.quiescent_Kernel11 (hKernel11 := Cert.Kernel11.Gen.facts) := fun m ρ _ => Cert.Kernel11.Gen.frame m ρ

/-- The frame of its idealized form. -/
theorem frame_pi11 : Cert.quiescent_Kernel11Ideal (hKernel11Ideal := Cert.Kernel11Ideal.Gen.facts) := fun m ρ _ => Cert.Kernel11Ideal.Gen.frame m ρ

/-- The frame of its reference. -/
theorem frame_ri11 : Cert.quiescent_Reference11Ideal (hReference11Ideal := Cert.Reference11Ideal.Gen.facts) :=
  fun m ρ _ => (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The value of the Fourier mixing of the context. -/
theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Kernel11Ideal.FourierCtx.result m c, ?_, ?_⟩
  · exact (θ_run Cert.Kernel11Ideal.defs _ _).mono (fun _ h c => ⟨(h c).1.trans (Cert.Kernel11Ideal.FourierCtx.final m c), (h c).2⟩)
      (Cert.Kernel11Ideal.Value.run_blocks m g)
  · refine (θ_run Cert.Reference11Ideal.defs _ _).mono (fun _ h c => ⟨(h c).1.trans ?_, (h c).2⟩)
      (Cert.Reference11Ideal.Value.run (F := Ideal) m' g')
    obtain ⟨a0, a1, a2, a3, a4⟩ := hagree c
    rw [Cert.Reference11Ideal.Read.val_main_v14_eq, a0, a1, a2, a3, a4]
    exact Cert.Reference11Ideal.FourierCtx.array _ _ _ _ _

/-- The frame of the Fourier mixing of the latents. -/
theorem frame_p12 : Cert.quiescent_Kernel12 (hKernel12 := Cert.Kernel12.Gen.facts) := fun m ρ _ => Cert.Kernel12.Gen.frame m ρ

/-- The frame of its idealized form. -/
theorem frame_pi12 : Cert.quiescent_Kernel12Ideal (hKernel12Ideal := Cert.Kernel12Ideal.Gen.facts) := fun m ρ _ => Cert.Kernel12Ideal.Gen.frame m ρ

/-- The frame of its reference. -/
theorem frame_ri12 : Cert.quiescent_Reference12Ideal (hReference12Ideal := Cert.Reference12Ideal.Gen.facts) :=
  fun m ρ _ => (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The value of the Fourier mixing of the latents. -/
theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Kernel12Ideal.FourierLat.result m c, ?_, ?_⟩
  · exact (θ_run Cert.Kernel12Ideal.defs _ _).mono (fun _ h c => ⟨(h c).1.trans (Cert.Kernel12Ideal.FourierLat.final m c), (h c).2⟩)
      (Cert.Kernel12Ideal.Value.run_blocks m g)
  · refine (θ_run Cert.Reference12Ideal.defs _ _).mono (fun _ h c => ⟨(h c).1.trans ?_, (h c).2⟩)
      (Cert.Reference12Ideal.Value.run (F := Ideal) m' g')
    obtain ⟨a0, a1, a2, a3, a4⟩ := hagree c
    rw [Cert.Reference12Ideal.Read.val_main_v14_eq, a0, a1, a2, a3, a4]
    exact Cert.Reference12Ideal.FourierLat.array _ _ _ _ _

/-- The frame of the convolution module. -/
theorem frame_p13 : Cert.quiescent_Kernel13 (hKernel13 := Cert.Kernel13.Gen.facts) := fun m ρ _ => Cert.Kernel13.Gen.frame m ρ

/-- The frame of its idealized form. -/
theorem frame_pi13 : Cert.quiescent_Kernel13Ideal (hKernel13Ideal := Cert.Kernel13Ideal.Gen.facts) := fun m ρ _ => Cert.Kernel13Ideal.Gen.frame m ρ

/-- The frame of its reference. -/
theorem frame_ri13 : Cert.quiescent_Reference13Ideal (hReference13Ideal := Cert.Reference13Ideal.Gen.facts) :=
  fun m ρ _ => (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The value of the convolution module. -/
theorem algebraic13 : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Kernel13Ideal.ConvModule.result m c, ?_, ?_⟩
  · exact (θ_run Cert.Kernel13Ideal.defs _ _).mono (fun _ h c => ⟨(h c).1.trans (Cert.Kernel13Ideal.ConvModule.final m c), (h c).2⟩)
      (Cert.Kernel13Ideal.Value.run_blocks m g)
  · refine (θ_run Cert.Reference13Ideal.defs _ _).mono (fun _ h c => ⟨(h c).1.trans ?_, (h c).2⟩)
      (Cert.Reference13Ideal.Value.run (F := Ideal) m' g')
    obtain ⟨a0, a1, a2, a3, a4⟩ := hagree c
    rw [Cert.Reference13Ideal.Read.val_main_v497_eq]
    show Cert.Reference13Ideal.Read.val_main_v497 (F := Ideal) (m' ((c.tc : Thread _ _).loc Cert.Reference13Ideal.main_arg0)) (m' ((c.tc : Thread _ _).loc Cert.Reference13Ideal.main_arg1)) (m' ((c.tc : Thread _ _).loc Cert.Reference13Ideal.main_arg2)) (m' ((c.tc : Thread _ _).loc Cert.Reference13Ideal.main_arg3)) (m' ((c.tc : Thread _ _).loc Cert.Reference13Ideal.main_arg4)) = _
    rw [a0, a1, a2, a3, a4]
    exact Cert.Reference13Ideal.ConvModule.array _ _ _ _ _

/-- The frame of the Fourier tables. -/
theorem frame_p14 : Cert.quiescent_Kernel14 (hKernel14 := Cert.Kernel14.Gen.facts) := fun m ρ _ => Cert.Kernel14.Gen.frame m ρ

/-- The frame of its idealized form. -/
theorem frame_pi14 : Cert.quiescent_Kernel14Ideal (hKernel14Ideal := Cert.Kernel14Ideal.Gen.facts) := fun m ρ _ => Cert.Kernel14Ideal.Gen.frame m ρ

/-- The frame of its reference. -/
theorem frame_ri14 : Cert.quiescent_Reference14Ideal (hReference14Ideal := Cert.Reference14Ideal.Gen.facts) :=
  fun m ρ _ => (θ_run Cert.Reference14Ideal.defs _ _).mono
    (fun r h => ⟨fun c => (h c).2.2, Idealize.ShloMosaic.sem_eq_zero_of_no_sems (by decide) r.2⟩)
    (Cert.Reference14Ideal.Value.run (F := Ideal) m ρ)

/-- The value of the Fourier tables. -/
theorem algebraic14 : Cert.algebraic_Kernel14Ideal_Reference14Ideal_pre_finite_angles (hKernel14Ideal := Cert.Kernel14Ideal.Gen.facts)
    (hReference14Ideal := Cert.Reference14Ideal.Gen.facts) (hPre_finite_angles := Cert.Pre_finite_angles.facts) := by
  intro m g m' g' hpre hagree
  refine ⟨fun c => Cert.Kernel14Ideal.DftTables.result4 m c, fun c => Cert.Kernel14Ideal.DftTables.result5 m c, ?_, ?_⟩
  · exact (θ_run Cert.Kernel14Ideal.defs _ _).mono (fun _ h c => ⟨(h c).1.trans (Cert.Kernel14Ideal.DftTables.final4 m c), (h c).2.1.trans (Cert.Kernel14Ideal.DftTables.final5 m c), (h c).2.2⟩)
      (Cert.Kernel14Ideal.Value.run_blocks m g)
  · refine (θ_run Cert.Reference14Ideal.defs _ _).mono (fun _ h c => ⟨(h c).1.trans ?_, (h c).2.1.trans ?_, (h c).2.2⟩)
      (Cert.Reference14Ideal.Value.run (F := Ideal) m' g')
    · obtain ⟨a0, a1⟩ := hagree c
      rw [Cert.Reference14Ideal.Read.val_main_v7_eq, a0, a1]
      exact Cert.Reference14Ideal.DftTables.array4 _ _ (hpre c)
    · obtain ⟨a0, a1⟩ := hagree c
      rw [Cert.Reference14Ideal.Read.val_main_v9_eq, a0, a1]
      exact Cert.Reference14Ideal.DftTables.array5 _ _ (hpre c)

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Pre_finite_scores.facts, Cert.Pre_finite_tokens.facts,
    Cert.Pre_finite_queries.facts, Cert.Pre_finite_angles.facts, frame_p, frame_pi, fun m g _ => frame_pi m g trivial,
    frame_ri, fun m g _ => frame_ri m g trivial, frame_p2, frame_pi2, frame_ri2, frame_p3, frame_pi3, frame_ri3,
    frame_p4, frame_pi4, fun m g _ => frame_pi4 m g trivial, frame_ri4, fun m g _ => frame_ri4 m g trivial, frame_p5,
    frame_pi5, frame_ri5, frame_p6, frame_pi6, frame_ri6, frame_p7, frame_pi7, fun m g _ => frame_pi7 m g trivial,
    frame_ri7, fun m g _ => frame_ri7 m g trivial, frame_p8, frame_pi8, frame_ri8, frame_p9, frame_pi9, frame_ri9,
    frame_p10, frame_pi10, frame_ri10, frame_p11, frame_pi11, frame_ri11, frame_p12, frame_pi12, frame_ri12,
    frame_p13, frame_pi13, frame_ri13, frame_p14, frame_pi14, fun m g _ => frame_pi14 m g trivial, frame_ri14, fun m g
    _ => frame_ri14 m g trivial, preserves, algebraic, trivial, algebraic2, trivial, algebraic3, trivial, algebraic4,
    trivial, algebraic5, trivial, algebraic6, preserves7, algebraic7, trivial, algebraic8, trivial, algebraic9,
    trivial, algebraic10, trivial, algebraic11, trivial, algebraic12, trivial, algebraic13, trivial, algebraic14⟩

end Cert.Proof

end
